-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v283) = v0 c
          ∧ r.2.mem ((c.tc : Thread Cert.Reference2Ideal.nD Cert.Reference2Ideal.τ).loc Cert.Reference2Ideal.main_v284) = v1 c
          ∧ r.2.mem ((c.tc : Thread Cert.Reference2Ideal.nD Cert.Reference2Ideal.τ).loc Cert.Reference2Ideal.main_v286) = v2 c
          ∧ r.2.mem ((c.tc : Thread Cert.Reference2Ideal.nD Cert.Reference2Ideal.τ).loc Cert.Reference2Ideal.main_v288) = v3 c
          ∧ r.2.mem ((c.tc : Thread Cert.Reference2Ideal.nD Cert.Reference2Ideal.τ).loc Cert.Reference2Ideal.main_v290) = v4 c
          ∧ r.2.mem ((c.tc : Thread Cert.Reference2Ideal.nD Cert.Reference2Ideal.τ).loc Cert.Reference2Ideal.main_v292) = v5 c
          ∧ r.2.mem ((c.tc : Thread Cert.Reference2Ideal.nD Cert.Reference2Ideal.τ).loc Cert.Reference2Ideal.main_v294) = v6 c
          ∧ r.2.mem ((c.tc : Thread Cert.Reference2Ideal.nD Cert.Reference2Ideal.τ).loc Cert.Reference2Ideal.main_v282) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x3600 : Shape := ⟨2, ![8192, 3600]⟩
abbrev S1x8192x1024 : Shape := ⟨3, ![1, 8192, 1024]⟩
abbrev S8192x1024 : Shape := ⟨2, ![8192, 1024]⟩
abbrev S1x6144 : Shape := ⟨2, ![1, 6144]⟩
abbrev S1x1024x3600 : Shape := ⟨3, ![1, 1024, 3600]⟩
abbrev S_ : Shape := ⟨0, ![]⟩

class Facts : Prop where
  bcast_S_S8192x3600 : S_.BroadcastsInDim S8192x3600 (![] : Fin 0 → Fin S8192x3600.rank)
  reducesTo_S8192x3600_S_d0_1 : S8192x3600.ReducesTo [0, 1] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024x3600 : S_.BroadcastsInDim S1x1024x3600 (![] : Fin 0 → Fin S1x1024x3600.rank)
  reducesTo_S1x1024x3600_S_d0_1_2 : S1x1024x3600.ReducesTo [0, 1, 2] S_

variable [Facts]

def fn_part1 {F : FTy → Type} [FloatOps F] (main_v13 : IVec S_ 1) (main_v16 : IVec S1x1024x3600 1) : IVec S_ 1 :=
  let main_c_5 : IVec S_ 1 := constantI S_ 1 1#1
  let main_v17 : IVec S_ 1 := (fun x v => Host.reduce IntOp.andi x v reducesTo_S1x1024x3600_S_d0_1_2 h_S_) main_v16 main_c_5
  let main_v18 : IVec S_ 1 := andi main_v13 main_v17
  main_v18

def fn {F : FTy → Type} [FloatOps F] (main_arg0 : FVec F S8192x3600 .f32) (main_arg1 : FVec F S1x8192x1024 .f32) (main_arg2 : FVec F S8192x1024 .f32) (main_arg3 : FVec F S1x6144 .f32) (main_arg4 : FVec F S1x1024x3600 .f32) : IVec S_ 1 :=
  let main_v0 : FVec F S8192x3600 .f32 := Host.absf main_arg0
  let main_cst : FVec F S_ .f32 := constant S_ .f32 0x7F800000#32
  let main_v1 : FVec F S8192x3600 .f32 := broadcastInDim S8192x3600 ![] bcast_S_S8192x3600 main_cst
  let main_v2 : IVec S8192x3600 1 := cmpf .olt main_v0 main_v1
  let main_c : IVec S_ 1 := constantI S_ 1 1#1
  let main_v3 : IVec S_ 1 := (fun x v => Host.reduce IntOp.andi x v reducesTo_S8192x3600_S_d0_1 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x6144 .f32 := Host.absf main_arg3
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x1024x3600 .f32 := Host.absf main_arg4
  let main_cst_4 : FVec F S_ .f32 := constant S_ .f32 0x7F800000#32
  let main_v15 : FVec F S1x1024x3600 .f32 := broadcastInDim S1x1024x3600 ![] bcast_S_S1x1024x3600 main_cst_4
  let main_v16 : IVec S1x1024x3600 1 := cmpf .olt main_v14 main_v15
  fn_part1 (F := F) main_v13 main_v16
-- ==== Pre_finite2.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part3 {F : FTy → Type} [FloatOps F] (main_v48 : IVec S_ 1) (main_v49 : FVec F S1x4096x1024 .f32) (main_v50 : FVec F S1x4096x1024 .f32) : IVec S_ 1 :=
  let main_v51 : IVec S1x4096x1024 1 := cmpf .olt main_v49 main_v50
  let main_c_19 : IVec S_ 1 := constantI S_ 1 1#1
  let main_v52 : IVec S_ 1 := (fun x v => Host.reduce IntOp.andi x v reducesTo_S1x4096x1024_S_d0_1_2 h_S_) main_v51 main_c_19
  let main_v53 : IVec S_ 1 := andi main_v48 main_v52
  main_v53

def fn_part2 {F : FTy → Type} [FloatOps F] (main_arg7 : FVec F S1x1024 .f32) (main_arg8 : FVec F S1x1024x1024 .f32) (main_arg9 : FVec F S1x1024x4096 .f32) (main_arg10 : FVec F S1x4096x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024x1024 .f32 := Host.absf main_arg8
  let main_cst_14 : FVec F S_ .f32 := constant S_ .f32 0x7F800000#32
  let main_v40 : FVec F S1x1024x1024 .f32 := broadcastInDim S1x1024x1024 ![] bcast_S_S1x1024x1024 main_cst_14
  let main_v41 : IVec S1x1024x1024 1 := cmpf .olt main_v39 main_v40
  let main_c_15 : IVec S_ 1 := constantI S_ 1 1#1
  let main_v42 : IVec S_ 1 := (fun x v => Host.reduce IntOp.andi x v reducesTo_S1x1024x1024_S_d0_1_2 h_S_) main_v41 main_c_15
  let main_v43 : IVec S_ 1 := andi main_v38 main_v42
  let main_v44 : FVec F S1x1024x4096 .f32 := Host.absf main_arg9
  let main_cst_16 : FVec F S_ .f32 := constant S_ .f32 0x7F800000#32
  let main_v45 : FVec F S1x1024x4096 .f32 := broadcastInDim S1x1024x4096 ![] bcast_S_S1x1024x4096 main_cst_16
  let main_v46 : IVec S1x1024x4096 1 := cmpf .olt main_v44 main_v45
  let main_c_17 : IVec S_ 1 := constantI S_ 1 1#1
  let main_v47 : IVec S_ 1 := (fun x v => Host.reduce IntOp.andi x v reducesTo_S1x1024x4096_S_d0_1_2 h_S_) main_v46 main_c_17
  let main_v48 : IVec S_ 1 := andi main_v43 main_v47
  let main_v49 : FVec F S1x4096x1024 .f32 := Host.absf main_arg10
  let main_cst_18 : FVec F S_ .f32 := constant S_ .f32 0x7F800000#32
  let main_v50 : FVec F S1x4096x1024 .f32 := broadcastInDim S1x4096x1024 ![] bcast_S_S1x4096x1024 main_cst_18
  fn_part3 (F := F) main_v48 main_v49 main_v50

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024x1024 .f32) (main_arg9 : FVec F S1x1024x4096 .f32) (main_arg10 : FVec F S1x4096x1024 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x8192x1024 .f32) (main_arg1 : FVec F S8192x1024 .f32) (main_arg2 : FVec F S1x8192x1024 .f32) (main_arg3 : FVec F S1x6144 .f32) (main_arg4 : FVec F S1x1024 .f32) (main_arg5 : FVec F S1x1024 .f32) (main_arg6 : FVec F S1x1024 .f32) (main_arg7 : FVec F S1x1024 .f32) (main_arg8 : FVec F S1x1024x1024 .f32) (main_arg9 : FVec F S1x1024x4096 .f32) (main_arg10 : FVec F S1x4096x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  let main_v14 : FVec F S1x6144 .f32 := Host.absf main_arg3
  let main_cst_4 : FVec F S_ .f32 := constant S_ .f32 0x7F800000#32
  let main_v15 : FVec F S1x6144 .f32 := broadcastInDim S1x6144 ![] bcast_S_S1x6144 main_cst_4
  let main_v16 : IVec S1x6144 1 := cmpf .olt main_v14 main_v15
  fn_part1 (F := F) main_arg4 main_arg5 main_arg6 main_arg7 main_arg8 main_arg9 main_arg10 main_v13 main_v16
-- ==== Kernel.lean ====
abbrev S8192x3600 : Shape := ⟨2, ![8192, 3600]⟩
abbrev S1x8192x1024 : Shape := ⟨3, ![1, 8192, 1024]⟩
abbrev S8192x1024 : Shape := ⟨2, ![8192, 1024]⟩
abbrev S1x6144 : Shape := ⟨2, ![1, 6144]⟩
abbrev S1x1024x3600 : Shape := ⟨3, ![1, 1024, 3600]⟩
abbrev S3600x1x1024 : Shape := ⟨3, ![3600, 1, 1024]⟩
abbrev S3600x1024 : Shape := ⟨2, ![3600, 1024]⟩
abbrev S2048x1024 : Shape := ⟨2, ![2048, 1024]⟩
abbrev S256x1024 : Shape := ⟨2, ![256, 1024]⟩
abbrev S_ : Shape := ⟨0, ![]⟩
abbrev S4x64x1024 : Shape := ⟨3, ![4, 64, 1024]⟩
abbrev S4x128x1024 : Shape := ⟨3, ![4, 128, 1024]⟩
abbrev S512x1024 : Shape := ⟨2, ![512, 1024]⟩
abbrev S1024x1024 : Shape := ⟨2, ![1024, 1024]⟩
abbrev S16x1024 : Shape := ⟨2, ![16, 1024]⟩
abbrev S128x1024 : Shape := ⟨2, ![128, 1024]⟩
abbrev S4224x1024 : Shape := ⟨2, ![4224, 1024]⟩
abbrev S8192x2048 : Shape := ⟨2, ![8192, 2048]⟩
abbrev S8192x256 : Shape := ⟨2, ![8192, 256]⟩
abbrev S8192x4x64 : Shape := ⟨3, ![8192, 4, 64]⟩
abbrev S8192x4x128 : Shape := ⟨3, ![8192, 4, 128]⟩
abbrev S8192x512 : Shape := ⟨2, ![8192, 512]⟩
abbrev S8192x16 : Shape := ⟨2, ![8192, 16]⟩
abbrev S8192x128 : Shape := ⟨2, ![8192, 128]⟩
abbrev S8192x4224 : Shape := ⟨2, ![8192, 4224]⟩
abbrev S8x1024 : Shape := ⟨2, ![8, 1024]⟩
abbrev S512x4224 : Shape := ⟨2, ![512, 4224]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 53
  | .vmem => 11
  | .smem => 0
  | _ => 0

abbrev bufTy : (tb : Table) → Fin (tcTables nBuf tb) → BufTy
  | .hbm, ⟨0, _⟩ => ⟨S8192x3600, .f32⟩
  | .hbm, ⟨1, _⟩ => ⟨S1x8192x1024, .f32⟩
  | .hbm, ⟨2, _⟩ => ⟨S8192x1024, .f32⟩
  | .hbm, ⟨3, _⟩ => ⟨S1x6144, .f32⟩
  | .hbm, ⟨4, _⟩ => ⟨S1x1024x3600, .f32⟩
  | .hbm, ⟨5, _⟩ => ⟨S1x1024x3600, .bf16⟩
  | .hbm, ⟨6, _⟩ => ⟨S3600x1x1024, .bf16⟩
  | .hbm, ⟨7, _⟩ => ⟨S3600x1024, .bf16⟩
  | .hbm, ⟨8, _⟩ => ⟨S2048x1024, .bf16⟩
  | .hbm, ⟨9, _⟩ => ⟨S256x1024, .bf16⟩
  | .hbm, ⟨10, _⟩ => ⟨S_, .bf16⟩
  | .hbm, ⟨11, _⟩ => ⟨S256x1024, .bf16⟩
  | .hbm, ⟨12, _⟩ => ⟨S256x1024, .bf16⟩
  | .hbm, ⟨13, _⟩ => ⟨S4x64x1024, .bf16⟩
  | .hbm, ⟨14, _⟩ => ⟨S_, .i32⟩
  | .hbm, ⟨15, _⟩ => ⟨S_, .bf16⟩
  | .hbm, ⟨16, _⟩ => ⟨S4x128x1024, .bf16⟩
  | .hbm, ⟨17, _⟩ => ⟨S512x1024, .bf16⟩
  | .hbm, ⟨18, _⟩ => ⟨S256x1024, .bf16⟩
  | .hbm, ⟨19, _⟩ => ⟨S4x64x1024, .bf16⟩
  | .hbm, ⟨20, _⟩ => ⟨S_, .i32⟩
  | .hbm, ⟨21, _⟩ => ⟨S_, .bf16⟩
  | .hbm, ⟨22, _⟩ => ⟨S4x128x1024, .bf16⟩
  | .hbm, ⟨23, _⟩ => ⟨S512x1024, .bf16⟩
  | .hbm, ⟨24, _⟩ => ⟨S1024x1024, .bf16⟩
  | .hbm, ⟨25, _⟩ => ⟨S16x1024, .bf16⟩
  | .hbm, ⟨26, _⟩ => ⟨S_, .i32⟩
  | .hbm, ⟨27, _⟩ => ⟨S_, .bf16⟩
  | .hbm, ⟨28, _⟩ => ⟨S128x1024, .bf16⟩
  | .hbm, ⟨29, _⟩ => ⟨S4224x1024, .bf16⟩
  | .hbm, ⟨30, _⟩ => ⟨S8192x2048, .f32⟩
  | .hbm, ⟨31, _⟩ => ⟨S8192x256, .f32⟩
  | .hbm, ⟨32, _⟩ => ⟨S8192x4x64, .f32⟩
  | .hbm, ⟨33, _⟩ => ⟨S_, .i32⟩
  | .hbm, ⟨34, _⟩ => ⟨S_, .f32⟩
  | .hbm, ⟨35, _⟩ => ⟨S8192x4x128, .f32⟩
  | .hbm, ⟨36, _⟩ => ⟨S8192x512, .f32⟩
  | .hbm, ⟨37, _⟩ => ⟨S8192x256, .f32⟩
  | .hbm, ⟨38, _⟩ => ⟨S8192x4x64, .f32⟩
  | .hbm, ⟨39, _⟩ => ⟨S_, .i32⟩
  | .hbm, ⟨40, _⟩ => ⟨S_, .f32⟩
  | .hbm, ⟨41, _⟩ => ⟨S8192x4x128, .f32⟩
  | .hbm, ⟨42, _⟩ => ⟨S8192x512, .f32⟩
  | .hbm, ⟨43, _⟩ => ⟨S8192x1024, .f32⟩
  | .hbm, ⟨44, _⟩ => ⟨S8192x16, .f32⟩
  | .hbm, ⟨45, _⟩ => ⟨S_, .i32⟩
  | .hbm, ⟨46, _⟩ => ⟨S_, .f32⟩
  | .hbm, ⟨47, _⟩ => ⟨S8192x128, .f32⟩
  | .hbm, ⟨48, _⟩ => ⟨S8192x4224, .f32⟩
  | .hbm, ⟨49, _⟩ => ⟨S8192x4224, .bf16⟩
  | .hbm, ⟨50, _⟩ => ⟨S8192x1024, .f32⟩
  | .hbm, ⟨51, _⟩ => ⟨S8192x1024, .f32⟩
  | .hbm, ⟨52, _⟩ => ⟨S8x1024, .f32⟩
  | .local _ .vmem, ⟨0, _⟩ => ⟨S512x4224, .bf16⟩
  | .local _ .vmem, ⟨1, _⟩ => ⟨S512x4224, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x6144, .f32⟩
  | .local _ .vmem, ⟨7, _⟩ => ⟨S4224x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_call2_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_call3_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_call4_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_call5_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4224x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x3600 : Shape := ⟨2, ![8192, 3600]⟩
abbrev S1x8192x1024 : Shape := ⟨3, ![1, 8192, 1024]⟩
abbrev S8192x1024 : Shape := ⟨2, ![8192, 1024]⟩
abbrev S1x6144 : Shape := ⟨2, ![1, 6144]⟩
abbrev S1x1024x3600 : Shape := ⟨3, ![1, 1024, 3600]⟩
abbrev S1x1024 : Shape := ⟨2, ![1, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3600 : Shape := ⟨2, ![1024, 3600]⟩
abbrev S1x8192x3600 : Shape := ⟨3, ![1, 8192, 3600]⟩
abbrev S1x8192x256 : Shape := ⟨3, ![1, 8192, 256]⟩
abbrev S1x8192x2048 : Shape := ⟨3, ![1, 8192, 2048]⟩
abbrev S1x8192x1296 : Shape := ⟨3, ![1, 8192, 1296]⟩
abbrev S1024 : Shape := ⟨1, ![1024]⟩
abbrev S8192 : Shape := ⟨1, ![8192]⟩
abbrev S6x1024 : Shape := ⟨2, ![6, 1024]⟩
abbrev S8x1024 : Shape := ⟨2, ![8, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x3600, .f32⟩
  | .hbm, ⟨1, _⟩ => ⟨S1x8192x1024, .f32⟩
  | .hbm, ⟨2, _⟩ => ⟨S8192x1024, .f32⟩
  | .hbm, ⟨3, _⟩ => ⟨S1x6144, .f32⟩
  | .hbm, ⟨4, _⟩ => ⟨S1x1024x3600, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x1, .f32⟩
  | .hbm, ⟨32, _⟩ => ⟨S_, .f32⟩
  | .hbm, ⟨33, _⟩ => ⟨S1x8192x1, .f32⟩
  | .hbm, ⟨34, _⟩ => ⟨S1x8192x1, .f32⟩
  | .hbm, ⟨35, _⟩ => ⟨S1x8192x1024, .f32⟩
  | .hbm, ⟨36, _⟩ => ⟨S1x8192x1024, .f32⟩
  | .hbm, ⟨37, _⟩ => ⟨S1x1x1024, .f32⟩
  | .hbm, ⟨38, _⟩ => ⟨S_, .f32⟩
  | .hbm, ⟨39, _⟩ => ⟨S1x1x1024, .f32⟩
  | .hbm, ⟨40, _⟩ => ⟨S1x1x1024, .f32⟩
  | .hbm, ⟨41, _⟩ => ⟨S1x8192x1024, .f32⟩
  | .hbm, ⟨42, _⟩ => ⟨S1x8192x1024, .f32⟩
  | .hbm, ⟨43, _⟩ => ⟨S1x1x1024, .f32⟩
  | .hbm, ⟨44, _⟩ => ⟨S1x8192x1024, .f32⟩
  | .hbm, ⟨45, _⟩ => ⟨S1x8192x1024, .f32⟩
  | .hbm, ⟨46, _⟩ => ⟨S1024x3600, .f32⟩
  | .hbm, ⟨47, _⟩ => ⟨S1x8192x3600, .f32⟩
  | .hbm, ⟨48, _⟩ => ⟨S1x8192x256, .f32⟩
  | .hbm, ⟨49, _⟩ => ⟨S_, .f32⟩
  | .hbm, ⟨50, _⟩ => ⟨S1x8192x256, .f32⟩
  | .hbm, ⟨51, _⟩ => ⟨S1x8192x256, .f32⟩
  | .hbm, ⟨52, _⟩ => ⟨S1x8192x2048, .f32⟩
  | .hbm, ⟨53, _⟩ => ⟨S1x8192x1296, .f32⟩
  | .hbm, ⟨54, _⟩ => ⟨S1x8192x3600, .f32⟩
  | .hbm, ⟨55, _⟩ => ⟨S1x8192x3600, .f32⟩
  | .hbm, ⟨56, _⟩ => ⟨S1x8192x2048, .f32⟩
  | .hbm, ⟨57, _⟩ => ⟨S1x8192x256, .f32⟩
  | .hbm, ⟨58, _⟩ => ⟨S1x8192x1296, .f32⟩
  | .hbm, ⟨59, _⟩ => ⟨S_, .f32⟩
  | .hbm, ⟨60, _⟩ => ⟨S1x8192x3600, .f32⟩
  | .hbm, ⟨61, _⟩ => ⟨S_, .f32⟩
  | .hbm, ⟨62, _⟩ => ⟨S1x8192x3600, .f32⟩
  | .hbm, ⟨63, _⟩ => ⟨S1x8192x3600, .f32⟩
  | .hbm, ⟨64, _⟩ => ⟨S_, .f32⟩
  | .hbm, ⟨65, _⟩ => ⟨S1x8192x256, .f32⟩
  | .hbm, ⟨66, _⟩ => ⟨S1x8192x256, .f32⟩
  | .hbm, ⟨67, _⟩ => ⟨S_, .f32⟩
  | .hbm, ⟨68, _⟩ => ⟨S1x8192x3600, .f32⟩
  | .hbm, ⟨69, _⟩ => ⟨S1x8192x3600, .f32⟩
  | .hbm, ⟨70, _⟩ => ⟨S1x8192x1024, .f32⟩
  | .hbm, ⟨71, _⟩ => ⟨S_, .f32⟩
  | .hbm, ⟨72, _⟩ => ⟨S1x1024, .f32⟩
  | .hbm, ⟨73, _⟩ => ⟨S1x1x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S1x8192x1024, .f32⟩
  | .hbm, ⟨78, _⟩ => ⟨S_, .f32⟩
  | .hbm, ⟨79, _⟩ => ⟨S1x1024, .f32⟩
  | .hbm, ⟨80, _⟩ => ⟨S1x1x1024, .f32⟩
  | .hbm, ⟨81, _⟩ => ⟨S1x8192x1024, .f32⟩
  | .hbm, ⟨82, _⟩ => ⟨S1x8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S1x8192x1024, .f32⟩
  | .hbm, ⟨87, _⟩ => ⟨S_, .f32⟩
  | .hbm, ⟨88, _⟩ => ⟨S1x8192, .f32⟩
  | .hbm, ⟨89, _⟩ => ⟨S1x8192x1, .f32⟩
  | .hbm, ⟨90, _⟩ => ⟨S1x8192x1024, .f32⟩
  | .hbm, ⟨91, _⟩ => ⟨S1x8192x1024, .f32⟩
  | .hbm, ⟨92, _⟩ => ⟨S1x8192x1, .f32⟩
  | .hbm, ⟨93, _⟩ => ⟨S1x8192x1024, .f32⟩
  | .hbm, ⟨94, _⟩ => ⟨S_, .f32⟩
  | .hbm, ⟨95, _⟩ => ⟨S1x8192, .f32⟩
  | .hbm, ⟨96, _⟩ => ⟨S1x8192x1, .f32⟩
  | .hbm, ⟨97, _⟩ => ⟨S_, .f32⟩
  | .hbm, ⟨98, _⟩ => ⟨S1x8192x1, .f32⟩
  | .hbm, ⟨99, _⟩ => ⟨S1x8192x1, .f32⟩
  | .hbm, ⟨100, _⟩ => ⟨S_, .f32⟩
  | .hbm, ⟨101, _⟩ => ⟨S8192, .f32⟩
  | .hbm, ⟨102, _⟩ => ⟨S1x8192, .f32⟩
  | .hbm, ⟨103, _⟩ => ⟨S1x8192x1024, .f32⟩
  | .hbm, ⟨104, _⟩ => ⟨S1x8192x1024, .f32⟩
  | .hbm, ⟨105, _⟩ => ⟨S1x8192x1024, .f32⟩
  | .hbm, ⟨106, _⟩ => ⟨S_, .f32⟩
  | .hbm, ⟨107, _⟩ => ⟨S1x8192, .f32⟩
  | .hbm, ⟨108, _⟩ => ⟨S1x8192x1, .f32⟩
  | .hbm, ⟨109, _⟩ => ⟨S1x8192x1024, .f32⟩
  | .hbm, ⟨110, _⟩ => ⟨S1x8192x1, .f32⟩
  | .hbm, ⟨111, _⟩ => ⟨S_, .f32⟩
  | .hbm, ⟨112, _⟩ => ⟨S1x8192x1, .f32⟩
  | .hbm, ⟨113, _⟩ => ⟨S1x8192x1, .f32⟩
  | .hbm, ⟨114, _⟩ => ⟨S_, .f32⟩
  | .hbm, ⟨115, _⟩ => ⟨S8192, .f32⟩
  | .hbm, ⟨116, _⟩ => ⟨S1x8192, .f32⟩
  | .hbm, ⟨117, _⟩ => ⟨S1x8192x1024, .f32⟩
  | .hbm, ⟨118, _⟩ => ⟨S1x8192x1024, .f32⟩
  | .hbm, ⟨119, _⟩ => ⟨S8192x1024, .f32⟩
  | .hbm, ⟨120, _⟩ => ⟨S8192x1024, .f32⟩
  | .hbm, ⟨121, _⟩ => ⟨S_, .f32⟩
  | .hbm, ⟨122, _⟩ => ⟨S6x1024, .f32⟩
  | .hbm, ⟨123, _⟩ => ⟨S8x1024, .f32⟩
  | _, _ => ⟨S8192x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_cst_18 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_20 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_23 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== Kernel2.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S4x1024 : Shape := ⟨2, ![4, 1024]⟩
abbrev S1024x4096 : Shape := ⟨2, ![1024, 4096]⟩
abbrev S4096x1024 : Shape := ⟨2, ![4096, 1024]⟩
abbrev S1024x1024 : Shape := ⟨2, ![1024, 1024]⟩
abbrev S4x1024x1024 : Shape := ⟨3, ![4, 1024, 1024]⟩
abbrev S8192x4096 : Shape := ⟨2, ![8192, 4096]⟩
abbrev S16x1024 : Shape := ⟨2, ![16, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 39
  | .vmem => 27
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S1x8192x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024x4096, .f32⟩
  | .hbm, ⟨10, _⟩ => ⟨S1x4096x1024, .f32⟩
  | .hbm, ⟨11, _⟩ => ⟨S4x1024, .f32⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024x1024, .bf16⟩
  | .hbm, ⟨21, _⟩ => ⟨S1x1024x1024, .bf16⟩
  | .hbm, ⟨22, _⟩ => ⟨S1x1024x1024, .bf16⟩
  | .hbm, ⟨23, _⟩ => ⟨S1x1024x1024, .bf16⟩
  | .hbm, ⟨24, _⟩ => ⟨S4x1024x1024, .bf16⟩
  | .hbm, ⟨25, _⟩ => ⟨S4x1024x1024, .bf16⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S1024x1024, .f32⟩
  | .hbm, ⟨30, _⟩ => ⟨S1024x1024, .bf16⟩
  | .hbm, ⟨31, _⟩ => ⟨S8192x1024, .f32⟩
  | .hbm, ⟨32, _⟩ => ⟨S8192x1024, .f32⟩
  | .hbm, ⟨33, _⟩ => ⟨S8192x4096, .bf16⟩
  | .hbm, ⟨34, _⟩ => ⟨S8192x4096, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x6144, .f32⟩
  | .local _ .vmem, ⟨7, _⟩ => ⟨S4x1024, .f32⟩
  | .local _ .vmem, ⟨8, _⟩ => ⟨S1024x1024, .bf16⟩
  | .local _ .vmem, ⟨9, _⟩ => ⟨S4x1024x1024, .bf16⟩
  | .local _ .vmem, ⟨10, _⟩ => ⟨S4x1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S16x1024, .f32⟩
  | .local _ .vmem, ⟨26, _⟩ => ⟨S256x4096, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S1x8192x4096 : Shape := ⟨3, ![1, 8192, 4096]⟩
abbrev S1024x1024 : Shape := ⟨2, ![1024, 1024]⟩
abbrev S1x1x1024 : Shape := ⟨3, ![1, 1, 1024]⟩
abbrev S1x8192 : Shape := ⟨2, ![1, 8192]⟩
abbrev S1x8192x1 : Shape := ⟨3, ![1, 8192, 1]⟩
abbrev S1024 : Shape := ⟨1, ![1024]⟩
abbrev S1024x4096 : Shape := ⟨2, ![1024, 4096]⟩
abbrev S4096x1024 : Shape := ⟨2, ![4096, 1024]⟩
abbrev S8192 : Shape := ⟨1, ![8192]⟩
abbrev S7x1024 : Shape := ⟨2, ![7, 1024]⟩
abbrev S16x1024 : Shape := ⟨2, ![16, 1024]⟩
abbrev S8192x4096 : Shape := ⟨2, ![8192, 4096]⟩

abbrev nBuf : Space → Nat
  | .hbm => 388
  | .vmem => 0
  | .smem => 0
  | _ => 0

abbrev hbmTy0_0 (i : Nat) : BufTy := match i % 128 with
  | 0 => ⟨S1x8192x1024, .f32⟩
  | 1 => ⟨S8192x1024, .f32⟩
  | 2 => ⟨S1x8192x1024, .f32⟩
  | 3 => ⟨S1x6144, .f32⟩
  | 4 => ⟨S1x1024, .f32⟩
  | 5 => ⟨S1x1024, .f32⟩
  | 6 => ⟨S1x1024, .f32⟩
  | 7 => ⟨S1x1024, .f32⟩
  | 8 => ⟨S1x1024x1024, .f32⟩
  | 9 => ⟨S1x1024x4096, .f32⟩
  | 10 => ⟨S1x4096x1024, .f32⟩
  | 11 => ⟨S1x1024, .f32⟩
  | 12 => ⟨S1x1024, .f32⟩
  | 13 => ⟨S1x1024, .f32⟩
  | 14 => ⟨S1x1024, .f32⟩
  | 15 => ⟨S1x8192x1024, .f32⟩
  | 16 => ⟨S_, .f32⟩
  | 17 => ⟨S1x8192x1024, .f32⟩
  | 18 => ⟨S_, .f32⟩
  | 19 => ⟨S1x8192x4096, .f32⟩
  | 20 => ⟨S_, .f32⟩
  | 21 => ⟨S1x8192x1024, .f32⟩
  | 22 => ⟨S1024x1024, .f32⟩
  | 23 => ⟨S1x8192x1024, .f32⟩
  | 24 => ⟨S1x8192x1024, .f32⟩
  | 25 => ⟨S_, .f32⟩
  | 26 => ⟨S1x8192x1024, .f32⟩
  | 27 => ⟨S1x8192x1024, .f32⟩
  | 28 => ⟨S1x1x1024, .f32⟩
  | 29 => ⟨S1x8192x1024, .f32⟩
  | 30 => ⟨S1x8192x1024, .f32⟩
  | 31 => ⟨S1x8192x1024, .f32⟩
  | 32 => ⟨S_, .f32⟩
  | 33 => ⟨S1x8192, .f32⟩
  | 34 => ⟨S1x8192x1, .f32⟩
  | 35 => ⟨S_, .f32⟩
  | 36 => ⟨S1x8192x1, .f32⟩
  | 37 => ⟨S1x8192x1, .f32⟩
  | 38 => ⟨S1x8192x1024, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S_, .f32⟩
  | 45 => ⟨S1x8192, .f32⟩
  | 46 => ⟨S1x8192x1, .f32⟩
  | 47 => ⟨S_, .f32⟩
  | 48 => ⟨S1x8192x1, .f32⟩
  | 49 => ⟨S1x8192x1, .f32⟩
  | 50 => ⟨S1x8192x1024, .f32⟩
  | 51 => ⟨S1x8192x1024, .f32⟩
  | 52 => ⟨S_, .f32⟩
  | 53 => ⟨S1x8192x1, .f32⟩
  | 54 => ⟨S1x8192x1, .f32⟩
  | 55 => ⟨S1x8192x1, .f32⟩
  | 56 => ⟨S1x8192x1, .f32⟩
  | 57 => ⟨S_, .f32⟩
  | 58 => ⟨S1x8192x1, .f32⟩
  | 59 => ⟨S1x8192x1, .f32⟩
  | 60 => ⟨S1x8192x1024, .f32⟩
  | 61 => ⟨S1x8192x1024, .f32⟩
  | 62 => ⟨S1024, .f32⟩
  | 63 => ⟨S1x1x1024, .f32⟩
  | 64 => ⟨S1x8192x1024, .f32⟩
  | 65 => ⟨S1x8192x1024, .f32⟩
  | 66 => ⟨S1024, .f32⟩
  | 67 => ⟨S1x1x1024, .f32⟩
  | 68 => ⟨S1x8192x1024, .f32⟩
  | 69 => ⟨S1x8192x1024, .f32⟩
  | 70 => ⟨S_, .f32⟩
  | 71 => ⟨S1x8192, .f32⟩
  | 72 => ⟨S1x8192x1, .f32⟩
  | 73 => ⟨S_, .f32⟩
  | 74 => ⟨S1x8192x1, .f32⟩
  | 75 => ⟨S1x8192x1, .f32⟩
  | 76 => ⟨S1x8192x1024, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S_, .f32⟩
  | 83 => ⟨S1x8192, .f32⟩
  | 84 => ⟨S1x8192x1, .f32⟩
  | 85 => ⟨S_, .f32⟩
  | 86 => ⟨S1x8192x1, .f32⟩
  | 87 => ⟨S1x8192x1, .f32⟩
  | 88 => ⟨S1x8192x1024, .f32⟩
  | 89 => ⟨S1x8192x1024, .f32⟩
  | 90 => ⟨S_, .f32⟩
  | 91 => ⟨S1x8192x1, .f32⟩
  | 92 => ⟨S1x8192x1, .f32⟩
  | 93 => ⟨S1x8192x1, .f32⟩
  | 94 => ⟨S1x8192x1, .f32⟩
  | 95 => ⟨S_, .f32⟩
  | 96 => ⟨S1x8192x1, .f32⟩
  | 97 => ⟨S1x8192x1, .f32⟩
  | 98 => ⟨S1x8192x1024, .f32⟩
  | 99 => ⟨S1x8192x1024, .f32⟩
  | 100 => ⟨S1x1x1024, .f32⟩
  | 101 => ⟨S_, .f32⟩
  | 102 => ⟨S1x1x1024, .f32⟩
  | 103 => ⟨S1x1x1024, .f32⟩
  | 104 => ⟨S1x8192x1024, .f32⟩
  | 105 => ⟨S1x8192x1024, .f32⟩
  | 106 => ⟨S1x1x1024, .f32⟩
  | 107 => ⟨S1x8192x1024, .f32⟩
  | 108 => ⟨S1x8192x1024, .f32⟩
  | 109 => ⟨S1024x4096, .f32⟩
  | 110 => ⟨S1x8192x4096, .f32⟩
  | 111 => ⟨S1x8192x4096, .f32⟩
  | 112 => ⟨S_, .f32⟩
  | 113 => ⟨S1x8192x4096, .f32⟩
  | 114 => ⟨S1x8192x4096, .f32⟩
  | 115 => ⟨S_, .f32⟩
  | 116 => ⟨S1x8192x4096, .f32⟩
  | 117 => ⟨S1x8192x4096, .i1⟩
  | 118 => ⟨S_, .f32⟩
  | 119 => ⟨S1x8192x4096, .f32⟩
  | 120 => ⟨S1x8192x4096, .f32⟩
  | 121 => ⟨S_, .f32⟩
  | 122 => ⟨S1x8192x4096, .f32⟩
  | 123 => ⟨S1x8192x4096, .f32⟩
  | 124 => ⟨S4096x1024, .f32⟩
  | 125 => ⟨S1x8192x1024, .f32⟩
  | 126 => ⟨S1x8192x1024, .f32⟩
  | 127 => ⟨S_, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x1x1024, .f32⟩
  | 3 => ⟨S1x8192x1024, .f32⟩
  | 4 => ⟨S1x8192x1024, .f32⟩
  | 5 => ⟨S1x8192x1024, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S1x8192x1024, .f32⟩
  | 13 => ⟨S1x8192x1024, .f32⟩
  | 14 => ⟨S1x8192x1024, .f32⟩
  | 15 => ⟨S_, .f32⟩
  | 16 => ⟨S1x8192x1024, .f32⟩
  | 17 => ⟨S1x8192x1024, .f32⟩
  | 18 => ⟨S_, .f32⟩
  | 19 => ⟨S1x8192, .f32⟩
  | 20 => ⟨S1x8192x1, .f32⟩
  | 21 => ⟨S_, .f32⟩
  | 22 => ⟨S1x8192x1, .f32⟩
  | 23 => ⟨S1x8192x1, .f32⟩
  | 24 => ⟨S1x8192x1024, .f32⟩
  | 25 => ⟨S1x8192x1024, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x1024, .f32⟩
  | 35 => ⟨S1x8192x1024, .f32⟩
  | 36 => ⟨S1024, .f32⟩
  | 37 => ⟨S1x1x1024, .f32⟩
  | 38 => ⟨S1x8192x1024, .f32⟩
  | 39 => ⟨S1x8192x1024, .f32⟩
  | 40 => ⟨S1024, .f32⟩
  | 41 => ⟨S1x1x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S_, .f32⟩
  | 50 => ⟨S1x8192, .f32⟩
  | 51 => ⟨S_, .f32⟩
  | 52 => ⟨S1x8192, .f32⟩
  | 53 => ⟨S1x8192, .f32⟩
  | 54 => ⟨S_, .f32⟩
  | 55 => ⟨S_, .f32⟩
  | 56 => ⟨S_, .f32⟩
  | 57 => ⟨S_, .f32⟩
  | 58 => ⟨S_, .f32⟩
  | 59 => ⟨S1x1024, .f32⟩
  | 60 => ⟨S_, .f32⟩
  | 61 => ⟨S_, .f32⟩
  | 62 => ⟨S_, .f32⟩
  | 63 => ⟨S1x8192, .f32⟩
  | 64 => ⟨S_, .f32⟩
  | 65 => ⟨S1x8192, .f32⟩
  | 66 => ⟨S1x8192, .f32⟩
  | 67 => ⟨S1x8192x1024, .f32⟩
  | 68 => ⟨S1x8192x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x1024, .f32⟩
  | 75 => ⟨S1x8192x1024, .f32⟩
  | 76 => ⟨S_, .f32⟩
  | 77 => ⟨S1x1024, .f32⟩
  | 78 => ⟨S1x1x1024, .f32⟩
  | 79 => ⟨S1x8192x1024, .f32⟩
  | 80 => ⟨S1x8192x1024, .f32⟩
  | 81 => ⟨S_, .f32⟩
  | 82 => ⟨S1024, .f32⟩
  | 83 => ⟨S1x1024, .f32⟩
  | 84 => ⟨S1x8192x1024, .f32⟩
  | 85 => ⟨S_, .f32⟩
  | 86 => ⟨S1x8192, .f32⟩
  | 87 => ⟨S1x8192x1, .f32⟩
  | 88 => ⟨S1x8192x1024, .f32⟩
  | 89 => ⟨S1x8192x1024, .f32⟩
  | 90 => ⟨S1x8192x1, .f32⟩
  | 91 => ⟨S1x8192x1024, .f32⟩
  | 92 => ⟨S_, .f32⟩
  | 93 => ⟨S1x8192, .f32⟩
  | 94 => ⟨S1x8192x1, .f32⟩
  | 95 => ⟨S_, .f32⟩
  | 96 => ⟨S1x8192x1, .f32⟩
  | 97 => ⟨S1x8192x1, .f32⟩
  | 98 => ⟨S_, .f32⟩
  | 99 => ⟨S8192, .f32⟩
  | 100 => ⟨S1x8192, .f32⟩
  | 101 => ⟨S1x8192x1024, .f32⟩
  | 102 => ⟨S1x8192x1024, .f32⟩
  | 103 => ⟨S1x8192x1024, .f32⟩
  | 104 => ⟨S_, .f32⟩
  | 105 => ⟨S1x8192, .f32⟩
  | 106 => ⟨S1x8192x1, .f32⟩
  | 107 => ⟨S1x8192x1024, .f32⟩
  | 108 => ⟨S1x8192x1, .f32⟩
  | 109 => ⟨S_, .f32⟩
  | 110 => ⟨S1x8192x1, .f32⟩
  | 111 => ⟨S1x8192x1, .f32⟩
  | 112 => ⟨S_, .f32⟩
  | 113 => ⟨S8192, .f32⟩
  | 114 => ⟨S1x8192, .f32⟩
  | 115 => ⟨S1x8192x1024, .f32⟩
  | 116 => ⟨S1x8192x1024, .f32⟩
  | 117 => ⟨S1x8192x1024, .f32⟩
  | 118 => ⟨S1x8192x1024, .f32⟩
  | 119 => ⟨S1x8192x1024, .f32⟩
  | 120 => ⟨S_, .f32⟩
  | 121 => ⟨S1x1024, .f32⟩
  | 122 => ⟨S1x1x1024, .f32⟩
  | 123 => ⟨S_, .f32⟩
  | 124 => ⟨S1024, .f32⟩
  | 125 => ⟨S1x1024, .f32⟩
  | 126 => ⟨S_, .f32⟩
  | 127 => ⟨S1x8192x1024, .f32⟩
  | _ => ⟨S1x8192x1024, .f32⟩

abbrev hbmTy0_2 (i : Nat) : BufTy := match i % 128 with
  | 0 => ⟨S1x8192x1024, .f32⟩
  | 1 => ⟨S1x8192x4096, .f32⟩
  | 2 => ⟨S1x8192x4096, .f32⟩
  | 3 => ⟨S_, .f32⟩
  | 4 => ⟨S1x8192x4096, .f32⟩
  | 5 => ⟨S1x8192x4096, .f32⟩
  | 6 => ⟨S1x8192x1024, .f32⟩
  | 7 => ⟨S_, .f32⟩
  | 8 => ⟨S1x1024, .f32⟩
  | 9 => ⟨S1x1x1024, .f32⟩
  | 10 => ⟨S_, .f32⟩
  | 11 => ⟨S1024, .f32⟩
  | 12 => ⟨S1x1024, .f32⟩
  | 13 => ⟨S1x8192x1024, .f32⟩
  | 14 => ⟨S_, .f32⟩
  | 15 => ⟨S1x1024, .f32⟩
  | 16 => ⟨S1x1x1024, .f32⟩
  | 17 => ⟨S1x8192x1024, .f32⟩
  | 18 => ⟨S1x8192x1024, .f32⟩
  | 19 => ⟨S_, .f32⟩
  | 20 => ⟨S1024, .f32⟩
  | 21 => ⟨S1x1024, .f32⟩
  | 22 => ⟨S1x8192x1024, .f32⟩
  | 23 => ⟨S_, .f32⟩
  | 24 => ⟨S1x8192, .f32⟩
  | 25 => ⟨S1x8192x1, .f32⟩
  | 26 => ⟨S1x8192x1024, .f32⟩
  | 27 => ⟨S1x8192x1024, .f32⟩
  | 28 => ⟨S1x8192x1, .f32⟩
  | 29 => ⟨S1x8192x1024, .f32⟩
  | 30 => ⟨S_, .f32⟩
  | 31 => ⟨S1x8192, .f32⟩
  | 32 => ⟨S1x8192x1, .f32⟩
  | 33 => ⟨S1x8192x1024, .f32⟩
  | 34 => ⟨S_, .f32⟩
  | 35 => ⟨S1x8192x1, .f32⟩
  | 36 => ⟨S1x8192x1, .f32⟩
  | 37 => ⟨S_, .f32⟩
  | 38 => ⟨S8192, .f32⟩
  | 39 => ⟨S1x8192, .f32⟩
  | 40 => ⟨S1x8192x1024, .f32⟩
  | 41 => ⟨S1x8192x1024, .f32⟩
  | 42 => ⟨S1x8192x1024, .f32⟩
  | 43 => ⟨S_, .f32⟩
  | 44 => ⟨S1x8192, .f32⟩
  | 45 => ⟨S1x8192x1, .f32⟩
  | 46 => ⟨S1x8192x1024, .f32⟩
  | 47 => ⟨S1x8192x1, .f32⟩
  | 48 => ⟨S_, .f32⟩
  | 49 => ⟨S1x8192x1, .f32⟩
  | 50 => ⟨S1x8192x1, .f32⟩
  | 51 => ⟨S_, .f32⟩
  | 52 => ⟨S8192, .f32⟩
  | 53 => ⟨S1x8192, .f32⟩
  | 54 => ⟨S1x8192x1024, .f32⟩
  | 55 => ⟨S1x8192x1024, .f32⟩
  | 56 => ⟨S_, .f32⟩
  | 57 => ⟨S1x1024, .f32⟩
  | 58 => ⟨S1x1x1024, .f32⟩
  | 59 => ⟨S_, .f32⟩
  | 60 => ⟨S1024, .f32⟩
  | 61 => ⟨S1x1024, .f32⟩
  | 62 => ⟨S1x8192x1024, .f32⟩
  | 63 => ⟨S_, .f32⟩
  | 64 => ⟨S1x1024, .f32⟩
  | 65 => ⟨S1x1x1024, .f32⟩
  | 66 => ⟨S1x8192x1024, .f32⟩
  | 67 => ⟨S1x8192x1024, .f32⟩
  | 68 => ⟨S_, .f32⟩
  | 69 => ⟨S1024, .f32⟩
  | 70 => ⟨S1x1024, .f32⟩
  | 71 => ⟨S1x8192x1024, .f32⟩
  | 72 => ⟨S_, .f32⟩
  | 73 => ⟨S1x8192, .f32⟩
  | 74 => ⟨S1x8192x1, .f32⟩
  | 75 => ⟨S1x8192x1024, .f32⟩
  | 76 => ⟨S1x8192x1024, .f32⟩
  | 77 => ⟨S1x8192x1, .f32⟩
  | 78 => ⟨S1x8192x1024, .f32⟩
  | 79 => ⟨S_, .f32⟩
  | 80 => ⟨S1x8192, .f32⟩
  | 81 => ⟨S1x8192x1, .f32⟩
  | 82 => ⟨S_, .f32⟩
  | 83 => ⟨S1x8192x1, .f32⟩
  | 84 => ⟨S1x8192x1, .f32⟩
  | 85 => ⟨S_, .f32⟩
  | 86 => ⟨S8192, .f32⟩
  | 87 => ⟨S1x8192, .f32⟩
  | 88 => ⟨S1x8192x1024, .f32⟩
  | 89 => ⟨S1x8192x1024, .f32⟩
  | 90 => ⟨S1x8192x1024, .f32⟩
  | 91 => ⟨S_, .f32⟩
  | 92 => ⟨S1x8192, .f32⟩
  | 93 => ⟨S1x8192x1, .f32⟩
  | 94 => ⟨S1x8192x1024, .f32⟩
  | 95 => ⟨S1x8192x1, .f32⟩
  | 96 => ⟨S_, .f32⟩
  | 97 => ⟨S1x8192x1, .f32⟩
  | 98 => ⟨S1x8192x1, .f32⟩
  | 99 => ⟨S_, .f32⟩
  | 100 => ⟨S8192, .f32⟩
  | 101 => ⟨S1x8192, .f32⟩
  | 102 => ⟨S1x8192x1024, .f32⟩
  | 103 => ⟨S1x8192x1024, .f32⟩
  | 104 => ⟨S1x8192x1024, .f32⟩
  | 105 => ⟨S1x8192x1024, .f32⟩
  | 106 => ⟨S1x8192x1024, .f32⟩
  | 107 => ⟨S_, .f32⟩
  | 108 => ⟨S1x1024, .f32⟩
  | 109 => ⟨S1x1x1024, .f32⟩
  | 110 => ⟨S_, .f32⟩
  | 111 => ⟨S1024, .f32⟩
  | 112 => ⟨S1x1024, .f32⟩
  | 113 => ⟨S_, .f32⟩
  | 114 => ⟨S1x8192x1024, .f32⟩
  | 115 => ⟨S1x8192x1024, .f32⟩
  | 116 => ⟨S1x8192x1024, .f32⟩
  | 117 => ⟨S_, .f32⟩
  | 118 => ⟨S7x1024, .f32⟩
  | 119 => ⟨S16x1024, .f32⟩
  | 120 => ⟨S8192x1024, .f32⟩
  | 121 => ⟨S8192x1024, .f32⟩
  | 122 => ⟨S8192x4096, .f32⟩
  | 123 => ⟨S8192x4096, .bf16⟩
  | 124 => ⟨S8192x4096, .f32⟩
  | 125 => ⟨S8192x4096, .bf16⟩
  | 126 => ⟨S8192x1024, .f32⟩
  | 127 => ⟨S8192x1024, .bf16⟩
  | _ => ⟨S1x8192x1024, .f32⟩

abbrev hbmTy0_3 (i : Nat) : BufTy := match i % 128 with
  | 0 => ⟨S8192x1024, .f32⟩
  | 1 => ⟨S8192x1024, .bf16⟩
  | 2 => ⟨S8192x1024, .f32⟩
  | 3 => ⟨S8192x1024, .bf16⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call0_cst : Ref sig .tc := ⟨.hbm, 112, rfl⟩
abbrev main_call0_v0 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_cst_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_24 : Ref sig .tc := ⟨.hbm, 143, rfl⟩
abbrev main_v105 : Ref sig .tc := ⟨.hbm, 144, rfl⟩
abbrev main_v106 : Ref sig .tc := ⟨.hbm, 145, rfl⟩
abbrev main_cst_25 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_27 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_28 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_29 : Ref sig .tc := ⟨.hbm, 174, rfl⟩
abbrev main_v131 : Ref sig .tc := ⟨.hbm, 175, rfl⟩
abbrev main_v132 : Ref sig .tc := ⟨.hbm, 176, rfl⟩
abbrev main_cst_30 : Ref sig .tc := ⟨.hbm, 177, rfl⟩
abbrev main_v133 : Ref sig .tc := ⟨.hbm, 178, rfl⟩
abbrev main_cst_31 : Ref sig .tc := ⟨.hbm, 179, rfl⟩
abbrev main_v134 : Ref sig .tc := ⟨.hbm, 180, rfl⟩
abbrev main_v135 : Ref sig .tc := ⟨.hbm, 181, rfl⟩
abbrev main_cst_32 : Ref sig .tc := ⟨.hbm, 182, rfl⟩
abbrev main_v136 : Ref sig .tc := ⟨.hbm, 183, rfl⟩
abbrev main_cst_33 : Ref sig .tc := ⟨.hbm, 184, rfl⟩
abbrev main_v137 : Ref sig .tc := ⟨.hbm, 185, rfl⟩
abbrev main_cst_34 : Ref sig .tc := ⟨.hbm, 186, rfl⟩
abbrev main_v138 : Ref sig .tc := ⟨.hbm, 187, rfl⟩
abbrev main_cst_35 : Ref sig .tc := ⟨.hbm, 188, rfl⟩
abbrev main_cst_36 : Ref sig .tc := ⟨.hbm, 189, rfl⟩
abbrev main_v139 : Ref sig .tc := ⟨.hbm, 190, rfl⟩
abbrev main_v140 : Ref sig .tc := ⟨.hbm, 191, rfl⟩
abbrev main_cst_37 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_38 : Ref sig .tc := ⟨.hbm, 197, rfl⟩
abbrev main_v145 : Ref sig .tc := ⟨.hbm, 198, rfl⟩
abbrev main_v146 : Ref sig .tc := ⟨.hbm, 199, rfl⟩
abbrev main_cst_39 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_40 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_41 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_42 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_43 : Ref sig .tc := ⟨.hbm, 220, rfl⟩
abbrev main_v163 : Ref sig .tc := ⟨.hbm, 221, rfl⟩
abbrev main_v164 : Ref sig .tc := ⟨.hbm, 222, rfl⟩
abbrev main_cst_44 : Ref sig .tc := ⟨.hbm, 223, rfl⟩
abbrev main_v165 : Ref sig .tc := ⟨.hbm, 224, rfl⟩
abbrev main_v166 : Ref sig .tc := ⟨.hbm, 225, rfl⟩
abbrev main_cst_45 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_46 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_47 : Ref sig .tc := ⟨.hbm, 237, rfl⟩
abbrev main_v176 : Ref sig .tc := ⟨.hbm, 238, rfl⟩
abbrev main_v177 : Ref sig .tc := ⟨.hbm, 239, rfl⟩
abbrev main_cst_48 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_49 : Ref sig .tc := ⟨.hbm, 248, rfl⟩
abbrev main_v185 : Ref sig .tc := ⟨.hbm, 249, rfl⟩
abbrev main_v186 : Ref sig .tc := ⟨.hbm, 250, rfl⟩
abbrev main_cst_50 : Ref sig .tc := ⟨.hbm, 251, rfl⟩
abbrev main_v187 : Ref sig .tc := ⟨.hbm, 252, rfl⟩
abbrev main_v188 : Ref sig .tc := ⟨.hbm, 253, rfl⟩
abbrev main_cst_51 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_52 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_53 : Ref sig .tc := ⟨.hbm, 263, rfl⟩
abbrev main_v196 : Ref sig .tc := ⟨.hbm, 264, rfl⟩
abbrev main_v197 : Ref sig .tc := ⟨.hbm, 265, rfl⟩
abbrev main_cst_54 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_cst_55 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_cst_56 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_57 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_58 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_cst_59 : Ref sig .tc := ⟨.hbm, 290, rfl⟩
abbrev main_v217 : Ref sig .tc := ⟨.hbm, 291, rfl⟩
abbrev main_v218 : Ref sig .tc := ⟨.hbm, 292, rfl⟩
abbrev main_cst_60 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_cst_61 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_cst_62 : Ref sig .tc := ⟨.hbm, 304, rfl⟩
abbrev main_v228 : Ref sig .tc := ⟨.hbm, 305, rfl⟩
abbrev main_v229 : Ref sig .tc := ⟨.hbm, 306, rfl⟩
abbrev main_cst_63 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_cst_64 : Ref sig .tc := ⟨.hbm, 312, rfl⟩
abbrev main_v234 : Ref sig .tc := ⟨.hbm, 313, rfl⟩
abbrev main_v235 : Ref sig .tc := ⟨.hbm, 314, rfl⟩
abbrev main_cst_65 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_cst_66 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_cst_67 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_cst_68 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_69 : Ref sig .tc := ⟨.hbm, 335, rfl⟩
abbrev main_v252 : Ref sig .tc := ⟨.hbm, 336, rfl⟩
abbrev main_v253 : Ref sig .tc := ⟨.hbm, 337, rfl⟩
abbrev main_cst_70 : Ref sig .tc := ⟨.hbm, 338, rfl⟩
abbrev main_v254 : Ref sig .tc := ⟨.hbm, 339, rfl⟩
abbrev main_v255 : Ref sig .tc := ⟨.hbm, 340, rfl⟩
abbrev main_cst_71 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_cst_72 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_cst_73 : Ref sig .tc := ⟨.hbm, 352, rfl⟩
abbrev main_v265 : Ref sig .tc := ⟨.hbm, 353, rfl⟩
abbrev main_v266 : Ref sig .tc := ⟨.hbm, 354, rfl⟩
abbrev main_cst_74 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_75 : Ref sig .tc := ⟨.hbm, 363, rfl⟩
abbrev main_v274 : Ref sig .tc := ⟨.hbm, 364, rfl⟩
abbrev main_v275 : Ref sig .tc := ⟨.hbm, 365, rfl⟩
abbrev main_cst_76 : Ref sig .tc := ⟨.hbm, 366, rfl⟩
abbrev main_v276 : Ref sig .tc := ⟨.hbm, 367, rfl⟩
abbrev main_v277 : Ref sig .tc := ⟨.hbm, 368, rfl⟩
abbrev main_cst_77 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_cst_78 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩

abbrev nD : Nat := 1
abbrev τ : Topo := Topo.v7x

variable {F : FTy → Type} [FloatOps F]
-- ==== Kernel3.lean ====
abbrev S8x1024 : Shape := ⟨2, ![8, 1024]⟩
abbrev S8x1536 : Shape := ⟨2, ![8, 1536]⟩
abbrev S1x1024x1536 : Shape := ⟨3, ![1, 1024, 1536]⟩
abbrev S1024x8 : Shape := ⟨2, ![1024, 8]⟩
abbrev S1024x1536 : Shape := ⟨2, ![1024, 1536]⟩
abbrev S8x512 : Shape := ⟨2, ![8, 512]⟩
abbrev S1024x512 : Shape := ⟨2, ![1024, 512]⟩
abbrev S1024x1 : Shape := ⟨2, ![1024, 1]⟩
abbrev S1x512 : Shape := ⟨2, ![1, 512]⟩

abbrev nBuf : Space → Nat
  | .hbm => 13
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1536, .f32⟩
  | .local _ .vmem, ⟨0, _⟩ => ⟨S1024x8, .f32⟩
  | .local _ .vmem, ⟨1, _⟩ => ⟨S8x512, .f32⟩
  | .local _ .vmem, ⟨2, _⟩ => ⟨S8x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x1024 : Shape := ⟨2, ![8, 1024]⟩
abbrev S8x1536 : Shape := ⟨2, ![8, 1536]⟩
abbrev S1x1024x1536 : Shape := ⟨3, ![1, 1024, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S_, .f32⟩
  | .hbm, ⟨23, _⟩ => ⟨S1x1024x1536, .f32⟩
  | .hbm, ⟨24, _⟩ => ⟨S1x1024x1536, .f32⟩
  | .hbm, ⟨25, _⟩ => ⟨S1x1024x1536, .f32⟩
  | .hbm, ⟨26, _⟩ => ⟨S_, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | .hbm, ⟨37, _⟩ => ⟨S_, .f32⟩
  | .hbm, ⟨38, _⟩ => ⟨S1x1024x1536, .f32⟩
  | .hbm, ⟨39, _⟩ => ⟨S1x1024x1536, .f32⟩
  | .hbm, ⟨40, _⟩ => ⟨S1x1024x1536, .f32⟩
  | .hbm, ⟨41, _⟩ => ⟨S_, .f32⟩
  | .hbm, ⟨42, _⟩ => ⟨S1x1024x1536, .f32⟩
  | .hbm, ⟨43, _⟩ => ⟨S1x1024x1536, .f32⟩
  | .hbm, ⟨44, _⟩ => ⟨S1x1024x1536, .f32⟩
  | .hbm, ⟨45, _⟩ => ⟨S_, .f32⟩
  | .hbm, ⟨46, _⟩ => ⟨S1x1024x1536, .f32⟩
  | .hbm, ⟨47, _⟩ => ⟨S1x1024x1536, .f32⟩
  | .hbm, ⟨48, _⟩ => ⟨S1x1024x1536, .f32⟩
  | .hbm, ⟨49, _⟩ => ⟨S_, .f32⟩
  | .hbm, ⟨50, _⟩ => ⟨S1x1024x1536, .f32⟩
  | .hbm, ⟨51, _⟩ => ⟨S1x1024x1536, .f32⟩
  | .hbm, ⟨52, _⟩ => ⟨S1024x1536, .f32⟩
  | .hbm, ⟨53, _⟩ => ⟨S1024x1536, .f32⟩
  | .hbm, ⟨54, _⟩ => ⟨S1024x1536, .f32⟩
  | .hbm, ⟨55, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x6144 : Shape := ⟨2, ![1, 6144]⟩
abbrev S1x1024x3600 : Shape := ⟨3, ![1, 1024, 3600]⟩
abbrev S3600x1x1024 : Shape := ⟨3, ![3600, 1, 1024]⟩
abbrev S3600x1024 : Shape := ⟨2, ![3600, 1024]⟩
abbrev S2048x1024 : Shape := ⟨2, ![2048, 1024]⟩
abbrev S256x1024 : Shape := ⟨2, ![256, 1024]⟩
abbrev S_ : Shape := ⟨0, ![]⟩
abbrev S4x64x1024 : Shape := ⟨3, ![4, 64, 1024]⟩
abbrev S4x128x1024 : Shape := ⟨3, ![4, 128, 1024]⟩
abbrev S512x1024 : Shape := ⟨2, ![512, 1024]⟩
abbrev S1024x1024 : Shape := ⟨2, ![1024, 1024]⟩
abbrev S16x1024 : Shape := ⟨2, ![16, 1024]⟩
abbrev S128x1024 : Shape := ⟨2, ![128, 1024]⟩
abbrev S4224x1024 : Shape := ⟨2, ![4224, 1024]⟩
abbrev S8192x1024 : Shape := ⟨2, ![8192, 1024]⟩
abbrev S1024x4224 : Shape := ⟨2, ![1024, 4224]⟩
abbrev S8192x4224 : Shape := ⟨2, ![8192, 4224]⟩
abbrev S512x4224 : Shape := ⟨2, ![512, 4224]⟩
abbrev S512 : Shape := ⟨1, ![512]⟩
abbrev S512x1 : Shape := ⟨2, ![512, 1]⟩
abbrev S1x1024 : Shape := ⟨2, ![1, 1024]⟩

abbrev nBuf : Space → Nat
  | .hbm => 32
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x3600, .f32⟩
  | .hbm, ⟨3, _⟩ => ⟨S1x1024x3600, .bf16⟩
  | .hbm, ⟨4, _⟩ => ⟨S3600x1x1024, .bf16⟩
  | .hbm, ⟨5, _⟩ => ⟨S3600x1024, .bf16⟩
  | .hbm, ⟨6, _⟩ => ⟨S2048x1024, .bf16⟩
  | .hbm, ⟨7, _⟩ => ⟨S256x1024, .bf16⟩
  | .hbm, ⟨8, _⟩ => ⟨S_, .bf16⟩
  | .hbm, ⟨9, _⟩ => ⟨S256x1024, .bf16⟩
  | .hbm, ⟨10, _⟩ => ⟨S256x1024, .bf16⟩
  | .hbm, ⟨11, _⟩ => ⟨S4x64x1024, .bf16⟩
  | .hbm, ⟨12, _⟩ => ⟨S_, .i32⟩
  | .hbm, ⟨13, _⟩ => ⟨S_, .bf16⟩
  | .hbm, ⟨14, _⟩ => ⟨S4x128x1024, .bf16⟩
  | .hbm, ⟨15, _⟩ => ⟨S512x1024, .bf16⟩
  | .hbm, ⟨16, _⟩ => ⟨S256x1024, .bf16⟩
  | .hbm, ⟨17, _⟩ => ⟨S4x64x1024, .bf16⟩
  | .hbm, ⟨18, _⟩ => ⟨S_, .i32⟩
  | .hbm, ⟨19, _⟩ => ⟨S_, .bf16⟩
  | .hbm, ⟨20, _⟩ => ⟨S4x128x1024, .bf16⟩
  | .hbm, ⟨21, _⟩ => ⟨S512x1024, .bf16⟩
  | .hbm, ⟨22, _⟩ => ⟨S1024x1024, .bf16⟩
  | .hbm, ⟨23, _⟩ => ⟨S16x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S4224x1024, .bf16⟩
  | .hbm, ⟨28, _⟩ => ⟨S8192x1024, .f32⟩
  | .hbm, ⟨29, _⟩ => ⟨S1024x4224, .bf16⟩
  | .hbm, ⟨30, _⟩ => ⟨S8192x4224, .bf16⟩
  | .hbm, ⟨31, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x6144, .f32⟩
  | .local _ .vmem, ⟨3, _⟩ => ⟨S1024x4224, .bf16⟩
  | .local _ .vmem, ⟨4, _⟩ => ⟨S512x4224, .bf16⟩
  | .local _ .vmem, ⟨5, _⟩ => ⟨S512x4224, .bf16⟩
  | .local _ .vmem, ⟨6, _⟩ => ⟨S512x1024, .bf16⟩
  | .local _ .vmem, ⟨7, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_call2_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1x8192x1024 : Shape := ⟨3, ![1, 8192, 1024]⟩
abbrev S1x6144 : Shape := ⟨2, ![1, 6144]⟩
abbrev S1x1024x3600 : Shape := ⟨3, ![1, 1024, 3600]⟩
abbrev S1x1024 : Shape := ⟨2, ![1, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3600 : Shape := ⟨2, ![1024, 3600]⟩
abbrev S1x8192x3600 : Shape := ⟨3, ![1, 8192, 3600]⟩
abbrev S8192x3600 : Shape := ⟨2, ![8192, 3600]⟩
abbrev S8192x512 : Shape := ⟨2, ![8192, 512]⟩
abbrev S8192x256 : Shape := ⟨2, ![8192, 256]⟩
abbrev S8192x16 : Shape := ⟨2, ![8192, 16]⟩
abbrev S8192x4x64 : Shape := ⟨3, ![8192, 4, 64]⟩
abbrev S8192x4x128 : Shape := ⟨3, ![8192, 4, 128]⟩
abbrev S8192x128 : Shape := ⟨2, ![8192, 128]⟩
abbrev S8192x4224 : Shape := ⟨2, ![8192, 4224]⟩
abbrev S8192x1024 : Shape := ⟨2, ![8192, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x3600, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1024x3600, .f32⟩
  | .hbm, ⟨38, _⟩ => ⟨S1x8192x3600, .f32⟩
  | .hbm, ⟨39, _⟩ => ⟨S8192x3600, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x256, .f32⟩
  | .hbm, ⟨45, _⟩ => ⟨S8192x256, .f32⟩
  | .hbm, ⟨46, _⟩ => ⟨S8192x512, .f32⟩
  | .hbm, ⟨47, _⟩ => ⟨S8192x512, .f32⟩
  | .hbm, ⟨48, _⟩ => ⟨S8192x16, .f32⟩
  | .hbm, ⟨49, _⟩ => ⟨S_, .f32⟩
  | .hbm, ⟨50, _⟩ => ⟨S8192x256, .f32⟩
  | .hbm, ⟨51, _⟩ => ⟨S8192x256, .f32⟩
  | .hbm, ⟨52, _⟩ => ⟨S8192x4x64, .f32⟩
  | .hbm, ⟨53, _⟩ => ⟨S_, .i32⟩
  | .hbm, ⟨54, _⟩ => ⟨S_, .f32⟩
  | .hbm, ⟨55, _⟩ => ⟨S8192x4x128, .f32⟩
  | .hbm, ⟨56, _⟩ => ⟨S8192x512, .f32⟩
  | .hbm, ⟨57, _⟩ => ⟨S8192x4x64, .f32⟩
  | .hbm, ⟨58, _⟩ => ⟨S_, .i32⟩
  | .hbm, ⟨59, _⟩ => ⟨S_, .f32⟩
  | .hbm, ⟨60, _⟩ => ⟨S8192x4x128, .f32⟩
  | .hbm, ⟨61, _⟩ => ⟨S8192x512, .f32⟩
  | .hbm, ⟨62, _⟩ => ⟨S_, .i32⟩
  | .hbm, ⟨63, _⟩ => ⟨S_, .f32⟩
  | .hbm, ⟨64, _⟩ => ⟨S8192x128, .f32⟩
  | .hbm, ⟨65, _⟩ => ⟨S8192x4224, .f32⟩
  | .hbm, ⟨66, _⟩ => ⟨S8192x4224, .bf16⟩
  | .hbm, ⟨67, _⟩ => ⟨S8192x1024, .f32⟩
  | .hbm, ⟨68, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_call0_v0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_call1_v0 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_call2_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8192x4096 : Shape := ⟨2, ![8192, 4096]⟩
abbrev S8192x1024 : Shape := ⟨2, ![8192, 1024]⟩
abbrev S_ : Shape := ⟨0, ![]⟩
abbrev S1x4096x1024 : Shape := ⟨3, ![1, 4096, 1024]⟩
abbrev S1x8192x4096 : Shape := ⟨3, ![1, 8192, 4096]⟩
abbrev S4096x1024 : Shape := ⟨2, ![4096, 1024]⟩
abbrev S1x8192x1024 : Shape := ⟨3, ![1, 8192, 1024]⟩
abbrev S1024x4096 : Shape := ⟨2, ![1024, 4096]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S1x4096x1024, .f32⟩
  | .hbm, ⟨4, _⟩ => ⟨S1x8192x4096, .f32⟩
  | .hbm, ⟨5, _⟩ => ⟨S4096x1024, .f32⟩
  | .hbm, ⟨6, _⟩ => ⟨S1x8192x1024, .f32⟩
  | .hbm, ⟨7, _⟩ => ⟨S1x8192x1024, .f32⟩
  | .hbm, ⟨8, _⟩ => ⟨S1024x4096, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S4x1024x1024, .f32⟩
  | .hbm, ⟨13, _⟩ => ⟨S4x1024x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S1x1024x1024 : Shape := ⟨3, ![1, 1024, 1024]⟩
abbrev S4x1024x1024 : Shape := ⟨3, ![4, 1024, 1024]⟩
abbrev S1024x1024 : Shape := ⟨2, ![1024, 1024]⟩
abbrev S1024x512 : Shape := ⟨2, ![1024, 512]⟩
abbrev S4x1024x512 : Shape := ⟨3, ![4, 1024, 512]⟩
abbrev S1x1024x512 : Shape := ⟨3, ![1, 1024, 512]⟩

abbrev nBuf : Space → Nat
  | .hbm => 14
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S4x1024x1024, .f32⟩
  | .hbm, ⟨2, _⟩ => ⟨S4x1024x1024, .f32⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S4x1024x1024, .bf16⟩
  | .hbm, ⟨7, _⟩ => ⟨S4x1024x1024, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1x1024x1024 : Shape := ⟨3, ![1, 1024, 1024]⟩
abbrev S4x1024x1024 : Shape := ⟨3, ![4, 1024, 1024]⟩
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S4x1024x1024, .f32⟩
  | .hbm, ⟨2, _⟩ => ⟨S4x1024x1024, .f32⟩
  | .hbm, ⟨3, _⟩ => ⟨S1x1024x1024, .f32⟩
  | .hbm, ⟨4, _⟩ => ⟨S1x1024x1024, .f32⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S1x1024x1024, .f32⟩
  | .hbm, ⟨9, _⟩ => ⟨S_, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S_, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1024, .f32⟩
  | .hbm, ⟨26, _⟩ => ⟨S1x1024x1024, .f32⟩
  | .hbm, ⟨27, _⟩ => ⟨S_, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S_, .f32⟩
  | .hbm, ⟨36, _⟩ => ⟨S1x1024x1024, .f32⟩
  | .hbm, ⟨37, _⟩ => ⟨S1x1024x1024, .f32⟩
  | .hbm, ⟨38, _⟩ => ⟨S1x1024x1024, .f32⟩
  | .hbm, ⟨39, _⟩ => ⟨S_, .f32⟩
  | .hbm, ⟨40, _⟩ => ⟨S1x1024x1024, .f32⟩
  | .hbm, ⟨41, _⟩ => ⟨S1x1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel7.lean ====
abbrev S8192x3600 : Shape := ⟨2, ![8192, 3600]⟩
abbrev S8192x1024 : Shape := ⟨2, ![8192, 1024]⟩
abbrev S8192x2048 : Shape := ⟨2, ![8192, 2048]⟩
abbrev S8192x256 : Shape := ⟨2, ![8192, 256]⟩
abbrev S8192x4x64 : Shape := ⟨3, ![8192, 4, 64]⟩
abbrev S_ : Shape := ⟨0, ![]⟩
abbrev S8192x4x128 : Shape := ⟨3, ![8192, 4, 128]⟩
abbrev S8192x512 : Shape := ⟨2, ![8192, 512]⟩
abbrev S8192x16 : Shape := ⟨2, ![8192, 16]⟩
abbrev S8192x128 : Shape := ⟨2, ![8192, 128]⟩
abbrev S8192x4224 : Shape := ⟨2, ![8192, 4224]⟩
abbrev S4224x1024 : Shape := ⟨2, ![4224, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x3600, .f32⟩
  | .hbm, ⟨1, _⟩ => ⟨S8192x1024, .f32⟩
  | .hbm, ⟨2, _⟩ => ⟨S8192x2048, .f32⟩
  | .hbm, ⟨3, _⟩ => ⟨S8192x256, .f32⟩
  | .hbm, ⟨4, _⟩ => ⟨S8192x4x64, .f32⟩
  | .hbm, ⟨5, _⟩ => ⟨S_, .i32⟩
  | .hbm, ⟨6, _⟩ => ⟨S_, .f32⟩
  | .hbm, ⟨7, _⟩ => ⟨S8192x4x128, .f32⟩
  | .hbm, ⟨8, _⟩ => ⟨S8192x512, .f32⟩
  | .hbm, ⟨9, _⟩ => ⟨S8192x256, .f32⟩
  | .hbm, ⟨10, _⟩ => ⟨S8192x4x64, .f32⟩
  | .hbm, ⟨11, _⟩ => ⟨S_, .i32⟩
  | .hbm, ⟨12, _⟩ => ⟨S_, .f32⟩
  | .hbm, ⟨13, _⟩ => ⟨S8192x4x128, .f32⟩
  | .hbm, ⟨14, _⟩ => ⟨S8192x512, .f32⟩
  | .hbm, ⟨15, _⟩ => ⟨S8192x1024, .f32⟩
  | .hbm, ⟨16, _⟩ => ⟨S8192x16, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x4224, .f32⟩
  | .hbm, ⟨21, _⟩ => ⟨S8192x4224, .bf16⟩
  | .hbm, ⟨22, _⟩ => ⟨S8192x1024, .bf16⟩
  | .hbm, ⟨23, _⟩ => ⟨S4224x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x3600 : Shape := ⟨2, ![8192, 3600]⟩
abbrev S8192x1024 : Shape := ⟨2, ![8192, 1024]⟩
abbrev S_ : Shape := ⟨0, ![]⟩
abbrev S1x1024x3600 : Shape := ⟨3, ![1, 1024, 3600]⟩
abbrev S1x8192x1024 : Shape := ⟨3, ![1, 8192, 1024]⟩
abbrev S1024x3600 : Shape := ⟨2, ![1024, 3600]⟩
abbrev S1x8192x3600 : Shape := ⟨3, ![1, 8192, 3600]⟩
abbrev S3600x1024 : Shape := ⟨2, ![3600, 1024]⟩
abbrev S1024x512 : Shape := ⟨2, ![1024, 512]⟩
abbrev S1024x256 : Shape := ⟨2, ![1024, 256]⟩
abbrev S1024x16 : Shape := ⟨2, ![1024, 16]⟩
abbrev S1024x4x64 : Shape := ⟨3, ![1024, 4, 64]⟩
abbrev S1024x4x128 : Shape := ⟨3, ![1024, 4, 128]⟩
abbrev S1024x128 : Shape := ⟨2, ![1024, 128]⟩
abbrev S1024x4224 : Shape := ⟨2, ![1024, 4224]⟩
abbrev S4224x1024 : Shape := ⟨2, ![4224, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x3600, .f32⟩
  | .hbm, ⟨1, _⟩ => ⟨S8192x1024, .f32⟩
  | .hbm, ⟨2, _⟩ => ⟨S_, .f32⟩
  | .hbm, ⟨3, _⟩ => ⟨S1x1024x3600, .f32⟩
  | .hbm, ⟨4, _⟩ => ⟨S1x8192x1024, .f32⟩
  | .hbm, ⟨5, _⟩ => ⟨S1024x3600, .f32⟩
  | .hbm, ⟨6, _⟩ => ⟨S1x8192x3600, .f32⟩
  | .hbm, ⟨7, _⟩ => ⟨S1x8192x3600, .f32⟩
  | .hbm, ⟨8, _⟩ => ⟨S3600x1024, .f32⟩
  | .hbm, ⟨9, _⟩ => ⟨S1024x3600, .f32⟩
  | .hbm, ⟨10, _⟩ => ⟨S1x1024x3600, .f32⟩
  | .hbm, ⟨11, _⟩ => ⟨S1024x3600, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S1024x512, .f32⟩
  | .hbm, ⟨20, _⟩ => ⟨S1024x16, .f32⟩
  | .hbm, ⟨21, _⟩ => ⟨S1024x4x64, .f32⟩
  | .hbm, ⟨22, _⟩ => ⟨S_, .i32⟩
  | .hbm, ⟨23, _⟩ => ⟨S_, .f32⟩
  | .hbm, ⟨24, _⟩ => ⟨S1024x4x128, .f32⟩
  | .hbm, ⟨25, _⟩ => ⟨S1024x512, .f32⟩
  | .hbm, ⟨26, _⟩ => ⟨S1024x4x64, .f32⟩
  | .hbm, ⟨27, _⟩ => ⟨S_, .i32⟩
  | .hbm, ⟨28, _⟩ => ⟨S_, .f32⟩
  | .hbm, ⟨29, _⟩ => ⟨S1024x4x128, .f32⟩
  | .hbm, ⟨30, _⟩ => ⟨S1024x512, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x4224, .f32⟩
  | .hbm, ⟨35, _⟩ => ⟨S4224x1024, .f32⟩
  | .hbm, ⟨36, _⟩ => ⟨S4224x1024, .bf16⟩
  | _, _ => ⟨S8192x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_call0_v0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_call2_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Reals.lean ====
import Idealize.ShloMosaic.Lib.Pointwise
import Idealize.ShloMosaic.Lib.IdealHost
import Idealize.ShloMosaic.Lib.Claim

/-! Arithmetic of the extended reals on finite values: sums, quotients and inverse square roots of
reals stay real, and a comparison with infinity says that a value is one. -/

noncomputable section

namespace Cert.Reals

open Idealize.ShloMosaic

/-- A finite sum of reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  rw [Ideal.div_coe hb, ← EReal.coe_mul, mul_one_div]

theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

theorem word_1024 : Ideal.ofBits .f32 0x44800000#32 = ((1024 : ℝ) : EReal) := by
  simp [Ideal.ofBits, Ideal.ieee, -EReal.coe_mul]; norm_num

/-- The small constant added to a variance. -/
def eps : ℝ := 10995116 / 1099511627776

theorem word_eps : Ideal.ofBits .f32 0x3727C5AC#32 = ((eps : ℝ) : EReal) := by
  simp [Ideal.ofBits, Ideal.ieee, -EReal.coe_mul, eps]; norm_num

theorem word_eighth : Ideal.ofBits .f32 0x3E000000#32 = ((1 / 8 : ℝ) : EReal) := by
  simp [Ideal.ofBits, Ideal.ieee, -EReal.coe_mul]; norm_num

theorem word_eighth_bf16 : Ideal.ofBits .bf16 0x3E00#16 = ((1 / 8 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_inf : Ideal.ofBits .f32 0x7F800000#32 = ⊤ := by
  simp [Ideal.ofBits, Ideal.ieee]

/-- A value whose modulus is below infinity is a real. -/
theorem real_of_abs_lt (x : EReal) (h : max x (-x) < ⊤) : ∃ r : ℝ, x = (r : EReal) := by
  induction x with
  | bot => simp at h
  | coe r => exact ⟨r, rfl⟩
  | top => simp at h

/-- One column's weight in the gradient of the input projection: the query columns of the gated attention are scaled. -/
def scaled (w : FVec Ideal (⟨3, ![1, 1024, 3600]⟩ : Shape) .f32) (d : Fin 1024) (j : Fin 3600) : EReal :=
  if 2048 ≤ j.val ∧ j.val < 2304 then w (ix3 0 d j) * ((1 / 8 : ℝ) : EReal) else w (ix3 0 d j)

/-! ## Sums over axes of which all but one have a single position -/

theorem reduceAdd_middle {n : ℕ} (h : (⟨3, ![1, n, 1]⟩ : Shape).ReducesTo [0, 2] (⟨1, ![n]⟩ : Shape)) (v : (⟨3, ![1, n, 1]⟩ : Shape).Idx → EReal)
    (init : EReal) (t : Fin n) : Ideal.hostReduceAdd h v init (ix1 t) = init + v (ix3 0 t 0) := by
  unfold Ideal.hostReduceAdd
  have e : (Finset.univ.filter fun i : (⟨3, ![1, n, 1]⟩ : Shape).Idx => h.drop i = ix1 t) = {ix3 0 t 0} := by
    ext i
    simp only [Finset.mem_filter, Finset.mem_univ, true_and, Finset.mem_singleton]
    have hd : (h.drop i 0).val = (i 1).val := rfl
    constructor
    · intro hi
      rw [hi] at hd
      funext a
      match a with
      | ⟨0, _⟩ => exact Subsingleton.elim (α := Fin 1) _ _
      | ⟨1, _⟩ => exact Fin.ext hd.symm
      | ⟨2, _⟩ => exact Subsingleton.elim (α := Fin 1) _ _
    · intro hi
      subst hi
      funext a
      match a with
      | ⟨0, _⟩ => exact Fin.ext hd
  rw [e, Finset.sum_singleton]

theorem reduceAdd_last {n : ℕ} (h : (⟨3, ![1, 1, n]⟩ : Shape).ReducesTo [0, 1] (⟨1, ![n]⟩ : Shape)) (v : (⟨3, ![1, 1, n]⟩ : Shape).Idx → EReal)
    (init : EReal) (t : Fin n) : Ideal.hostReduceAdd h v init (ix1 t) = init + v (ix3 0 0 t) := by
  unfold Ideal.hostReduceAdd
  have e : (Finset.univ.filter fun i : (⟨3, ![1, 1, n]⟩ : Shape).Idx => h.drop i = ix1 t) = {ix3 0 0 t} := by
    ext i
    simp only [Finset.mem_filter, Finset.mem_univ, true_and, Finset.mem_singleton]
    have hd : (h.drop i 0).val = (i 2).val := rfl
    constructor
    · intro hi
      rw [hi] at hd
      funext a
      match a with
      | ⟨0, _⟩ => exact Subsingleton.elim (α := Fin 1) _ _
      | ⟨1, _⟩ => exact Subsingleton.elim (α := Fin 1) _ _
      | ⟨2, _⟩ => exact Fin.ext hd.symm
    · intro hi
      subst hi
      funext a
      match a with
      | ⟨0, _⟩ => exact Fin.ext hd
  rw [e, Finset.sum_singleton]

/-! ## The layer norm of one row of 1024 reals and its gradient -/

def mu (x : Fin 1024 → ℝ) : ℝ := (∑ d, x d) / 1024
def cen (x : Fin 1024 → ℝ) (d : Fin 1024) : ℝ := x d - mu x
def vari (x : Fin 1024 → ℝ) : ℝ := (∑ d, cen x d * cen x d) / 1024
def rs (x : Fin 1024 → ℝ) : ℝ := (Real.sqrt (vari x + eps))⁻¹
def nrm (x : Fin 1024 → ℝ) (d : Fin 1024) : ℝ := cen x d * rs x

/-- The gradient of the normalised row, written out. -/
def lnBwd (x g : Fin 1024 → ℝ) (d : Fin 1024) : ℝ :=
  rs x * (g d - (∑ e, g e) / 1024 - nrm x d * ((∑ e, g e * nrm x e) / 1024))

theorem eps_pos : 0 < eps := by unfold eps; norm_num

theorem vari_nonneg (x : Fin 1024 → ℝ) : 0 ≤ vari x :=
  div_nonneg (Finset.sum_nonneg fun d _ => mul_self_nonneg _) (by norm_num)

theorem vari_eps_pos (x : Fin 1024 → ℝ) : 0 < vari x + eps := add_pos_of_nonneg_of_pos (vari_nonneg x) eps_pos

theorem sum_cen (x : Fin 1024 → ℝ) : ∑ d, cen x d = 0 := by
  simp only [cen, Finset.sum_sub_distrib, Finset.sum_const, Finset.card_univ, Fintype.card_fin, mu]
  simp; ring

theorem rs_sq (x : Fin 1024 → ℝ) : rs x * rs x = (vari x + eps)⁻¹ := by
  unfold rs
  rw [← mul_inv, Real.mul_self_sqrt (vari_eps_pos x).le]

/-- The gradient as differentiating the mean and the variance step by step gives it. -/
theorem lnBwd_steps (x g : Fin 1024 → ℝ) (d : Fin 1024) :
    g d * rs x + ((∑ e, cen x e * g e) * (-(1 / 2) * (rs x / (vari x + eps)))) / 1024 * (2 * cen x d)
      + ((∑ e, -(g e * rs x)) + ∑ e, -(((∑ e, cen x e * g e) * (-(1 / 2) * (rs x / (vari x + eps)))) / 1024 * (2 * cen x e))) / 1024
    = lnBwd x g d := by
  have h1 : ∀ K : ℝ, ∑ e, -(K * (2 * cen x e)) = 0 := fun K => by
    have : ∀ e, -(K * (2 * cen x e)) = (-2 * K) * cen x e := fun e => by ring
    simp only [this, ← Finset.mul_sum, sum_cen, mul_zero]
  rw [h1]
  have h2 : ∑ e, -(g e * rs x) = -(rs x * ∑ e, g e) := by
    rw [Finset.mul_sum, ← Finset.sum_neg_distrib]; exact Finset.sum_congr rfl fun e _ => by ring
  have h3 : ∑ e, g e * nrm x e = rs x * ∑ e, cen x e * g e := by
    rw [Finset.mul_sum]; exact Finset.sum_congr rfl fun e _ => by unfold nrm; ring
  unfold lnBwd
  rw [h2, h3, div_eq_mul_inv (rs x), ← rs_sq]
  unfold nrm
  ring

end Cert.Reals
-- ==== Proof.Packing.lean ====
import proofs.«01_k».proof.Proof.Gen.KernelIdeal.Value
import proofs.«01_k».proof.Proof.Reals
import Idealize.ShloMosaic.Lib.Pipeline.ValueKit

/-! What the host prepares for the input projection's gradient: the cotangent's columns and the
projection's rows, padded per head and laid side by side. -/

set_option maxRecDepth 16384

noncomputable section

namespace Cert.KernelIdeal.Values

open Idealize.ShloMosaic Idealize.ShloMosaic.TcCoe Idealize.SL.Sem
open Cert.KernelIdeal Cert.KernelIdeal.Gen

/-- The projection, one row per output column. -/
def rowsW (w : FVec Ideal S1x1024x3600 .f32) : FVec Ideal S3600x1024 .bf16 :=
  shapeCast S3600x1024 (transpose S3600x1x1024 [2, 0, 1] (truncf .bf16 w bitsLt_bf16_f32) transposes_S1x1024x3600_S3600x1x1024_2_0_1) shapeCasts_S3600x1x1024_S3600x1024

/-- A zero of the padding. -/
def padZero (φ : FTy) : FVec Ideal S_ φ := sitofp φ (constantI S_ 32 0#32)

def headRows (w : FVec Ideal S256x1024 .bf16) : FVec Ideal S512x1024 .bf16 :=
  shapeCast S512x1024 (pad S4x128x1024 ![0, 0, 0] ![0, 64, 0] ![0, 0, 0] (shapeCast S4x64x1024 w shapeCasts_S256x1024_S4x64x1024)
    (padZero .bf16) pads_S4x64x1024_S4x128x1024_000_0640_000 h_S_) shapeCasts_S4x128x1024_S512x1024

def rowsQ (w : FVec Ideal S3600x1024 .bf16) : FVec Ideal S256x1024 .bf16 :=
  mulf (extractStridedSlice S256x1024 ![2048, 0] w slices_S3600x1024_S256x1024_2048_0) (broadcastInDim S256x1024 ![] bcast_S_S256x1024 (constant S_ .bf16 0x3E00#16))

def rowsK (w : FVec Ideal S3600x1024 .bf16) : FVec Ideal S256x1024 .bf16 :=
  extractStridedSlice S256x1024 ![2304, 0] w slices_S3600x1024_S256x1024_2304_0

def rowsGate (w : FVec Ideal S3600x1024 .bf16) : FVec Ideal S128x1024 .bf16 :=
  pad S128x1024 ![0, 0] ![112, 0] ![0, 0] (extractStridedSlice S16x1024 ![3584, 0] w slices_S3600x1024_S16x1024_3584_0) (padZero .bf16) pads_S16x1024_S128x1024_01120_000 h_S_

def packRows (w : FVec Ideal S3600x1024 .bf16) : FVec Ideal S4224x1024 .bf16 :=
  concatenate S4224x1024 0 [⟨S2048x1024, extractStridedSlice S2048x1024 ![0, 0] w slices_S3600x1024_S2048x1024_0_0⟩, ⟨S512x1024, headRows (rowsQ w)⟩,
    ⟨S512x1024, headRows (rowsK w)⟩, ⟨S1024x1024, extractStridedSlice S1024x1024 ![2560, 0] w slices_S3600x1024_S1024x1024_2560_0⟩,
    ⟨S128x1024, rowsGate w⟩] concatenates_S2048x1024_S512x1024_S512x1024_S1024x1024_S128x1024_S4224x1024_d0

def headCols (d : FVec Ideal S8192x256 .f32) : FVec Ideal S8192x512 .f32 :=
  shapeCast S8192x512 (pad S8192x4x128 ![0, 0, 0] ![0, 0, 64] ![0, 0, 0] (shapeCast S8192x4x64 d shapeCasts_S8192x256_S8192x4x64)
    (padZero .f32) pads_S8192x4x64_S8192x4x128_000_000_0640 h_S_) shapeCasts_S8192x4x128_S8192x512

def colsGate (d : FVec Ideal S8192x3600 .f32) : FVec Ideal S8192x128 .f32 :=
  pad S8192x128 ![0, 0] ![0, 112] ![0, 0] (extractStridedSlice S8192x16 ![0, 3584] d slices_S8192x3600_S8192x16_0_3584) (padZero .f32) pads_S8192x16_S8192x128_000_01120 h_S_

def packCols (d : FVec Ideal S8192x3600 .f32) : FVec Ideal S8192x4224 .f32 :=
  concatenate S8192x4224 1 [⟨S8192x2048, extractStridedSlice S8192x2048 ![0, 0] d slices_S8192x3600_S8192x2048_0_0⟩,
    ⟨S8192x512, headCols (extractStridedSlice S8192x256 ![0, 2048] d slices_S8192x3600_S8192x256_0_2048)⟩,
    ⟨S8192x512, headCols (extractStridedSlice S8192x256 ![0, 2304] d slices_S8192x3600_S8192x256_0_2304)⟩,
    ⟨S8192x1024, extractStridedSlice S8192x1024 ![0, 2560] d slices_S8192x3600_S8192x1024_0_2560⟩,
    ⟨S8192x128, colsGate d⟩] concatenates_S8192x2048_S8192x512_S8192x512_S8192x1024_S8192x128_S8192x4224_d1

section
variable (m : (ℓ : Loc nD τ sig) → Buf (Elt Ideal) ℓ)

theorem entry17 (c : Dev nD) : V m c main_v17 = packRows (rowsW (m ((c : Thread nD τ).loc main_arg4))) := by
  sl_kernel_rfl

theorem entry31 (c : Dev nD) : V m c main_v31 = (truncf .bf16 (packCols (m ((c : Thread nD τ).loc main_arg0))) bitsLt_bf16_f32 : FVec Ideal S8192x4224 .bf16) := by
  sl_kernel_rfl

theorem entry32 (c : Dev nD) : V m c main_v32 = shapeCast S8192x1024 (m ((c : Thread nD τ).loc main_arg1)) shapeCasts_S1x8192x1024_S8192x1024 := by
  sl_kernel_rfl
end

theorem padZero_at (φ : FTy) (i : S_.Idx) : padZero φ i = (0 : EReal) := by
  show (((0#32 : BitVec 32).toInt : ℝ) : EReal) = 0
  simp

theorem headRows_at (w : FVec Ideal S256x1024 .bf16) (j : Fin 512) (d : Fin 1024) :
    headRows w (ix2 j d) = if h : j.val % 128 < 64 then w (ix2 (⟨j.val / 128 * 64 + j.val % 128, by omega⟩ : Fin 256) d) else (0 : EReal) := by
  pointwise [headRows]
  rw [padZero_at]
  by_cases h : j.val % 128 < 64
  · rw [dif_pos h, dif_pos ⟨by omega, h⟩]
  · rw [dif_neg h, dif_neg (fun e => h e.2)]

theorem headCols_at (x : FVec Ideal S8192x256 .f32) (t : Fin 8192) (j : Fin 512) :
    headCols x (ix2 t j) = if h : j.val % 128 < 64 then x (ix2 t (⟨j.val / 128 * 64 + j.val % 128, by omega⟩ : Fin 256)) else (0 : EReal) := by
  pointwise [headCols]
  rw [padZero_at]
  by_cases h : j.val % 128 < 64
  · rw [dif_pos h, dif_pos ⟨by omega, h⟩]
  · rw [dif_neg h, dif_neg (fun e => h e.2)]

theorem rowsW_at (w : FVec Ideal S1x1024x3600 .f32) (j : Fin 3600) (d : Fin 1024) : rowsW w (ix2 j d) = w (ix3 0 d j) := by
  pointwise [rowsW]

theorem rowsGate_at (w : FVec Ideal S3600x1024 .bf16) (j : Fin 128) (d : Fin 1024) :
    rowsGate w (ix2 j d) = if h : j.val < 16 then w (ix2 (⟨3584 + j.val, by omega⟩ : Fin 3600) d) else (0 : EReal) := by
  pointwise [rowsGate]
  rw [padZero_at]

theorem colsGate_at (x : FVec Ideal S8192x3600 .f32) (t : Fin 8192) (j : Fin 128) :
    colsGate x (ix2 t j) = if h : j.val < 16 then x (ix2 t (⟨3584 + j.val, by omega⟩ : Fin 3600)) else (0 : EReal) := by
  pointwise [colsGate]
  rw [padZero_at]

theorem rowsQ_at (w : FVec Ideal S3600x1024 .bf16) (j : Fin 256) (d : Fin 1024) :
    rowsQ w (ix2 j d) = w (ix2 (⟨2048 + j.val, by omega⟩ : Fin 3600) d) * ((1 / 8 : ℝ) : EReal) := by
  pointwise [rowsQ]
  rw [Cert.Reals.word_eighth_bf16]

theorem rowsK_at (w : FVec Ideal S3600x1024 .bf16) (j : Fin 256) (d : Fin 1024) :
    rowsK w (ix2 j d) = w (ix2 (⟨2304 + j.val, by omega⟩ : Fin 3600) d) := by
  pointwise [rowsK]

/-- A sum over per-head padded lanes whose padding is zero is the sum over the heads' own lanes. -/
theorem sum_padded (f : Fin 256 → EReal) :
    ∑ j : Fin 512, (if h : j.val % 128 < 64 then f ⟨j.val / 128 * 64 + j.val % 128, by omega⟩ else (0 : EReal)) = ∑ j : Fin 256, f j := by
  rw [Fin.sum_univ_tiles 4 128 rfl, Fin.sum_univ_tiles 4 64 rfl]
  refine Finset.sum_congr rfl fun a _ => ?_
  rw [Fin.sum_univ_two_halves 64 64 rfl]
  have ha := a.isLt
  rw [Finset.sum_eq_zero (s := (Finset.univ : Finset (Fin 64))) (f := fun k : Fin 64 =>
    (if h : (a.val * 128 + (64 + k.val)) % 128 < 64 then f ⟨(a.val * 128 + (64 + k.val)) / 128 * 64 + (a.val * 128 + (64 + k.val)) % 128, by omega⟩ else (0 : EReal)))
    (fun k _ => dif_neg (by omega)), add_zero]
  refine Finset.sum_congr rfl fun k _ => ?_
  have hk := k.isLt
  rw [dif_pos (show (a.val * 128 + k.val) % 128 < 64 by omega)]
  congr 1
  apply Fin.ext
  show (a.val * 128 + k.val) / 128 * 64 + (a.val * 128 + k.val) % 128 = a.val * 64 + k.val
  omega

theorem sum_padded_gate (f : Fin 16 → EReal) :
    ∑ j : Fin 128, (if h : j.val < 16 then f ⟨j.val, h⟩ else (0 : EReal)) = ∑ j : Fin 16, f j := by
  rw [Fin.sum_univ_two_halves 16 112 rfl]
  rw [Finset.sum_eq_zero (s := (Finset.univ : Finset (Fin 112))) (f := fun k : Fin 112 =>
    (if h : 16 + k.val < 16 then f ⟨16 + k.val, h⟩ else (0 : EReal))) (fun k _ => dif_neg (by omega)), add_zero]
  refine Finset.sum_congr rfl fun k _ => ?_
  rw [dif_pos (show k.val < 16 from k.isLt)]

/-- The product over the padded columns is the product over the projection's own columns. -/
theorem du_at (D : FVec Ideal S8192x3600 .f32) (w : FVec Ideal S1x1024x3600 .f32) (t : Fin 8192) (d : Fin 1024) :
    ∑ k : Fin 4224, packCols D (ix2 t k) * packRows (rowsW w) (ix2 k d) = ∑ j : Fin 3600, D (ix2 t j) * Cert.Reals.scaled w d j := by
  rw [Fin.sum_univ_two_halves 2048 2176 rfl, Fin.sum_univ_two_halves (N := 2176) 512 1664 rfl, Fin.sum_univ_two_halves (N := 1664) 512 1152 rfl,
    Fin.sum_univ_two_halves (N := 1152) 1024 128 rfl]
  rw [Fin.sum_univ_two_halves (N := 3600) 2048 1552 rfl, Fin.sum_univ_two_halves (N := 1552) 256 1296 rfl, Fin.sum_univ_two_halves (N := 1296) 256 1040 rfl,
    Fin.sum_univ_two_halves (N := 1040) 1024 16 rfl]
  refine congrArg₂ (· + ·) ?_ (congrArg₂ (· + ·) ?_ (congrArg₂ (· + ·) ?_ (congrArg₂ (· + ·) ?_ ?_)))
  · refine Finset.sum_congr rfl fun k _ => ?_
    have hk := k.isLt
    pointwise [packCols, packRows, rowsW_at, Cert.Reals.scaled]
    rw [if_neg (fun e => absurd e.1 id)]
  · rw [← sum_padded]
    refine Finset.sum_congr rfl fun k _ => ?_
    have hk := k.isLt
    pointwise [packCols, packRows, headRows_at, headCols_at, rowsQ_at, rowsW_at, Cert.Reals.scaled]
    by_cases h : k.val % 128 < 64
    · rw [dif_pos h, dif_pos h, dif_pos h]
      rw [if_pos (by omega)]
    · rw [dif_neg h, dif_neg h, dif_neg h, zero_mul]
  · rw [← sum_padded]
    refine Finset.sum_congr rfl fun k _ => ?_
    have hk := k.isLt
    pointwise [packCols, packRows, headRows_at, headCols_at, rowsK_at, rowsW_at, Cert.Reals.scaled]
    by_cases h : k.val % 128 < 64
    · rw [dif_pos h, dif_pos h, dif_pos h]
      rw [if_neg (by omega)]
      simp only [← Nat.add_assoc, Nat.reduceAdd]
    · rw [dif_neg h, dif_neg h, dif_neg h, zero_mul]
  · refine Finset.sum_congr rfl fun k _ => ?_
    have hk := k.isLt
    pointwise [packCols, packRows, rowsW_at, Cert.Reals.scaled]
    rw [if_neg (by omega)]
    simp only [← Nat.add_assoc, Nat.reduceAdd]
  · rw [← sum_padded_gate]
    refine Finset.sum_congr rfl fun k _ => ?_
    have hk := k.isLt
    pointwise [packCols, packRows, rowsGate_at, colsGate_at, rowsW_at, Cert.Reals.scaled]
    by_cases h : k.val < 16
    · rw [dif_pos h, dif_pos h, dif_pos h]
      rw [if_neg (by omega)]
      simp only [← Nat.add_assoc, Nat.reduceAdd]
    · rw [dif_neg h, dif_neg h, dif_neg h, zero_mul]

end Cert.KernelIdeal.Values
-- ==== Proof.Blocks.lean ====
import proofs.«01_k».proof.Proof.Packing
import Idealize.ShloMosaic.Lib.WritesUnit
import Idealize.ShloMosaic.Lib.Pipeline.ReadBack

/-! What the input projection's gradient writes at each point of its grid: 512 rows of the
gradient of the tokens, and the running sums of the two gradients of the modulation. -/

set_option maxRecDepth 16384

noncomputable section

namespace Cert.KernelIdeal.Values

open Idealize.ShloMosaic Idealize.ShloMosaic.TcCoe Idealize.SL.Sem
open Cert.KernelIdeal Cert.KernelIdeal.Gen Cert.Reals

theorem pay4_at (a : Vec Ideal S512x4224 .bf16) (w : Vec Ideal S4224x1024 .bf16) (r : Fin 512) (d : Fin 1024) :
    k0_pay4 a w (ix2 r d) = ∑ k : Fin 4224, a (ix2 r k) * w (ix2 k d) := by
  pointwise [k0_pay4]

section
variable (b : Vec Ideal S512x1024 .f32) (X : Fin 512 → Fin 1024 → ℝ) (hX : ∀ r d, b (ix2 r d) = ((X r d : ℝ) : EReal))
include hX

theorem pay5_at (r : Fin 512) (d : Fin 1024) : k0_pay5 b (ix2 r d) = ((cen (X r) d : ℝ) : EReal) := by
  pointwise [k0_pay5, hX]
  rw [word_1024, coe_sum, div_coe _ _ (by norm_num), ← EReal.coe_sub]
  rfl

theorem pay6_at (r : Fin 512) : k0_pay6 b (ix2 r 0) = ((rs (X r) : ℝ) : EReal) := by
  pointwise [k0_pay6, pay5_at b X hX]
  simp only [← EReal.coe_mul]
  rw [word_1024, word_eps, coe_sum, div_coe _ _ (by norm_num), ← EReal.coe_add]
  exact rsqrt_coe _ (vari_eps_pos _)

theorem pay7_at (r : Fin 512) (d : Fin 1024) : k0_pay7 b (ix2 r d) = ((nrm (X r) d : ℝ) : EReal) := by
  pointwise [k0_pay7, pay5_at b X hX, pay6_at b X hX]
  rw [← EReal.coe_mul]
  rfl

section
variable (u : FVec Ideal S512x1024 .f32) (U : Fin 512 → Fin 1024 → ℝ) (hU : ∀ r d, u (ix2 r d) = ((U r d : ℝ) : EReal))
include hU

theorem pay2_at (y : Vec Ideal S512x1024 .f32) (s : Vec Ideal S1x1024 .f32) (S : Fin 1024 → ℝ) (hS : ∀ d, s (ix2 0 d) = ((S d : ℝ) : EReal))
    (r : Fin 512) (d : Fin 1024) : k0_pay2 u (k0_pay6 b) (k0_pay7 b) y s (ix2 r d)
      = y (ix2 r d) + ((lnBwd (X r) (fun e => U r e * (1 + S e)) d : ℝ) : EReal) := by
  pointwise [k0_pay2, pay6_at b X hX, pay7_at b X hX, hU, hS]
  simp only [← EReal.coe_one, word_1024, ← EReal.coe_mul, ← EReal.coe_add, ← EReal.coe_sub, coe_sum, div_coe _ _ (show (1024 : ℝ) ≠ 0 by norm_num)]
  rfl
end

section
variable (a : Vec Ideal S512x4224 .bf16) (w : Vec Ideal S4224x1024 .bf16) (U : Fin 512 → Fin 1024 → ℝ) (hU : ∀ r d, k0_pay4 a w (ix2 r d) = ((U r d : ℝ) : EReal))
include hU

omit hX in
theorem pay8_at (v : Vec Ideal S1x1024 .f32) (d : Fin 1024) : k0_pay8 a w v (ix2 0 d) = v (ix2 0 d) + ((∑ r, U r d : ℝ) : EReal) := by
  pointwise [k0_pay8, hU]
  rw [coe_sum]

theorem pay1_at (v : Vec Ideal S1x1024 .f32) (d : Fin 1024) : k0_pay1 (k0_pay9 v) (k0_pay10 a w b) (ix2 0 d)
    = v (ix2 0 d) + ((∑ r, U r d * nrm (X r) d : ℝ) : EReal) := by
  pointwise [k0_pay1, k0_pay9, k0_pay10, hU, pay7_at b X hX]
  simp only [← EReal.coe_mul, coe_sum]
end
end

/-- Row 1 and row 0 of the block of sums. -/
abbrev row1 : Rect S8x1024 := Rect.unit ![1, 0] ![1, 1024] inb_S8x1024_S1x1024_1_0
abbrev row0 : Rect S8x1024 := Rect.unit ![0, 0] ![1, 1024] inb_S8x1024_S1x1024_0_0

theorem row1_emb (d : Fin 1024) : row1.emb (ix2 (0 : Fin 1) d : S1x1024.Idx) = (ix2 1 d : S8x1024.Idx) := by
  funext a
  match a with
  | ⟨0, _⟩ => rfl
  | ⟨1, _⟩ => exact Fin.ext (show 0 + 1 * d.val = d.val by omega)

theorem row0_emb (d : Fin 1024) : row0.emb (ix2 (0 : Fin 1) d : S1x1024.Idx) = (ix2 0 d : S8x1024.Idx) := by
  funext a
  match a with
  | ⟨0, _⟩ => rfl
  | ⟨1, _⟩ => exact Fin.ext (show 0 + 1 * d.val = d.val by omega)

theorem row1_not_mem (j : Fin 8) (d : Fin 1024) (h : j.val ≠ 1) : (ix2 j d : S8x1024.Idx) ∉ row1.set := by
  rw [Rect.mem_set_unit]
  intro hall
  have := hall (0 : Fin 2)
  have h1 : 1 ≤ j.val := this.1
  have h2 : j.val < 1 + 1 := this.2
  omega

theorem row0_not_mem (j : Fin 8) (d : Fin 1024) (h : j.val ≠ 0) : (ix2 j d : S8x1024.Idx) ∉ row0.set := by
  rw [Rect.mem_set_unit]
  intro hall
  have := hall (0 : Fin 2)
  have h1 : 0 ≤ j.val := this.1
  have h2 : j.val < 0 + 1 := this.2
  omega

theorem canon_rows (p1 p0 : Vec Ideal S1x1024 .f32) (L : List (View.Piece (Elt Ideal) S8x1024 .f32)) (j : Fin 8) (d : Fin 1024) :
    View.canon ((⟨row1, p1⟩ : View.Piece (Elt Ideal) S8x1024 .f32) :: ⟨row0, p0⟩ :: L) (ix2 j d)
      = if j.val = 1 then p1 (ix2 0 d) else if j.val = 0 then p0 (ix2 0 d) else View.canon L (ix2 j d) := by
  by_cases j1 : j.val = 1
  · obtain rfl : j = 1 := Fin.ext j1
    rw [if_pos (by decide), ← row1_emb]
    exact View.canon_cons_emb row1 p1 _ _
  · rw [if_neg j1]
    refine (View.canon_cons_of_not_mem ⟨row1, p1⟩ _ (row1_not_mem j d j1)).trans ?_
    by_cases j0 : j.val = 0
    · obtain rfl : j = 0 := Fin.ext j0
      rw [if_pos (by decide), ← row0_emb]
      exact View.canon_cons_emb row0 p0 _ _
    · rw [if_neg j0]
      exact View.canon_cons_of_not_mem ⟨row0, p0⟩ _ (row0_not_mem j d j0)

theorem writes_rows {κ : Kind} {sp : Space} (v : View sig κ sp S8x1024 .f32) (f : v.ty.Contents (Elt Ideal)) (p1 p0 : Vec Ideal S1x1024 .f32) (j : Fin 8) (d : Fin 1024) :
    v.read (Elt Ideal) (v.writes (Elt Ideal) f [(⟨row1, p1⟩ : View.Piece (Elt Ideal) S8x1024 .f32), ⟨row0, p0⟩]) (ix2 j d)
      = if j.val = 1 then p1 (ix2 0 d) else if j.val = 0 then p0 (ix2 0 d) else v.read (Elt Ideal) f (ix2 j d) := by
  by_cases j1 : j.val = 1
  · obtain rfl : j = 1 := Fin.ext j1
    rw [if_pos (by decide)]
    exact View.read_writes_cons_rows_of_mem v f _ p1 _ _ (ix2 (0 : Fin 1) d : S1x1024.Idx) rfl rfl rfl
  · rw [if_neg j1]
    refine (View.read_writes_cons_rows_of_not_mem v f (o := 1) (W := 1) _ p1 _ _ rfl rfl (by show j.val < 1 ∨ 1 + 1 ≤ j.val; omega)).trans ?_
    by_cases j0 : j.val = 0
    · obtain rfl : j = 0 := Fin.ext j0
      rw [if_pos (by decide)]
      exact View.read_writes_cons_rows_of_mem v f _ p0 _ _ (ix2 (0 : Fin 1) d : S1x1024.Idx) rfl rfl rfl
    · rw [if_neg j0]
      exact View.read_writes_cons_rows_of_not_mem v f (o := 0) (W := 1) _ p0 _ _ rfl rfl (by show j.val < 0 ∨ 0 + 1 ≤ j.val; omega)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

/-- Row `r` of point `t`'s block. -/
def row (t : Fin cfg0.N) (r : Fin 512) : Fin 8192 := ⟨t.val * 512 + r.val, by have := t.isLt; have : cfg0.N = 16 := rfl; omega⟩

theorem iblk1_at (t : Fin cfg0.N) (r : Fin 512) (d : Fin 1024) : iblk m c 1 t (ix2 r d) = V m c main_v32 (ix2 (row t r) d) := by
  blk_point [iblk, row, idx t]

theorem iblk2_at (t : Fin cfg0.N) (r : Fin 512) (d : Fin 1024) : iblk m c 2 t (ix2 r d) = V m c main_arg2 (ix2 (row t r) d) := by
  blk_point [iblk, row, idx t]

theorem iblk3_at (t : Fin cfg0.N) (d : Fin 1024) : View.ld (iblk m c 3 t) (Rect.unit ![0, 1024] ![1, 1024] inb_S1x6144_S1x1024_0_1024) (ix2 0 d)
    = V m c main_arg3 (ix2 0 (⟨1024 + d.val, by omega⟩ : Fin 6144)) := by
  blk_point [iblk, idx t]

theorem iblk0_at (t : Fin cfg0.N) (r : Fin 512) (k : Fin 4224) : iblk m c 0 t (ix2 r k) = V m c main_v31 (ix2 (row t r) k) := by
  blk_point [iblk, row, idx t]

theorem iblk4_at (t : Fin cfg0.N) (k : Fin 4224) (d : Fin 1024) : iblk m c 4 t (ix2 k d) = V m c main_v17 (ix2 k d) := by
  blk_point [iblk, idx t]

section
variable (X : Fin 8192 → Fin 1024 → ℝ) (hX : ∀ t d, V m c main_v32 (ix2 t d) = ((X t d : ℝ) : EReal))
  (D : FVec Ideal S8192x4224 .bf16) (hD : V m c main_v31 = D) (W : FVec Ideal S4224x1024 .bf16) (hW : V m c main_v17 = W)
  (U : Fin 8192 → Fin 1024 → ℝ) (hU : ∀ t d, ∑ k : Fin 4224, D (ix2 t k) * W (ix2 k d) = ((U t d : ℝ) : EReal))
include hX hU hD hW

omit hX in
theorem blockU (t : Fin cfg0.N) (r : Fin 512) (d : Fin 1024) : k0_pay4 (iblk m c 0 t) (iblk m c 4 t) (ix2 r d) = ((U (row t r) d : ℝ) : EReal) := by
  rw [pay4_at, ← hU]
  exact Finset.sum_congr rfl fun k _ => by rw [iblk0_at, iblk4_at, hD, hW]

theorem out5 (Y : FVec Ideal S8192x1024 .f32) (hY : V m c main_arg2 = Y) (S : Fin 1024 → ℝ) (hS : ∀ d : Fin 1024, V m c main_arg3 (ix2 0 (⟨1024 + d.val, by omega⟩ : Fin 6144)) = ((S d : ℝ) : EReal))
    (t : Fin cfg0.N) (r : Fin 512) (d : Fin 1024) : (outsAt0 m c t.val t.isLt).1 (ix2 r d)
      = Y (ix2 (row t r) d) + ((lnBwd (X (row t r)) (fun e => U (row t r) e * (1 + S e)) d : ℝ) : EReal) := by
  have h := pay2_at (iblk m c 1 t) (fun r => X (row t r)) (fun r d => by rw [iblk1_at, hX]) _ (fun r => U (row t r)) (blockU m c D hD W hW U hU t)
    (iblk m c 2 t) (View.ld (iblk m c 3 t) (Rect.unit ![0, 1024] ![1, 1024] inb_S1x6144_S1x1024_0_1024)) S (fun d => by rw [iblk3_at, hS]) r d
  rw [iblk2_at, hY] at h
  rw [← h]
  by_cases h0 : t.val % 16 = 0
  · rw [outsAt0_A m c t h0]
    frame_out
    rfl
  · rw [outsAt0_B m c t h0]
    frame_out
    rfl

/-- What point `t` adds to the sums. -/
def term (X U : Fin 8192 → Fin 1024 → ℝ) (t : Fin cfg0.N) (j : Fin 8) (d : Fin 1024) : ℝ :=
  if j.val = 0 then ∑ r, U (row t r) d else if j.val = 1 then ∑ r, U (row t r) d * nrm (X (row t r)) d else 0

theorem out6_reset (t : Fin cfg0.N) (h0 : t.val % 16 = 0) (j : Fin 8) (d : Fin 1024) :
    (outsAt0 m c t.val t.isLt).2 (ix2 j d) = 0 + ((term X U t j d : ℝ) : EReal) := by
  have h8 := fun v => pay8_at (iblk m c 0 t) (iblk m c 4 t) (fun r => U (row t r)) (blockU m c D hD W hW U hU t) v d
  have h1 := fun v => pay1_at (iblk m c 1 t) (fun r => X (row t r)) (fun r d => by rw [iblk1_at, hX]) (iblk m c 0 t) (iblk m c 4 t) (fun r => U (row t r)) (blockU m c D hD W hW U hU t) v d
  rw [outsAt0_A m c t h0]
  frame_out
  refine (canon_rows _ _ _ j d).trans ?_
  unfold term
  by_cases j1 : j.val = 1
  · rw [if_pos j1, if_neg (by omega), if_pos j1]
    refine (h1 _).trans ?_
    rw [View.readCov_skip _ _ _ _ _ (by decide), View.readCov_fill _ _ _ _ _ (by decide)]
    congr 1
    exact Ideal.ofBits_zero .f32
  · rw [if_neg j1, if_neg j1]
    by_cases j0 : j.val = 0
    · rw [if_pos j0, if_pos j0]
      refine (h8 _).trans ?_
      rw [View.readCov_fill _ _ _ _ _ (by decide)]
      congr 1
      exact Ideal.ofBits_zero .f32
    · rw [if_neg j0, if_neg j0, View.canon_cons_unit_lit _ _ _ (by decide), EReal.coe_zero, add_zero]
      exact Ideal.ofBits_zero .f32

theorem out6_step (t : Fin cfg0.N) (h0 : ¬t.val % 16 = 0) (j : Fin 8) (d : Fin 1024) :
    (outsAt0 m c t.val t.isLt).2 (ix2 j d) = (outsAt0 m c (t.val - 1) (by omega)).2 (ix2 j d) + ((term X U t j d : ℝ) : EReal) := by
  have h8 := fun v => pay8_at (iblk m c 0 t) (iblk m c 4 t) (fun r => U (row t r)) (blockU m c D hD W hW U hU t) v d
  have h1 := fun v => pay1_at (iblk m c 1 t) (fun r => X (row t r)) (fun r d => by rw [iblk1_at, hX]) (iblk m c 0 t) (iblk m c 4 t) (fun r => U (row t r)) (blockU m c D hD W hW U hU t) v d
  rw [outsAt0_B m c t h0]
  frame_out
  refine (writes_rows _ _ _ _ j d).trans ?_
  unfold term
  by_cases j1 : j.val = 1
  · rw [if_pos j1, if_neg (by omega), if_pos j1]
    refine (h1 _).trans ?_
    obtain rfl : j = 1 := Fin.ext j1
    congr 1
    exact congrArg _ (row1_emb d)
  · rw [if_neg j1, if_neg j1]
    by_cases j0 : j.val = 0
    · rw [if_pos j0, if_pos j0]
      refine (h8 _).trans ?_
      obtain rfl : j = 0 := Fin.ext j0
      congr 1
      exact congrArg _ (row0_emb d)
    · rw [if_neg j0, if_neg j0, EReal.coe_zero, add_zero]
      exact congrFun (Memref.IsWhole.read_unread _ _) _

/-- The block of sums after the last point. -/
theorem out6_last (j : Fin 8) (d : Fin 1024) : (outsAt0 m c 15 (by decide)).2 (ix2 j d)
    = (((if j.val = 0 then ∑ t, U t d else if j.val = 1 then ∑ t, U t d * nrm (X t) d else 0) : ℝ) : EReal) := by
  have h := Pipeline.eq_sum_fin_of_reset_step_apply_last (fun n h => fun i : Fin 8 × Fin 1024 => ((outsAt0 m c n h).2 (ix2 i.1 i.2) : EReal)) 16 (fun _ => 0)
    (fun t i => ((term X U t i.1 i.2 : ℝ) : EReal)) (fun t h0 i => out6_reset m c X hX D hD W hW U hU t h0 i.1 i.2) (fun t h0 i => out6_step m c X hX D hD W hW U hU t h0 i.1 i.2)
    (by decide) ⟨15, by decide⟩ rfl (j, d)
  refine h.trans ?_
  rw [zero_add, coe_sum, EReal.coe_eq_coe_iff]
  show ∑ p : Fin 16, term X U p j d = _
  unfold term
  by_cases j0 : j.val = 0
  · simp only [if_pos j0]
    exact Fin.sum_mul_add_fin (n := 512) (S := 16) fun l : Fin 8192 => U l d
  · by_cases j1 : j.val = 1
    · simp only [if_neg j0, if_pos j1]
      exact Fin.sum_mul_add_fin (n := 512) (S := 16) fun l : Fin 8192 => U l d * nrm (X l) d
    · simp only [if_neg j0, if_neg j1, Finset.sum_const_zero]

end
end Cert.KernelIdeal.Values
-- ==== Proof.Final.lean ====
import proofs.«01_k».proof.Proof.Blocks

/-! The two arrays the input projection's gradient leaves, in terms of its arguments. -/

set_option maxRecDepth 16384

noncomputable section

namespace Cert.KernelIdeal.Values

open Idealize.ShloMosaic Idealize.ShloMosaic.TcCoe Idealize.SL.Sem
open Cert.KernelIdeal Cert.KernelIdeal.Gen Cert.Reals

variable (m : (ℓ : Loc nD τ sig) → Buf (Elt Ideal) ℓ) (c : Dev nD)

theorem cast_at (x : FVec Ideal S1x8192x1024 .f32) (t : Fin 8192) (d : Fin 1024) :
    shapeCast S8192x1024 x shapeCasts_S1x8192x1024_S8192x1024 (ix2 t d) = x (ix3 0 t d) := by
  pointwise

section
variable (D : FVec Ideal S8192x3600 .f32) (hD : m ((c : Thread nD τ).loc main_arg0) = D)
  (x : FVec Ideal S1x8192x1024 .f32) (hx : m ((c : Thread nD τ).loc main_arg1) = x)
  (w : FVec Ideal S1x1024x3600 .f32) (hw : m ((c : Thread nD τ).loc main_arg4) = w)
  (X U : Fin 8192 → Fin 1024 → ℝ) (hX : ∀ t d, x (ix3 0 t d) = ((X t d : ℝ) : EReal))
  (hU : ∀ t d, ∑ j : Fin 3600, D (ix2 t j) * scaled w d j = ((U t d : ℝ) : EReal))
include hD hx hw hX hU

omit hD hw hU in
theorem rows_at (t : Fin 8192) (d : Fin 1024) : V m c main_v32 (ix2 t d) = ((X t d : ℝ) : EReal) := by
  rw [entry32]
  subst hx
  exact (cast_at _ t d).trans (hX t d)

omit hD hx hw hX in
theorem products_at (t : Fin 8192) (d : Fin 1024) :
    ∑ k : Fin 4224, (truncf .bf16 (packCols D) bitsLt_bf16_f32 : FVec Ideal S8192x4224 .bf16) (ix2 t k) * packRows (rowsW w) (ix2 k d) = ((U t d : ℝ) : EReal) := by
  rw [← hU, ← du_at]
  rfl

theorem sums_eq (G : FVec Ideal S8x1024 .f32)
    (hG : ∀ j d, G (ix2 j d) = (((if j.val = 0 then ∑ t, U t d else if j.val = 1 then ∑ t, U t d * nrm (X t) d else 0) : ℝ) : EReal)) :
    (dats m 0 c).arrAt 6 cfg0.N = G := by
  refine (dats m 0 c).arrAt_eq_of_after_last 6 ⟨15, by decide⟩ (by decide +kernel) G fun j => ?_
  refine (congrFun (after0_6 m c ⟨15, by decide⟩) _).trans ?_
  obtain ⟨a, b, rfl⟩ : ∃ (a : Fin 8) (b : Fin 1024), j = ix2 a b := ⟨j 0, j 1, by funext k; match k with | ⟨0, _⟩ => rfl | ⟨1, _⟩ => rfl⟩
  refine (out6_last m c X (rows_at m c x hx X hX) _ ((entry31 m c).trans (by rw [hD])) _ ((entry17 m c).trans (by rw [hw])) U (products_at D w U hU) a b).trans ?_
  exact (hG a b).symm

theorem tokens_eq (Y : FVec Ideal S8192x1024 .f32) (hY : m ((c : Thread nD τ).loc main_arg2) = Y)
    (z : FVec Ideal S1x6144 .f32) (hz : m ((c : Thread nD τ).loc main_arg3) = z)
    (S : Fin 1024 → ℝ) (hS : ∀ d : Fin 1024, z (ix2 0 (⟨1024 + d.val, by omega⟩ : Fin 6144)) = ((S d : ℝ) : EReal))
    (G : FVec Ideal S8192x1024 .f32)
    (hG : ∀ t d, G (ix2 t d) = Y (ix2 t d) + ((lnBwd (X t) (fun e => U t e * (1 + S e)) d : ℝ) : EReal)) :
    (dats m 0 c).arrAt 5 cfg0.N = G := by
  refine (dats m 0 c).arrAt_eq_of_covers 5 G (by decide +kernel) fun t hf y => ?_
  blk_simp
  rw [after0_5]
  obtain ⟨a, b, rfl⟩ : ∃ (a : Fin 512) (b : Fin 1024), y = ix2 a b := ⟨y 0, y 1, by funext k; match k with | ⟨0, _⟩ => rfl | ⟨1, _⟩ => rfl⟩
  refine (out5 m c X (rows_at m c x hx X hX) _ ((entry31 m c).trans (by rw [hD])) _ ((entry17 m c).trans (by rw [hw])) U (products_at D w U hU) Y ((V_main_arg2 m c).trans hY) S
    (fun d => (congrFun ((V_main_arg3 m c).trans hz) _).trans (hS d)) t a b).trans ?_
  rw [← hG]
  refine congrArg G ?_
  blk_ext [row, idx t]
end

end Cert.KernelIdeal.Values
-- ==== Proof.Reference.lean ====
import proofs.«01_k».proof.Proof.Gen.ReferenceIdeal.Run
import proofs.«01_k».proof.Proof.Gen.ReferenceIdeal.Read
import proofs.«01_k».proof.Proof.Reals
import Idealize.ShloMosaic.Lib.Pipeline.ValueKit

/-! The reference's two results at an index, on arguments that are real. -/

set_option maxRecDepth 16384

noncomputable section

namespace Cert.ReferenceIdeal.Values

open Idealize.ShloMosaic Idealize.ShloMosaic.TcCoe Idealize.SL.Sem
open Cert.ReferenceIdeal Cert.ReferenceIdeal.Gen Cert.ReferenceIdeal.Value Cert.ReferenceIdeal.Read Cert.Reals

variable (x0 : FVec Ideal S8192x3600 .f32) (x1 : FVec Ideal S1x8192x1024 .f32) (x2 : FVec Ideal S8192x1024 .f32)
  (x3 : FVec Ideal S1x6144 .f32) (x4 : FVec Ideal S1x1024x3600 .f32)

theorem cot (t : Fin 8192) (j : Fin 3600) : val_main_v51 (F := Ideal) x0 (ix3 0 t j)
    = if 2048 ≤ j.val ∧ j.val < 2304 then x0 (ix2 t j) * ((1 / 8 : ℝ) : EReal) else x0 (ix2 t j) := by
  pointwise [val_main_v51, val_main_v47, val_main_v45, val_main_v46, val_main_v50, val_main_v44, val_main_v42, val_main_v49, val_main_v43, val_main_v48, val_main_v41, val_main_cst_8, val_main_cst_9, val_main_cst_10, val_main_cst_11]
  rw [word_eighth]
  have hj := j.isLt
  by_cases h1 : j.val < 2048
  · rw [dif_neg (by omega), dif_pos h1, dif_neg (by omega), if_neg (by omega), zero_add, add_zero]
  · by_cases h2 : j.val < 2304
    · rw [dif_neg (by omega), dif_neg h1, dif_pos ⟨by omega, by omega⟩, if_pos ⟨by omega, h2⟩, zero_add, zero_add]
      congr 3
      exact Fin.ext (show 2048 + (j.val - 2048) = j.val by omega)
    · rw [dif_pos ⟨by omega, by omega⟩, dif_neg h1, dif_neg (by omega), if_neg (by omega), add_zero, add_zero]
      congr 2
      exact Fin.ext (show 2304 + (j.val - 2304) = j.val by omega)

theorem du (t : Fin 8192) (d : Fin 1024) : val_main_v52 (F := Ideal) x0 x4 (ix3 0 t d) = ∑ j : Fin 3600, x0 (ix2 t j) * scaled x4 d j := by
  rw [val_main_v52_apply]
  refine Finset.sum_congr rfl fun j _ => ?_
  have e1 : lidx_main_v52 (ix3 0 t d) j = ix3 0 t j := by funext a; match a with | ⟨0, _⟩ => rfl | ⟨1, _⟩ => rfl | ⟨2, _⟩ => rfl
  have e2 : val_main_v33 (F := Ideal) x4 (ridx_main_v52 (ix3 0 t d) j) = x4 (ix3 0 d j) := by
    have : ridx_main_v52 (ix3 0 t d) j = ix2 d j := by funext a; match a with | ⟨0, _⟩ => rfl | ⟨1, _⟩ => rfl
    rw [this]
    pointwise [val_main_v33]
  rw [e1, e2, cot, scaled]
  by_cases h : 2048 ≤ j.val ∧ j.val < 2304
  · rw [if_pos h, if_pos h, mul_assoc, mul_comm ((1 / 8 : ℝ) : EReal)]
  · rw [if_neg h, if_neg h]

section
variable (X : Fin 8192 → Fin 1024 → ℝ) (hX : ∀ t d, x1 (ix3 0 t d) = ((X t d : ℝ) : EReal))
include hX

theorem cen_at (t : Fin 8192) (d : Fin 1024) : val_main_v7 (F := Ideal) x1 (ix3 0 t d) = ((cen (X t) d : ℝ) : EReal) := by
  pointwise [val_main_v7, val_main_v6, val_main_v5, val_main_v4, val_main_cst_0, val_main_v3, val_main_v2, val_main_cst, hX]
  rw [word_1024, coe_sum, div_coe _ _ (by norm_num), ← EReal.coe_sub]
  rfl

theorem cen_at' (t : Fin 8192) (d : Fin 1024) : val_main_v16 (F := Ideal) x1 (ix3 0 t d) = ((cen (X t) d : ℝ) : EReal) := by
  rw [← cen_at x1 X hX]
  pointwise [val_main_v7, val_main_v6, val_main_v16, val_main_v15]

theorem var_at (t : Fin 8192) : val_main_v18 (F := Ideal) x1 (ix3 0 t 0) = ((vari (X t) + eps : ℝ) : EReal) := by
  pointwise [val_main_v18, val_main_v17, val_main_cst_4, val_main_v14, val_main_v13, val_main_cst_3, val_main_v12, val_main_v11, val_main_cst_2, val_main_v8, cen_at x1 X hX]
  simp only [← EReal.coe_mul]
  rw [word_1024, word_eps, coe_sum, div_coe _ _ (by norm_num), ← EReal.coe_add]
  rfl

theorem nrm_at (t : Fin 8192) (d : Fin 1024) : val_main_v24 (F := Ideal) x1 (ix3 0 t d) = ((nrm (X t) d : ℝ) : EReal) := by
  pointwise [val_main_v24, val_main_v23, val_main_v19, cen_at' x1 X hX, var_at x1 X hX]
  rw [rsqrt_coe _ (vari_eps_pos _), ← EReal.coe_mul]
  rfl

theorem sums_at (U : Fin 8192 → Fin 1024 → ℝ) (hU : ∀ t d, val_main_v52 (F := Ideal) x0 x4 (ix3 0 t d) = ((U t d : ℝ) : EReal))
    (j : Fin 8) (d : Fin 1024) : val_main_v93 (F := Ideal) x0 x1 x4 (ix2 j d)
      = (((if j.val = 0 then ∑ t, U t d else if j.val = 1 then ∑ t, U t d * nrm (X t) d else 0) : ℝ) : EReal) := by
  pointwise [val_main_v93, val_main_v92, val_main_cst_23, val_main_v56, val_main_v63, val_main_v55, val_main_v62, val_main_v54, val_main_v59, val_main_v53, val_main_v58, val_main_v57, val_main_cst_12, val_main_cst_13, val_main_cst_14, val_main_cst_15]
  rw [reduceAdd_last, reduceAdd_last]
  pointwise [hU, nrm_at x1 X hX]
  simp only [← EReal.coe_mul, coe_sum]
  by_cases h0 : j.val = 0
  · rw [dif_pos (by omega), if_pos h0]
  · rw [dif_neg (by omega), if_neg h0]
    by_cases h1 : j.val = 1
    · rw [dif_pos (by omega), if_pos h1]
      congr 1
      exact Finset.sum_congr rfl fun t _ => mul_comm _ _
    · rw [dif_neg (by omega), if_neg h1]
      rfl

theorem gx_at (U : Fin 8192 → Fin 1024 → ℝ) (hU : ∀ t d, val_main_v52 (F := Ideal) x0 x4 (ix3 0 t d) = ((U t d : ℝ) : EReal))
    (S : Fin 1024 → ℝ) (hS : ∀ d : Fin 1024, x3 (ix2 0 (⟨1024 + d.val, by omega⟩ : Fin 6144)) = ((S d : ℝ) : EReal))
    (t : Fin 8192) (d : Fin 1024) : val_main_v91 (F := Ideal) x0 x1 x2 x3 x4 (ix2 t d)
      = x2 (ix2 t d) + ((lnBwd (X t) (fun e => U t e * (1 + S e)) d : ℝ) : EReal) := by
  have hg : ∀ e, val_main_v61 (F := Ideal) x0 x3 x4 (ix3 0 t e) = ((U t e * (1 + S e) : ℝ) : EReal) := fun e => by
    pointwise [val_main_v61, val_main_v60, val_main_v27, val_main_v26, val_main_cst_6, val_main_v25, val_main_v1, hU, hS]
    rw [← EReal.coe_one, ← EReal.coe_add, ← EReal.coe_mul]
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v22, val_main_v20, val_main_v21, val_main_v19, val_main_v10, val_main_v9, val_main_cst_1, val_main_cst_5, val_main_cst_16, val_main_cst_17, val_main_cst_18, val_main_cst_19, val_main_cst_20, val_main_cst_21, val_main_cst_22]
  rw [reduceAdd_middle, reduceAdd_middle]
  pointwise [hg, cen_at x1 X hX, cen_at' x1 X hX, var_at x1 X hX, reduceAdd_middle]
  rw [← lnBwd_steps]
  simp only [word_1024, word_two, word_neg_half, rsqrt_coe _ (vari_eps_pos _), ← EReal.coe_mul, ← EReal.coe_add, ← EReal.coe_neg, coe_sum,
    div_coe _ _ (vari_eps_pos (X t)).ne', div_coe _ _ (show (1024 : ℝ) ≠ 0 by norm_num)]
  rfl
end

end Cert.ReferenceIdeal.Values
-- ==== Proof.Finite.lean ====
import proofs.«01_k».proof.Proof.Gen.Pre_finite
import proofs.«01_k».proof.Proof.Reals
import Idealize.ShloMosaic.Lib.ReduceAll

/-! The precondition read back: every element of the four arrays it names is a real number. -/

set_option maxRecDepth 16384

noncomputable section

namespace Cert.Pre_finite.Values

open Idealize.ShloMosaic
open Cert.Pre_finite Cert.Pre_finite.Gen Cert.Reals

theorem of_andi (a b : BitVec 1) (h : IntOp.andi a b = 1#1) : a = 1#1 ∧ b = 1#1 := by
  revert h
  revert a b
  decide

instance : Subsingleton S_.Idx := ⟨fun _ _ => funext fun a => a.elim0⟩

theorem all_real {s : Shape} {axes : List (Fin s.rank)} (x : FVec Ideal s .f32) (b : S_.BroadcastsInDim s (![] : Fin 0 → Fin s.rank)) (r : s.ReducesTo axes S_) (i₀ : S_.Idx)
    (h : Host.reduce IntOp.andi (cmpf .olt (Host.absf x) (broadcastInDim s ![] b (constant S_ .f32 0x7F800000#32 : FVec Ideal S_ .f32))) (constantI S_ 1 1#1) r h_S_ i₀ = 1#1) :
    ∀ i, ∃ y : ℝ, x i = (y : EReal) := by
  intro i
  have h1 := Host.reduce_andi_all _ _ _ _ _ h i
  refine real_of_abs_lt _ ?_
  have h2 : BitVec.ofBool (decide (max (x i) (-(x i)) < Ideal.ofBits .f32 0x7F800000#32)) = 1#1 := h1
  rw [word_inf] at h2
  by_contra hn
  rw [decide_eq_false hn] at h2
  exact absurd h2 (by decide)

theorem reals (D : FVec Ideal S8192x3600 .f32) (x : FVec Ideal S1x8192x1024 .f32) (y : FVec Ideal S8192x1024 .f32) (z : FVec Ideal S1x6144 .f32) (w : FVec Ideal S1x1024x3600 .f32)
    (h : Cert.Pre_finite.fn (F := Ideal) D x y z w = fun _ => 1#1) :
    (∀ i, ∃ r : ℝ, D i = (r : EReal)) ∧ (∀ i, ∃ r : ℝ, x i = (r : EReal)) ∧ (∀ i, ∃ r : ℝ, z i = (r : EReal)) ∧ (∀ i, ∃ r : ℝ, w i = (r : EReal)) := by
  have h0 := congrFun h (Shape.Idx.first h_S_)
  obtain ⟨h1, hw⟩ := of_andi _ _ h0
  obtain ⟨h2, hz⟩ := of_andi _ _ h1
  obtain ⟨hD, hx⟩ := of_andi _ _ h2
  exact ⟨all_real D bcast_S_S8192x3600 reducesTo_S8192x3600_S_d0_1 (Shape.Idx.first h_S_) hD, all_real x bcast_S_S1x8192x1024 reducesTo_S1x8192x1024_S_d0_1_2 (Shape.Idx.first h_S_) hx,
    all_real z bcast_S_S1x6144 reducesTo_S1x6144_S_d0_1 (Shape.Idx.first h_S_) hz, all_real w bcast_S_S1x1024x3600 reducesTo_S1x1024x3600_S_d0_1_2 (Shape.Idx.first h_S_) hw⟩

end Cert.Pre_finite.Values
-- ==== Proof.MlpReals.lean ====
import proofs.«01_k».proof.Proof.Reals

/-! One token's way through the output projection, the first post-norm, the squared-ReLU network, the second
post-norm and the loss, and the gradient back, on real numbers. -/

noncomputable section

namespace Cert.Mlp

open Idealize.ShloMosaic Cert.Reals

/-- The factor of the residual connection. -/
def al : ℝ := 9975792 / 8388608

theorem word_al : Ideal.ofBits .f32 0x3F9837F0#32 = ((al : ℝ) : EReal) := by
  simp [Ideal.ofBits, Ideal.ieee, -EReal.coe_mul, al]; norm_num

theorem word_half : Ideal.ofBits .f32 0x3F000000#32 = ((1 / 2 : ℝ) : EReal) := by
  simp [Ideal.ofBits, Ideal.ieee, -EReal.coe_mul]; norm_num

theorem word_inv1024 : Ideal.ofBits .f32 0x3A800000#32 = ((1 / 1024 : ℝ) : EReal) := by
  simp [Ideal.ofBits, Ideal.ieee, -EReal.coe_mul]; norm_num

theorem max_coe (a b : ℝ) : max (a : EReal) (b : EReal) = ((max a b : ℝ) : EReal) := (EReal.coe_strictMono.monotone.map_max).symm

/-- The parameters: the modulation's rows, the two norms' weights and biases, and the three matrices. -/
structure Par where
  g1 : Fin 1024 → ℝ
  h2 : Fin 1024 → ℝ
  s2 : Fin 1024 → ℝ
  g2 : Fin 1024 → ℝ
  l1w : Fin 1024 → ℝ
  l1b : Fin 1024 → ℝ
  l2w : Fin 1024 → ℝ
  l2b : Fin 1024 → ℝ
  wo : Fin 1024 → Fin 1024 → ℝ
  w1 : Fin 1024 → Fin 4096 → ℝ
  w2 : Fin 4096 → Fin 1024 → ℝ

section
variable (p : Par) (x m t : Fin 1024 → ℝ)

def out (d : Fin 1024) : ℝ := ∑ k, m k * p.wo k d
def z1 (d : Fin 1024) : ℝ := al * x d + p.g1 d * out p m d
def x1 (d : Fin 1024) : ℝ := nrm (z1 p x m) d * p.l1w d + p.l1b d
def u2 (d : Fin 1024) : ℝ := nrm (x1 p x m) d * (1 + p.s2 d) + p.h2 d
def hid (j : Fin 4096) : ℝ := ∑ d, u2 p x m d * p.w1 d j
def rl (j : Fin 4096) : ℝ := max (hid p x m j) 0
def act (j : Fin 4096) : ℝ := rl p x m j * rl p x m j
def ff (d : Fin 1024) : ℝ := ∑ j, act p x m j * p.w2 j d
def z2 (d : Fin 1024) : ℝ := al * x1 p x m d + p.g2 d * ff p x m d
def err (d : Fin 1024) : ℝ := nrm (z2 p x m) d * p.l2w d + p.l2b d - t d
def dy (d : Fin 1024) : ℝ := err p x m t d * (1 / 1024)
def dz2 (d : Fin 1024) : ℝ := lnBwd (z2 p x m) (fun e => dy p x m t e * p.l2w e) d
def df (d : Fin 1024) : ℝ := p.g2 d * dz2 p x m t d
def dh (j : Fin 4096) : ℝ := (∑ d, df p x m t d * p.w2 j d) * (2 * rl p x m j)
def du2 (d : Fin 1024) : ℝ := ∑ j, dh p x m t j * p.w1 d j
def dx1 (d : Fin 1024) : ℝ := al * dz2 p x m t d + lnBwd (x1 p x m) (fun e => du2 p x m t e * (1 + p.s2 e)) d
def dz1 (d : Fin 1024) : ℝ := lnBwd (z1 p x m) (fun e => dx1 p x m t e * p.l1w e) d
def dm (d : Fin 1024) : ℝ := p.g1 d * dz1 p x m t d
def dmx (k : Fin 1024) : ℝ := ∑ d, dm p x m t d * p.wo k d
def dxa (d : Fin 1024) : ℝ := al * dz1 p x m t d

/-- What one token adds to the sixteen rows of sums. -/
def part (i : Fin 16) (d : Fin 1024) : ℝ :=
  if i.val = 0 then dz1 p x m t d * out p m d
  else if i.val = 1 then du2 p x m t d * nrm (x1 p x m) d
  else if i.val = 2 then du2 p x m t d
  else if i.val = 3 then dz2 p x m t d * ff p x m d
  else if i.val = 4 then dx1 p x m t d * nrm (z1 p x m) d
  else if i.val = 5 then dx1 p x m t d
  else if i.val = 6 then dy p x m t d * nrm (z2 p x m) d
  else if i.val = 7 then dy p x m t d
  else if i.val = 8 then err p x m t d * err p x m t d
  else 0
end

end Cert.Mlp
-- ==== Proof.MlpPayload.lean ====
import proofs.«01_k».proof.Proof.Gen.Kernel2Ideal.Skeleton
import proofs.«01_k».proof.Proof.MlpReals
import Idealize.ShloMosaic.Lib.Pipeline.ValueKit

/-! The values of the network's kernel on one block of 256 tokens, each on reals: what every stored
and accumulated array holds at an index. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

/-- The arrays of a block are the reals named. -/
abbrev Is {φ : FTy} (v : FVec Ideal S256x1024 φ) (f : Fin 256 → Fin 1024 → ℝ) : Prop := ∀ r d, v (ix2 r d) = ((f r d : ℝ) : EReal)
abbrev IsCol (v : FVec Ideal S256x1 .f32) (f : Fin 256 → ℝ) : Prop := ∀ r, v (ix2 r 0) = ((f r : ℝ) : EReal)
abbrev IsRow (v : FVec Ideal S1x1024 .f32) (f : Fin 1024 → ℝ) : Prop := ∀ d, v (ix2 0 d) = ((f d : ℝ) : EReal)
abbrev IsSq (v : FVec Ideal S1024x1024 .bf16) (f : Fin 1024 → Fin 1024 → ℝ) : Prop := ∀ k d, v (ix2 k d) = ((f k d : ℝ) : EReal)
abbrev IsMat (v : FVec Ideal S1x1024x1024 .bf16) (f : Fin 1024 → Fin 1024 → ℝ) : Prop := ∀ k d, v (ix3 0 k d) = ((f k d : ℝ) : EReal)

/-- Column `k` of the hidden layer's chunk `c`. -/
def col (c : Fin 4) (k : Fin 1024) : Fin 4096 := ⟨c.val * 1024 + k.val, by omega⟩

/-- A sum over the hidden layer is the sum over its four chunks. -/
theorem sum_chunks (f : Fin 4096 → ℝ) : ∑ k, f (col 0 k) + ∑ k, f (col 1 k) + ∑ k, f (col 2 k) + ∑ k, f (col 3 k) = ∑ j, f j := by
  rw [← Fin.sum_mul_add_fin (n := 1024) (S := 4) f, Fin.sum_univ_four]
  rfl

variable {p : Par} {X M T : Fin 256 → Fin 1024 → ℝ}

/-! ## The output projection and the first norm -/

section
variable {v3 : FVec Ideal S256x1024 .f32} (hX : Is v3 X) {v5 : FVec Ideal S256x1024 .bf16} (hM : Is v5 M)
  {v7 : FVec Ideal S1024x1024 .bf16} (hwo : IsSq v7 p.wo) {v12 : FVec Ideal S1x1024 .f32} (hg1 : IsRow v12 p.g1)

include hM hwo in
theorem pay4_at : Is (k0_pay4 v5 v7) fun r => out p (M r) := fun r d => by
  pointwise [k0_pay4, hM, hwo]
  simp only [← EReal.coe_mul, coe_sum]
  rfl

include hX hM hwo hg1

theorem pay5_at : Is (k0_pay5 v3 v5 v7 v12) fun r => cen (z1 p (X r) (M r)) := fun r d => by
  have h4 := pay4_at hM hwo
  pointwise [k0_pay5, h4, hX, hg1]
  simp only [word_al, word_1024, ← EReal.coe_mul, ← EReal.coe_add, coe_sum, div_coe _ _ (show (1024 : ℝ) ≠ 0 by norm_num), ← EReal.coe_sub]
  rfl

theorem pay6_at : IsCol (k0_pay6 v3 v5 v7 v12) fun r => rs (z1 p (X r) (M r)) := fun r => by
  have h5 := pay5_at hX hM hwo hg1
  pointwise [k0_pay6, h5]
  simp only [← EReal.coe_mul]
  rw [word_1024, word_eps, coe_sum, div_coe _ _ (by norm_num), ← EReal.coe_add]
  exact rsqrt_coe _ (vari_eps_pos _)

theorem pay7_at : Is (k0_pay7 v3 v5 v7 v12) fun r => nrm (z1 p (X r) (M r)) := fun r d => by
  have h5 := pay5_at hX hM hwo hg1
  have h6 := pay6_at hX hM hwo hg1
  pointwise [k0_pay7, h5, h6]
  rw [← EReal.coe_mul]
  rfl

theorem pay8_at {v32 : FVec Ideal S1x1024 .f32} (hl : IsRow v32 p.l1w) :
    Is (k0_pay8 v3 v5 v7 v12 v32) fun r d => nrm (z1 p (X r) (M r)) d * p.l1w d := fun r d => by
  have h7 := pay7_at hX hM hwo hg1
  pointwise [k0_pay8, h7, hl]
  rw [← EReal.coe_mul]
end

/-! ## The normalised token and the hidden layer's input -/

section
variable {v35 : FVec Ideal S256x1024 .f32} (h35 : Is v35 fun r d => nrm (z1 p (X r) (M r)) d * p.l1w d) {v36 : FVec Ideal S1x1024 .f32} (h36 : IsRow v36 p.l1b)
include h35 h36

theorem pay9_at : Is (k0_pay9 v35 v36) fun r => Mlp.x1 p (X r) (M r) := fun r d => by
  pointwise [k0_pay9, h35, h36]
  rw [← EReal.coe_add]
  rfl

theorem pay10_at : Is (k0_pay10 v35 v36) fun r => cen (Mlp.x1 p (X r) (M r)) := fun r d => by
  have h9 := pay9_at h35 h36
  pointwise [k0_pay10, h9]
  rw [word_1024, coe_sum, div_coe _ _ (by norm_num), ← EReal.coe_sub]
  rfl

theorem pay11_at : IsCol (k0_pay11 v35 v36) fun r => rs (Mlp.x1 p (X r) (M r)) := fun r => by
  have h10 := pay10_at h35 h36
  pointwise [k0_pay11, h10]
  simp only [← EReal.coe_mul]
  rw [word_1024, word_eps, coe_sum, div_coe _ _ (by norm_num), ← EReal.coe_add]
  exact rsqrt_coe _ (vari_eps_pos _)

theorem pay12_at : Is (k0_pay12 v35 v36) fun r => nrm (Mlp.x1 p (X r) (M r)) := fun r d => by
  have h10 := pay10_at h35 h36
  have h11 := pay11_at h35 h36
  pointwise [k0_pay12, h10, h11]
  rw [← EReal.coe_mul]
  rfl

variable {v56 : FVec Ideal S1x1024 .f32} (h56 : IsRow v56 p.s2) {v61 : FVec Ideal S1x1024 .f32} (h61 : IsRow v61 p.h2)
include h56 h61

theorem pay13_at : Is (k0_pay13 v35 v36 v56 v61) fun r => u2 p (X r) (M r) := fun r d => by
  have h12 := pay12_at h35 h36
  pointwise [k0_pay13, h12, h56, h61]
  rw [← EReal.coe_one, ← EReal.coe_add, ← EReal.coe_mul, ← EReal.coe_add]
  rfl

theorem pay15_at {v67 : FVec Ideal S1x1024x1024 .bf16} (h67 : IsMat v67 fun d k => p.w1 d (col 0 k)) :
    Is (k0_pay15 v35 v36 v56 v61 v67) fun r k => rl p (X r) (M r) (col 0 k) := fun r k => by
  have h13 := pay13_at h35 h36 h56 h61
  pointwise [k0_pay15, h13, h67]
  simp only [← EReal.coe_zero, ← EReal.coe_mul, coe_sum, max_coe]
  rfl

theorem pay16_at {v67 : FVec Ideal S1x1024x1024 .bf16} (h67 : IsMat v67 fun d k => p.w1 d (col 0 k)) :
    Is (k0_pay16 v35 v36 v56 v61 v67) fun r k => rl p (X r) (M r) (col 0 k) := fun r k => by
  have h15 := pay15_at h35 h36 h56 h61 h67
  pointwise [k0_pay16, h15]
end

/-! ## The hidden layer, chunk by chunk -/

theorem pay17_at {c : Fin 4} {v71 : FVec Ideal S256x1024 .f32} (h71 : Is v71 fun r k => rl p (X r) (M r) (col c k)) :
    Is (k0_pay17 v71) fun r k => act p (X r) (M r) (col c k) := fun r k => by
  pointwise [k0_pay17, h71]
  rw [← EReal.coe_mul]
  rfl

theorem pay24_at {c : Fin 4} {v71 : FVec Ideal S256x1024 .f32} (h71 : Is v71 fun r k => rl p (X r) (M r) (col c k)) :
    Is (k0_pay24 v71) fun r k => act p (X r) (M r) (col c k) := fun r k => by
  pointwise [k0_pay24, h71]
  rw [← EReal.coe_mul]
  rfl

section
variable {c : Fin 4} {v64 : FVec Ideal S256x1024 .bf16} (h64 : Is v64 fun r => u2 p (X r) (M r)) {v82 : FVec Ideal S1x1024x1024 .bf16} (h82 : IsMat v82 fun d k => p.w1 d (col c k))
include h64 h82

theorem pay18_at : Is (k0_pay18 v64 v82) fun r k => rl p (X r) (M r) (col c k) := fun r k => by
  pointwise [k0_pay18, h64, h82]
  simp only [← EReal.coe_zero, ← EReal.coe_mul, coe_sum, max_coe]
  rfl

theorem pay22_at : Is (k0_pay22 v64 v82) fun r k => rl p (X r) (M r) (col c k) := pay18_at h64 h82
theorem pay25_at : Is (k0_pay25 v64 v82) fun r k => rl p (X r) (M r) (col c k) := pay18_at h64 h82

theorem pay19_at : Is (k0_pay19 v64 v82) fun r k => rl p (X r) (M r) (col c k) := fun r k => by
  have h18 := pay18_at h64 h82
  pointwise [k0_pay19, h18]

theorem pay23_at : Is (k0_pay23 v64 v82) fun r k => rl p (X r) (M r) (col c k) := pay19_at h64 h82
theorem pay26_at : Is (k0_pay26 v64 v82) fun r k => rl p (X r) (M r) (col c k) := pay19_at h64 h82

theorem pay20_at : Is (k0_pay20 v64 v82) fun r k => act p (X r) (M r) (col c k) := fun r k => by
  have h18 := pay18_at h64 h82
  pointwise [k0_pay20, h18]
  rw [← EReal.coe_mul]
  rfl

theorem pay27_at : Is (k0_pay27 v64 v82) fun r k => act p (X r) (M r) (col c k) := pay20_at h64 h82
end

section
variable {v64 : FVec Ideal S256x1024 .bf16} (h64 : Is v64 fun r => u2 p (X r) (M r))
include h64

theorem pay21_at {v71 : FVec Ideal S256x1024 .f32} (h71 : Is v71 fun r k => rl p (X r) (M r) (col 0 k)) {v78 v82 v93 : FVec Ideal S1x1024x1024 .bf16}
    (h78 : IsMat v78 fun k d => p.w2 (col 0 k) d) (h82 : IsMat v82 fun d k => p.w1 d (col 1 k)) (h93 : IsMat v93 fun k d => p.w2 (col 1 k) d) :
    Is (k0_pay21 v64 k0_pay14 v71 v78 v82 v93) fun r d => ∑ k, act p (X r) (M r) (col 0 k) * p.w2 (col 0 k) d + ∑ k, act p (X r) (M r) (col 1 k) * p.w2 (col 1 k) d := fun r d => by
  have h17 := pay17_at h71
  have h20 := pay20_at h64 h82
  pointwise [k0_pay21, k0_pay14, h17, h20, h78, h93]
  simp only [← EReal.coe_zero, ← EReal.coe_mul, coe_sum, ← EReal.coe_add, zero_add]

variable {v96 : FVec Ideal S256x1024 .f32} (h96 : Is v96 fun r d => ∑ k, act p (X r) (M r) (col 0 k) * p.w2 (col 0 k) d + ∑ k, act p (X r) (M r) (col 1 k) * p.w2 (col 1 k) d)
  {v101 : FVec Ideal S256x1024 .f32} (h101 : Is v101 fun r k => rl p (X r) (M r) (col 2 k)) {v108 v112 v123 : FVec Ideal S1x1024x1024 .bf16}
  (h108 : IsMat v108 fun k d => p.w2 (col 2 k) d) (h112 : IsMat v112 fun d k => p.w1 d (col 3 k)) (h123 : IsMat v123 fun k d => p.w2 (col 3 k) d)
include h96 h101 h108 h112 h123

theorem pay28_at : Is (k0_pay28 v64 v96 v101 v108 v112 v123) fun r => ff p (X r) (M r) := fun r d => by
  have h24 := pay24_at h101
  have h27 := pay27_at h64 h112
  pointwise [k0_pay28, h24, h27, h96, h108, h123]
  simp only [← EReal.coe_mul, coe_sum, ← EReal.coe_add, EReal.coe_eq_coe_iff]
  exact sum_chunks fun j => act p (X r) (M r) j * p.w2 j d

variable {v39 : FVec Ideal S256x1024 .f32} (h39 : Is v39 fun r => Mlp.x1 p (X r) (M r)) {v129 : FVec Ideal S1x1024 .f32} (h129 : IsRow v129 p.g2)
include h39 h129

theorem pay29_at : Is (k0_pay29 v39 v64 v96 v101 v108 v112 v123 v129) fun r => z2 p (X r) (M r) := fun r d => by
  have h28 := pay28_at h64 h96 h101 h108 h112 h123
  pointwise [k0_pay29, h28, h39, h129]
  simp only [word_al, ← EReal.coe_mul, ← EReal.coe_add]
  rfl

theorem pay30_at : Is (k0_pay30 v39 v64 v96 v101 v108 v112 v123 v129) fun r _ => mu (z2 p (X r) (M r)) := fun r d => by
  have h29 := pay29_at h64 h96 h101 h108 h112 h123 h39 h129
  pointwise [k0_pay30, h29]
  rw [word_1024, coe_sum, div_coe _ _ (by norm_num)]
  rfl
end

/-! ## The second norm, the loss and the gradient of the second norm -/

section
variable {v132 v137 : FVec Ideal S256x1024 .f32} (h132 : Is v132 fun r => z2 p (X r) (M r)) (h137 : Is v137 fun r _ => mu (z2 p (X r) (M r)))
include h132 h137

theorem pay31_at : Is (k0_pay31 v132 v137) fun r => cen (z2 p (X r) (M r)) := fun r d => by
  pointwise [k0_pay31, h132, h137]
  rw [← EReal.coe_sub]
  rfl

theorem pay32_at : IsCol (k0_pay32 v132 v137) fun r => rs (z2 p (X r) (M r)) := fun r => by
  have h31 := pay31_at h132 h137
  pointwise [k0_pay32, h31]
  simp only [← EReal.coe_mul]
  rw [word_1024, word_eps, coe_sum, div_coe _ _ (by norm_num), ← EReal.coe_add]
  exact rsqrt_coe _ (vari_eps_pos _)

theorem pay33_at : Is (k0_pay33 v132 v137) fun r => nrm (z2 p (X r) (M r)) := fun r d => by
  have h31 := pay31_at h132 h137
  have h32 := pay32_at h132 h137
  pointwise [k0_pay33, h31, h32]
  rw [← EReal.coe_mul]
  rfl

variable {v149 v153 : FVec Ideal S1x1024 .f32} (h149 : IsRow v149 p.l2w) (h153 : IsRow v153 p.l2b) {v157 : FVec Ideal S256x1024 .f32} (hT : Is v157 T)
include h149 h153 hT

theorem pay34_at : Is (k0_pay34 v132 v137 v149 v153 v157) fun r => err p (X r) (M r) (T r) := fun r d => by
  have h33 := pay33_at h132 h137
  pointwise [k0_pay34, h33, h149, h153, hT]
  rw [← EReal.coe_mul, ← EReal.coe_add, ← EReal.coe_sub]
  rfl

theorem pay36_at : Is (k0_pay36 v132 v137 v149 v153 v157) fun r => dy p (X r) (M r) (T r) := fun r d => by
  have h34 := pay34_at h132 h137 h149 h153 hT
  pointwise [k0_pay36, h34]
  rw [word_inv1024, ← EReal.coe_mul]
  rfl

theorem pay35_at (v : FVec Ideal S1x1024 .f32) (d : Fin 1024) :
    k0_pay35 v132 v137 v149 v153 v157 v (ix2 0 d) = v (ix2 0 d) + ((∑ r, part p (X r) (M r) (T r) 8 d : ℝ) : EReal) := by
  have h34 := pay34_at h132 h137 h149 h153 hT
  pointwise [k0_pay35, h34]
  simp only [← EReal.coe_mul, coe_sum]
  rfl

theorem pay37_at (v : FVec Ideal S1x1024 .f32) (d : Fin 1024) :
    k0_pay37 v132 v137 v149 v153 v157 v (ix2 0 d) = v (ix2 0 d) + ((∑ r, part p (X r) (M r) (T r) 6 d : ℝ) : EReal) := by
  have h36 := pay36_at h132 h137 h149 h153 hT
  have h33 := pay33_at h132 h137
  pointwise [k0_pay37, h36, h33]
  simp only [← EReal.coe_mul, coe_sum]
  rfl
end

theorem pay38_at {v168 : FVec Ideal S256x1024 .f32} (h168 : Is v168 fun r => dy p (X r) (M r) (T r)) (v : FVec Ideal S1x1024 .f32) (d : Fin 1024) :
    k0_pay38 v168 v (ix2 0 d) = v (ix2 0 d) + ((∑ r, part p (X r) (M r) (T r) 7 d : ℝ) : EReal) := by
  pointwise [k0_pay38, h168]
  rw [coe_sum]
  rfl

section
variable {v146 : FVec Ideal S256x1 .f32} (h146 : IsCol v146 fun r => rs (z2 p (X r) (M r))) {v148 : FVec Ideal S256x1024 .f32} (h148 : Is v148 fun r => nrm (z2 p (X r) (M r)))
  {v168 : FVec Ideal S256x1024 .f32} (h168 : Is v168 fun r => dy p (X r) (M r) (T r)) {v182 : FVec Ideal S1x1024 .f32} (h182 : IsRow v182 p.l2w)
include h146 h148 h168 h182

theorem pay39_at : Is (k0_pay39 v146 v148 v168 v182) fun r => dz2 p (X r) (M r) (T r) := fun r d => by
  pointwise [k0_pay39, h146, h148, h168, h182]
  simp only [word_1024, ← EReal.coe_mul, ← EReal.coe_add, ← EReal.coe_sub, coe_sum, div_coe _ _ (show (1024 : ℝ) ≠ 0 by norm_num)]
  rfl

theorem pay40_at {v126 : FVec Ideal S256x1024 .f32} (h126 : Is v126 fun r => ff p (X r) (M r)) (v : FVec Ideal S1x1024 .f32) (d : Fin 1024) :
    k0_pay40 v126 v146 v148 v168 v182 v (ix2 0 d) = v (ix2 0 d) + ((∑ r, part p (X r) (M r) (T r) 3 d : ℝ) : EReal) := by
  have h39 := pay39_at h146 h148 h168 h182
  pointwise [k0_pay40, h39, h126]
  simp only [← EReal.coe_mul, coe_sum]
  rfl

theorem pay41_at {v209 : FVec Ideal S1x1024 .f32} (h209 : IsRow v209 p.g2) : Is (k0_pay41 v146 v148 v168 v182 v209) fun r => df p (X r) (M r) (T r) := fun r d => by
  have h39 := pay39_at h146 h148 h168 h182
  pointwise [k0_pay41, h39, h209]
  rw [← EReal.coe_mul]
  rfl
end

/-! ## The hidden layer's gradient, chunk by chunk -/

section
variable {v212 : FVec Ideal S256x1024 .bf16} (h212 : Is v212 fun r => df p (X r) (M r) (T r))
include h212

theorem pay42_at {c : Fin 4} {w : FVec Ideal S1x1024x1024 .bf16} (hw : IsMat w fun k d => p.w2 (col c k) d) {v : FVec Ideal S256x1024 .f32}
    (hv : Is v fun r k => rl p (X r) (M r) (col c k)) : Is (k0_pay42 v212 w v) fun r k => dh p (X r) (M r) (T r) (col c k) := fun r k => by
  pointwise [k0_pay42, h212, hw, hv]
  simp only [word_two, ← EReal.coe_mul, coe_sum]
  rfl

theorem pay43_at {c : Fin 4} {w : FVec Ideal S1x1024x1024 .bf16} (hw : IsMat w fun k d => p.w2 (col c k) d) {v : FVec Ideal S256x1024 .f32}
    (hv : Is v fun r k => rl p (X r) (M r) (col c k)) : Is (k0_pay43 v212 w v) fun r k => dh p (X r) (M r) (T r) (col c k) := pay42_at h212 hw hv
theorem pay45_at {c : Fin 4} {w : FVec Ideal S1x1024x1024 .bf16} (hw : IsMat w fun k d => p.w2 (col c k) d) {v : FVec Ideal S256x1024 .f32}
    (hv : Is v fun r k => rl p (X r) (M r) (col c k)) : Is (k0_pay45 v212 w v) fun r k => dh p (X r) (M r) (T r) (col c k) := pay42_at h212 hw hv
theorem pay46_at {c : Fin 4} {w : FVec Ideal S1x1024x1024 .bf16} (hw : IsMat w fun k d => p.w2 (col c k) d) {v : FVec Ideal S256x1024 .f32}
    (hv : Is v fun r k => rl p (X r) (M r) (col c k)) : Is (k0_pay46 v212 w v) fun r k => dh p (X r) (M r) (T r) (col c k) := pay42_at h212 hw hv

theorem pay44_at {a0 b0 a1 b1 : FVec Ideal S1x1024x1024 .bf16} (ha0 : IsMat a0 fun k d => p.w2 (col 0 k) d) (hb0 : IsMat b0 fun d k => p.w1 d (col 0 k))
    (ha1 : IsMat a1 fun k d => p.w2 (col 1 k) d) (hb1 : IsMat b1 fun d k => p.w1 d (col 1 k)) {r0 r1 : FVec Ideal S256x1024 .f32}
    (h0 : Is r0 fun r k => rl p (X r) (M r) (col 0 k)) (h1 : Is r1 fun r k => rl p (X r) (M r) (col 1 k)) :
    Is (k0_pay44 v212 a0 r0 b0 a1 r1 b1) fun r d => ∑ k, dh p (X r) (M r) (T r) (col 0 k) * p.w1 d (col 0 k) + ∑ k, dh p (X r) (M r) (T r) (col 1 k) * p.w1 d (col 1 k) := fun r d => by
  have h42 := pay42_at h212 ha0 h0
  have h43 := pay43_at h212 ha1 h1
  pointwise [k0_pay44, h42, h43, hb0, hb1]
  simp only [← EReal.coe_zero, ← EReal.coe_mul, coe_sum, ← EReal.coe_add, zero_add]

variable {v240 : FVec Ideal S256x1024 .f32}
  (h240 : Is v240 fun r d => ∑ k, dh p (X r) (M r) (T r) (col 0 k) * p.w1 d (col 0 k) + ∑ k, dh p (X r) (M r) (T r) (col 1 k) * p.w1 d (col 1 k))
  {a2 b2 a3 b3 : FVec Ideal S1x1024x1024 .bf16} (ha2 : IsMat a2 fun k d => p.w2 (col 2 k) d) (hb2 : IsMat b2 fun d k => p.w1 d (col 2 k))
  (ha3 : IsMat a3 fun k d => p.w2 (col 3 k) d) (hb3 : IsMat b3 fun d k => p.w1 d (col 3 k)) {r2 r3 : FVec Ideal S256x1024 .f32}
  (h2 : Is r2 fun r k => rl p (X r) (M r) (col 2 k)) (h3 : Is r3 fun r k => rl p (X r) (M r) (col 3 k))
include h240 ha2 hb2 ha3 hb3 h2 h3

theorem pay47_at : Is (k0_pay47 v212 v240 a2 r2 b2 a3 r3 b3) fun r => du2 p (X r) (M r) (T r) := fun r d => by
  have h45 := pay45_at h212 ha2 h2
  have h46 := pay46_at h212 ha3 h3
  pointwise [k0_pay47, h45, h46, h240, hb2, hb3]
  simp only [← EReal.coe_mul, coe_sum, ← EReal.coe_add, EReal.coe_eq_coe_iff]
  exact sum_chunks fun j => dh p (X r) (M r) (T r) j * p.w1 d j

theorem pay48_at {v55 : FVec Ideal S256x1024 .f32} (h55 : Is v55 fun r => nrm (Mlp.x1 p (X r) (M r))) (v : FVec Ideal S1x1024 .f32) (d : Fin 1024) :
    k0_pay48 v55 v212 v240 a2 r2 b2 a3 r3 b3 v (ix2 0 d) = v (ix2 0 d) + ((∑ r, part p (X r) (M r) (T r) 1 d : ℝ) : EReal) := by
  have h47 := pay47_at h212 h240 ha2 hb2 ha3 hb3 h2 h3
  pointwise [k0_pay48, h47, h55]
  simp only [← EReal.coe_mul, coe_sum]
  rfl
end

theorem pay49_at {v266 : FVec Ideal S256x1024 .f32} (h266 : Is v266 fun r => du2 p (X r) (M r) (T r)) (v : FVec Ideal S1x1024 .f32) (d : Fin 1024) :
    k0_pay49 v266 v (ix2 0 d) = v (ix2 0 d) + ((∑ r, part p (X r) (M r) (T r) 2 d : ℝ) : EReal) := by
  pointwise [k0_pay49, h266]
  rw [coe_sum]
  rfl

/-! ## The gradients of the first norm and of the output projection -/

section
variable {v53 : FVec Ideal S256x1 .f32} (h53 : IsCol v53 fun r => rs (Mlp.x1 p (X r) (M r))) {v55 : FVec Ideal S256x1024 .f32} (h55 : Is v55 fun r => nrm (Mlp.x1 p (X r) (M r)))
  {v201 : FVec Ideal S256x1024 .f32} (h201 : Is v201 fun r => dz2 p (X r) (M r) (T r)) {v266 : FVec Ideal S256x1024 .f32} (h266 : Is v266 fun r => du2 p (X r) (M r) (T r))
  {v282 : FVec Ideal S1x1024 .f32} (h282 : IsRow v282 p.s2)
include h53 h55 h201 h266 h282

theorem pay50_at : Is (k0_pay50 v53 v55 v201 v266 v282) fun r => dx1 p (X r) (M r) (T r) := fun r d => by
  pointwise [k0_pay50, h53, h55, h201, h266, h282]
  simp only [word_al, ← EReal.coe_one, word_1024, ← EReal.coe_mul, ← EReal.coe_add, ← EReal.coe_sub, coe_sum, div_coe _ _ (show (1024 : ℝ) ≠ 0 by norm_num)]
  rfl

theorem pay51_at {v31 : FVec Ideal S256x1024 .f32} (h31 : Is v31 fun r => nrm (z1 p (X r) (M r))) (v : FVec Ideal S1x1024 .f32) (d : Fin 1024) :
    k0_pay51 v31 v53 v55 v201 v266 v282 v (ix2 0 d) = v (ix2 0 d) + ((∑ r, part p (X r) (M r) (T r) 4 d : ℝ) : EReal) := by
  have h50 := pay50_at h53 h55 h201 h266 h282
  pointwise [k0_pay51, h50, h31]
  simp only [← EReal.coe_mul, coe_sum]
  rfl
end

section
variable {v303 : FVec Ideal S256x1024 .f32} (h303 : Is v303 fun r => dx1 p (X r) (M r) (T r))
include h303

theorem pay52_at (v : FVec Ideal S1x1024 .f32) (d : Fin 1024) :
    k0_pay52 v303 v (ix2 0 d) = v (ix2 0 d) + ((∑ r, part p (X r) (M r) (T r) 5 d : ℝ) : EReal) := by
  pointwise [k0_pay52, h303]
  rw [coe_sum]
  rfl

variable {v29 : FVec Ideal S256x1 .f32} (h29 : IsCol v29 fun r => rs (z1 p (X r) (M r))) {v31 : FVec Ideal S256x1024 .f32} (h31 : Is v31 fun r => nrm (z1 p (X r) (M r)))
  {v317 : FVec Ideal S1x1024 .f32} (h317 : IsRow v317 p.l1w)
include h29 h31 h317

theorem pay53_at : Is (k0_pay53 v29 v31 v303 v317) fun r => dz1 p (X r) (M r) (T r) := fun r d => by
  pointwise [k0_pay53, h29, h31, h303, h317]
  simp only [word_1024, ← EReal.coe_mul, ← EReal.coe_add, ← EReal.coe_sub, coe_sum, div_coe _ _ (show (1024 : ℝ) ≠ 0 by norm_num)]
  rfl

theorem pay54_at {v9 : FVec Ideal S256x1024 .f32} (h9 : Is v9 fun r => out p (M r)) (v : FVec Ideal S1x1024 .f32) (d : Fin 1024) :
    k0_pay54 v9 v29 v31 v303 v317 v (ix2 0 d) = v (ix2 0 d) + ((∑ r, part p (X r) (M r) (T r) 0 d : ℝ) : EReal) := by
  have h53 := pay53_at h303 h29 h31 h317
  pointwise [k0_pay54, h53, h9]
  simp only [← EReal.coe_mul, coe_sum]
  rfl

theorem pay55_at : Is (k0_pay55 v29 v31 v303 v317) fun r => dxa p (X r) (M r) (T r) := fun r d => by
  have h53 := pay53_at h303 h29 h31 h317
  pointwise [k0_pay55, h53]
  rw [word_al, ← EReal.coe_mul]
  rfl
end

section
variable {v336 : FVec Ideal S256x1024 .f32} (h336 : Is v336 fun r => dz1 p (X r) (M r) (T r)) {v347 : FVec Ideal S1x1024 .f32} (h347 : IsRow v347 p.g1)
include h336 h347

theorem pay1_at : Is (k0_pay1 v336 v347) fun r => dm p (X r) (M r) (T r) := fun r d => by
  pointwise [k0_pay1, h336, h347]
  rw [← EReal.coe_mul]
  rfl

theorem pay2_at {v352 : FVec Ideal S1024x1024 .bf16} (hwo : IsSq v352 p.wo) : Is (k0_pay2 v336 v347 v352) fun r => dmx p (X r) (M r) (T r) := fun r d => by
  have h1 := pay1_at h336 h347
  pointwise [k0_pay2, h1, hwo]
  simp only [← EReal.coe_mul, coe_sum]
  rfl
end

end Cert.Kernel2Ideal.Values
-- ==== Proof.MlpBlocks.lean ====
import proofs.«01_k».proof.Proof.Gen.Kernel2Ideal.Value
import proofs.«01_k».proof.Proof.MlpPayload
import Idealize.ShloMosaic.Lib.WritesUnit
import Idealize.ShloMosaic.Lib.Pipeline.ReadBack

/-! The blocks the network's kernel reads at a point of its grid, and every value it computes of
them, each named once and each on reals. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

/-- The blocks of a point: the tokens, the mixer's output, the target, the output projection, the
rows of the modulation and of the norms, and the four chunks of the two layers. -/
structure Blks where
  x : FVec Ideal S256x1024 .f32
  mx : FVec Ideal S256x1024 .bf16
  tg : FVec Ideal S256x1024 .f32
  wo : FVec Ideal S1024x1024 .bf16
  (g1 h2 s2 g2 l1w l1b l2w l2b : FVec Ideal S1x1024 .f32)
  (a0 a1 a2 a3 b0 b1 b2 b3 : FVec Ideal S1x1024x1024 .bf16)

/-- The blocks hold the reals named. -/
structure Blks.Ok (B : Blks) (p : Par) (X M T : Fin 256 → Fin 1024 → ℝ) : Prop where
  x : Is B.x X
  mx : Is B.mx M
  tg : Is B.tg T
  wo : IsSq B.wo p.wo
  g1 : IsRow B.g1 p.g1
  h2 : IsRow B.h2 p.h2
  s2 : IsRow B.s2 p.s2
  g2 : IsRow B.g2 p.g2
  l1w : IsRow B.l1w p.l1w
  l1b : IsRow B.l1b p.l1b
  l2w : IsRow B.l2w p.l2w
  l2b : IsRow B.l2b p.l2b
  a0 : IsMat B.a0 fun d k => p.w1 d (col 0 k)
  a1 : IsMat B.a1 fun d k => p.w1 d (col 1 k)
  a2 : IsMat B.a2 fun d k => p.w1 d (col 2 k)
  a3 : IsMat B.a3 fun d k => p.w1 d (col 3 k)
  b0 : IsMat B.b0 fun k d => p.w2 (col 0 k) d
  b1 : IsMat B.b1 fun k d => p.w2 (col 1 k) d
  b2 : IsMat B.b2 fun k d => p.w2 (col 2 k) d
  b3 : IsMat B.b3 fun k d => p.w2 (col 3 k) d

namespace Blks

def v29 (B : Blks) : FVec Ideal S256x1 .f32 := k0_pay6 B.x B.mx B.wo B.g1
def v31 (B : Blks) : FVec Ideal S256x1024 .f32 := k0_pay7 B.x B.mx B.wo B.g1
def v35 (B : Blks) : FVec Ideal S256x1024 .f32 := k0_pay8 B.x B.mx B.wo B.g1 B.l1w
def v39 (B : Blks) : FVec Ideal S256x1024 .f32 := k0_pay9 B.v35 B.l1b
def v53 (B : Blks) : FVec Ideal S256x1 .f32 := k0_pay11 B.v35 B.l1b
def v55 (B : Blks) : FVec Ideal S256x1024 .f32 := k0_pay12 B.v35 B.l1b
def v64 (B : Blks) : FVec Ideal S256x1024 .bf16 := k0_pay13 B.v35 B.l1b B.s2 B.h2
def v71 (B : Blks) : FVec Ideal S256x1024 .f32 := k0_pay15 B.v35 B.l1b B.s2 B.h2 B.a0
def v96 (B : Blks) : FVec Ideal S256x1024 .f32 := k0_pay21 B.v64 k0_pay14 B.v71 B.b0 B.a1 B.b1
def v101 (B : Blks) : FVec Ideal S256x1024 .f32 := k0_pay22 B.v64 B.a2
def v126 (B : Blks) : FVec Ideal S256x1024 .f32 := k0_pay28 B.v64 B.v96 B.v101 B.b2 B.a3 B.b3
def v132 (B : Blks) : FVec Ideal S256x1024 .f32 := k0_pay29 B.v39 B.v64 B.v96 B.v101 B.b2 B.a3 B.b3 B.g2
def v137 (B : Blks) : FVec Ideal S256x1024 .f32 := k0_pay30 B.v39 B.v64 B.v96 B.v101 B.b2 B.a3 B.b3 B.g2
def v146 (B : Blks) : FVec Ideal S256x1 .f32 := k0_pay32 B.v132 B.v137
def v148 (B : Blks) : FVec Ideal S256x1024 .f32 := k0_pay33 B.v132 B.v137
def v168 (B : Blks) : FVec Ideal S256x1024 .f32 := k0_pay36 B.v132 B.v137 B.l2w B.l2b B.tg
def v201 (B : Blks) : FVec Ideal S256x1024 .f32 := k0_pay39 B.v146 B.v148 B.v168 B.l2w
def v212 (B : Blks) : FVec Ideal S256x1024 .bf16 := k0_pay41 B.v146 B.v148 B.v168 B.l2w B.g2

/-- The columns of each chunk of the hidden layer. -/
abbrev cols0 : Rect S256x4096 := Rect.unit ![0, 0] ![256, 1024] inb_S256x4096_S256x1024_0_0
abbrev cols1 : Rect S256x4096 := Rect.unit ![0, 1024] ![256, 1024] inb_S256x4096_S256x1024_0_1024
abbrev cols2 : Rect S256x4096 := Rect.unit ![0, 2048] ![256, 1024] inb_S256x4096_S256x1024_0_2048
abbrev cols3 : Rect S256x4096 := Rect.unit ![0, 3072] ![256, 1024] inb_S256x4096_S256x1024_0_3072

/-- The four chunks of the hidden layer as they are kept on chip, the last one stored first. -/
def kept (B : Blks) : List (View.Piece (Elt Ideal) S256x4096 .f32) :=
  [⟨cols3, k0_pay26 B.v64 B.a3⟩,
    ⟨cols2, k0_pay23 B.v64 B.a2⟩,
    ⟨cols1, k0_pay19 B.v64 B.a1⟩,
    ⟨cols0, k0_pay16 B.v35 B.l1b B.s2 B.h2 B.a0⟩]

def r0 (B : Blks) : FVec Ideal S256x1024 .f32 := (View.whole cc0_scratch0).readCov B.kept cols0.toLoadRect
def r1 (B : Blks) : FVec Ideal S256x1024 .f32 := (View.whole cc0_scratch0).readCov B.kept cols1.toLoadRect
def r2 (B : Blks) : FVec Ideal S256x1024 .f32 := (View.whole cc0_scratch0).readCov B.kept cols2.toLoadRect
def r3 (B : Blks) : FVec Ideal S256x1024 .f32 := (View.whole cc0_scratch0).readCov B.kept cols3.toLoadRect

def v240 (B : Blks) : FVec Ideal S256x1024 .f32 := k0_pay44 B.v212 B.b0 B.r0 B.a0 B.b1 B.r1 B.a1
def v266 (B : Blks) : FVec Ideal S256x1024 .f32 := k0_pay47 B.v212 B.v240 B.b2 B.r2 B.a2 B.b3 B.r3 B.a3
def v303 (B : Blks) : FVec Ideal S256x1024 .f32 := k0_pay50 B.v53 B.v55 B.v201 B.v266 B.s2
def v336 (B : Blks) : FVec Ideal S256x1024 .f32 := k0_pay53 B.v29 B.v31 B.v303 B.l1w

variable {B : Blks} {p : Par} {X M T : Fin 256 → Fin 1024 → ℝ} (h : B.Ok p X M T)
include h

theorem is29 : IsCol B.v29 fun r => rs (z1 p (X r) (M r)) := pay6_at h.x h.mx h.wo h.g1
theorem is31 : Is B.v31 fun r => nrm (z1 p (X r) (M r)) := pay7_at h.x h.mx h.wo h.g1
theorem is35 : Is B.v35 fun r d => nrm (z1 p (X r) (M r)) d * p.l1w d := pay8_at h.x h.mx h.wo h.g1 h.l1w
theorem is39 : Is B.v39 fun r => Mlp.x1 p (X r) (M r) := pay9_at (is35 h) h.l1b
theorem is53 : IsCol B.v53 fun r => rs (Mlp.x1 p (X r) (M r)) := pay11_at (is35 h) h.l1b
theorem is55 : Is B.v55 fun r => nrm (Mlp.x1 p (X r) (M r)) := pay12_at (is35 h) h.l1b
theorem is64 : Is B.v64 fun r => u2 p (X r) (M r) := pay13_at (is35 h) h.l1b h.s2 h.h2
theorem is71 : Is B.v71 fun r k => rl p (X r) (M r) (col 0 k) := pay15_at (is35 h) h.l1b h.s2 h.h2 h.a0
theorem is96 : Is B.v96 fun r d => ∑ k, act p (X r) (M r) (col 0 k) * p.w2 (col 0 k) d + ∑ k, act p (X r) (M r) (col 1 k) * p.w2 (col 1 k) d :=
  pay21_at (is64 h) (is71 h) h.b0 h.a1 h.b1
theorem is101 : Is B.v101 fun r k => rl p (X r) (M r) (col 2 k) := pay22_at (is64 h) h.a2
theorem is126 : Is B.v126 fun r => ff p (X r) (M r) := pay28_at (is64 h) (is96 h) (is101 h) h.b2 h.a3 h.b3
theorem is132 : Is B.v132 fun r => z2 p (X r) (M r) := pay29_at (is64 h) (is96 h) (is101 h) h.b2 h.a3 h.b3 (is39 h) h.g2
theorem is137 : Is B.v137 fun r _ => mu (z2 p (X r) (M r)) := pay30_at (is64 h) (is96 h) (is101 h) h.b2 h.a3 h.b3 (is39 h) h.g2
theorem is146 : IsCol B.v146 fun r => rs (z2 p (X r) (M r)) := pay32_at (is132 h) (is137 h)
theorem is148 : Is B.v148 fun r => nrm (z2 p (X r) (M r)) := pay33_at (is132 h) (is137 h)
theorem is168 : Is B.v168 fun r => dy p (X r) (M r) (T r) := pay36_at (is132 h) (is137 h) h.l2w h.l2b h.tg
theorem is201 : Is B.v201 fun r => dz2 p (X r) (M r) (T r) := pay39_at (is146 h) (is148 h) (is168 h) h.l2w
theorem is212 : Is B.v212 fun r => df p (X r) (M r) (T r) := pay41_at (is146 h) (is148 h) (is168 h) h.l2w h.g2

theorem isR0 : Is B.r0 fun r k => rl p (X r) (M r) (col 0 k) := by
  unfold r0 kept
  rw [View.readCov_skip _ _ _ _ _ (by decide), View.readCov_skip _ _ _ _ _ (by decide), View.readCov_skip _ _ _ _ _ (by decide), View.readCov_cons_toLoadRect]
  exact pay16_at (is35 h) h.l1b h.s2 h.h2 h.a0

theorem isR1 : Is B.r1 fun r k => rl p (X r) (M r) (col 1 k) := by
  unfold r1 kept
  rw [View.readCov_skip _ _ _ _ _ (by decide), View.readCov_skip _ _ _ _ _ (by decide), View.readCov_cons_toLoadRect]
  exact pay19_at (is64 h) h.a1

theorem isR2 : Is B.r2 fun r k => rl p (X r) (M r) (col 2 k) := by
  unfold r2 kept
  rw [View.readCov_skip _ _ _ _ _ (by decide), View.readCov_cons_toLoadRect]
  exact pay23_at (is64 h) h.a2

theorem isR3 : Is B.r3 fun r k => rl p (X r) (M r) (col 3 k) := by
  unfold r3 kept
  rw [View.readCov_cons_toLoadRect]
  exact pay26_at (is64 h) h.a3

theorem is240 : Is B.v240 fun r d => ∑ k, dh p (X r) (M r) (T r) (col 0 k) * p.w1 d (col 0 k) + ∑ k, dh p (X r) (M r) (T r) (col 1 k) * p.w1 d (col 1 k) :=
  pay44_at (is212 h) h.b0 h.a0 h.b1 h.a1 (isR0 h) (isR1 h)
theorem is266 : Is B.v266 fun r => du2 p (X r) (M r) (T r) := pay47_at (is212 h) (is240 h) h.b2 h.a2 h.b3 h.a3 (isR2 h) (isR3 h)
theorem is303 : Is B.v303 fun r => dx1 p (X r) (M r) (T r) := pay50_at (is53 h) (is55 h) (is201 h) (is266 h) h.s2
theorem is336 : Is B.v336 fun r => dz1 p (X r) (M r) (T r) := pay53_at (is303 h) (is29 h) (is31 h) h.l1w

end Blks

end Cert.Kernel2Ideal.Values
-- ==== Proof.MlpReads.lean ====
import proofs.«01_k».proof.Proof.Gen.Kernel2Ideal.Value
import proofs.«01_k».proof.Proof.MlpBlocks
import Idealize.ShloMosaic.Lib.WritesUnit
import Idealize.ShloMosaic.Lib.Pipeline.ReadBack

/-! What the network's kernel reads at a point of its grid, from the arrays it is given. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

/-! ## What a point reads -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0] ∧ win0_7.index t = ![0, 0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![0, 0] :=
  (by decide +kernel : ∀ t : Fin grid0.N, _)

/-- Row `r` of point `t`'s block. -/
def row (t : Fin cfg0.N) (r : Fin 256) : Fin 8192 := ⟨t.val * 256 + r.val, by have := t.isLt; have : cfg0.N = 32 := rfl; omega⟩

/-- The blocks point `t` reads. -/
def blk (t : Fin cfg0.N) : Blks where
  x := iblk m c 0 t
  mx := iblk m c 1 t
  tg := iblk m c 2 t
  wo := iblk m c 5 t
  g1 := View.ld (iblk m c 3 t) (Rect.unit ![0, 2048] ![1, 1024] inb_S1x6144_S1x1024_0_2048)
  h2 := View.ld (iblk m c 3 t) (Rect.unit ![0, 3072] ![1, 1024] inb_S1x6144_S1x1024_0_3072)
  s2 := View.ld (iblk m c 3 t) (Rect.unit ![0, 4096] ![1, 1024] inb_S1x6144_S1x1024_0_4096)
  g2 := View.ld (iblk m c 3 t) (Rect.unit ![0, 5120] ![1, 1024] inb_S1x6144_S1x1024_0_5120)
  l1w := View.ld (iblk m c 4 t) (Rect.unit ![0, 0] ![1, 1024] inb_S4x1024_S1x1024_0_0)
  l1b := View.ld (iblk m c 4 t) (Rect.unit ![1, 0] ![1, 1024] inb_S4x1024_S1x1024_1_0)
  l2w := View.ld (iblk m c 4 t) (Rect.unit ![2, 0] ![1, 1024] inb_S4x1024_S1x1024_2_0)
  l2b := View.ld (iblk m c 4 t) (Rect.unit ![3, 0] ![1, 1024] inb_S4x1024_S1x1024_3_0)
  a0 := View.ld (iblk m c 6 t) (Rect.unit ![0, 0, 0] ![1, 1024, 1024] inb_S4x1024x1024_S1x1024x1024_0_0_0)
  a1 := View.ld (iblk m c 6 t) (Rect.unit ![1, 0, 0] ![1, 1024, 1024] inb_S4x1024x1024_S1x1024x1024_1_0_0)
  a2 := View.ld (iblk m c 6 t) (Rect.unit ![2, 0, 0] ![1, 1024, 1024] inb_S4x1024x1024_S1x1024x1024_2_0_0)
  a3 := View.ld (iblk m c 6 t) (Rect.unit ![3, 0, 0] ![1, 1024, 1024] inb_S4x1024x1024_S1x1024x1024_3_0_0)
  b0 := View.ld (iblk m c 7 t) (Rect.unit ![0, 0, 0] ![1, 1024, 1024] inb_S4x1024x1024_S1x1024x1024_0_0_0)
  b1 := View.ld (iblk m c 7 t) (Rect.unit ![1, 0, 0] ![1, 1024, 1024] inb_S4x1024x1024_S1x1024x1024_1_0_0)
  b2 := View.ld (iblk m c 7 t) (Rect.unit ![2, 0, 0] ![1, 1024, 1024] inb_S4x1024x1024_S1x1024x1024_2_0_0)
  b3 := View.ld (iblk m c 7 t) (Rect.unit ![3, 0, 0] ![1, 1024, 1024] inb_S4x1024x1024_S1x1024x1024_3_0_0)

/-- The arrays the kernel is given hold the reals named. -/
structure Ins (p : Par) (X M T : Fin 8192 → Fin 1024 → ℝ) : Prop where
  x : ∀ t d, V m c main_v15 (ix2 t d) = ((X t d : ℝ) : EReal)
  mx : ∀ t d, V m c main_v16 (ix2 t d) = ((M t d : ℝ) : EReal)
  tg : ∀ t d, V m c main_v17 (ix2 t d) = ((T t d : ℝ) : EReal)
  wo : ∀ k d, V m c main_v19 (ix2 k d) = ((p.wo k d : ℝ) : EReal)
  g1 : ∀ d : Fin 1024, V m c main_arg3 (ix2 0 (⟨2048 + d.val, by omega⟩ : Fin 6144)) = ((p.g1 d : ℝ) : EReal)
  h2 : ∀ d : Fin 1024, V m c main_arg3 (ix2 0 (⟨3072 + d.val, by omega⟩ : Fin 6144)) = ((p.h2 d : ℝ) : EReal)
  s2 : ∀ d : Fin 1024, V m c main_arg3 (ix2 0 (⟨4096 + d.val, by omega⟩ : Fin 6144)) = ((p.s2 d : ℝ) : EReal)
  g2 : ∀ d : Fin 1024, V m c main_arg3 (ix2 0 (⟨5120 + d.val, by omega⟩ : Fin 6144)) = ((p.g2 d : ℝ) : EReal)
  l1w : ∀ d, V m c main_v0 (ix2 0 d) = ((p.l1w d : ℝ) : EReal)
  l1b : ∀ d, V m c main_v0 (ix2 1 d) = ((p.l1b d : ℝ) : EReal)
  l2w : ∀ d, V m c main_v0 (ix2 2 d) = ((p.l2w d : ℝ) : EReal)
  l2b : ∀ d, V m c main_v0 (ix2 3 d) = ((p.l2b d : ℝ) : EReal)
  w1 : ∀ (j : Fin 4) d k, V m c main_v13 (ix3 j d k) = ((p.w1 d (col j k) : ℝ) : EReal)
  w2 : ∀ (j : Fin 4) k d, V m c main_v14 (ix3 j k d) = ((p.w2 (col j k) d : ℝ) : EReal)

theorem iblk0_at (t : Fin cfg0.N) (r : Fin 256) (d : Fin 1024) : iblk m c 0 t (ix2 r d)
    = V m c main_v15 (ix2 (row t r) d) := by
  blk_point [iblk, row, idx t]

theorem iblk1_at (t : Fin cfg0.N) (r : Fin 256) (d : Fin 1024) : iblk m c 1 t (ix2 r d)
    = V m c main_v16 (ix2 (row t r) d) := by
  blk_point [iblk, row, idx t]

theorem iblk2_at (t : Fin cfg0.N) (r : Fin 256) (d : Fin 1024) : iblk m c 2 t (ix2 r d)
    = V m c main_v17 (ix2 (row t r) d) := by
  blk_point [iblk, row, idx t]

theorem iblk5_at (t : Fin cfg0.N) (k d : Fin 1024) : iblk m c 5 t (ix2 k d)
    = V m c main_v19 (ix2 k d) := by
  blk_point [iblk, idx t]

theorem mod2048_at (t : Fin cfg0.N) (d : Fin 1024) : View.ld (iblk m c 3 t) (Rect.unit ![0, 2048] ![1, 1024] inb_S1x6144_S1x1024_0_2048) (ix2 0 d)
    = V m c main_arg3 (ix2 0 (⟨2048 + d.val, by omega⟩ : Fin 6144)) := by
  blk_point [iblk, idx t]

theorem mod3072_at (t : Fin cfg0.N) (d : Fin 1024) : View.ld (iblk m c 3 t) (Rect.unit ![0, 3072] ![1, 1024] inb_S1x6144_S1x1024_0_3072) (ix2 0 d)
    = V m c main_arg3 (ix2 0 (⟨3072 + d.val, by omega⟩ : Fin 6144)) := by
  blk_point [iblk, idx t]

theorem mod4096_at (t : Fin cfg0.N) (d : Fin 1024) : View.ld (iblk m c 3 t) (Rect.unit ![0, 4096] ![1, 1024] inb_S1x6144_S1x1024_0_4096) (ix2 0 d)
    = V m c main_arg3 (ix2 0 (⟨4096 + d.val, by omega⟩ : Fin 6144)) := by
  blk_point [iblk, idx t]

theorem mod5120_at (t : Fin cfg0.N) (d : Fin 1024) : View.ld (iblk m c 3 t) (Rect.unit ![0, 5120] ![1, 1024] inb_S1x6144_S1x1024_0_5120) (ix2 0 d)
    = V m c main_arg3 (ix2 0 (⟨5120 + d.val, by omega⟩ : Fin 6144)) := by
  blk_point [iblk, idx t]

theorem norm0_at (t : Fin cfg0.N) (d : Fin 1024) : View.ld (iblk m c 4 t) (Rect.unit ![0, 0] ![1, 1024] inb_S4x1024_S1x1024_0_0) (ix2 0 d)
    = V m c main_v0 (ix2 0 d) := by
  refine congrArg (V m c main_v0) ?_
  blk_ext [idx t]
  · rfl
  · exact (show 0 + 1 * d.val = d.val by omega)

theorem norm1_at (t : Fin cfg0.N) (d : Fin 1024) : View.ld (iblk m c 4 t) (Rect.unit ![1, 0] ![1, 1024] inb_S4x1024_S1x1024_1_0) (ix2 0 d)
    = V m c main_v0 (ix2 1 d) := by
  refine congrArg (V m c main_v0) ?_
  blk_ext [idx t]
  · rfl
  · exact (show 0 + 1 * d.val = d.val by omega)

theorem norm2_at (t : Fin cfg0.N) (d : Fin 1024) : View.ld (iblk m c 4 t) (Rect.unit ![2, 0] ![1, 1024] inb_S4x1024_S1x1024_2_0) (ix2 0 d)
    = V m c main_v0 (ix2 2 d) := by
  refine congrArg (V m c main_v0) ?_
  blk_ext [idx t]
  · rfl
  · exact (show 0 + 1 * d.val = d.val by omega)

theorem norm3_at (t : Fin cfg0.N) (d : Fin 1024) : View.ld (iblk m c 4 t) (Rect.unit ![3, 0] ![1, 1024] inb_S4x1024_S1x1024_3_0) (ix2 0 d)
    = V m c main_v0 (ix2 3 d) := by
  refine congrArg (V m c main_v0) ?_
  blk_ext [idx t]
  · rfl
  · exact (show 0 + 1 * d.val = d.val by omega)

theorem one0_at (t : Fin cfg0.N) (k d : Fin 1024) : View.ld (iblk m c 6 t) (Rect.unit ![0, 0, 0] ![1, 1024, 1024] inb_S4x1024x1024_S1x1024x1024_0_0_0) (ix3 0 k d)
    = V m c main_v13 (ix3 0 k d) := by
  refine congrArg (V m c main_v13) ?_
  blk_ext [idx t]
  · rfl
  · exact (show 0 + 1 * k.val = k.val by omega)
  · exact (show 0 + 1 * d.val = d.val by omega)

theorem one1_at (t : Fin cfg0.N) (k d : Fin 1024) : View.ld (iblk m c 6 t) (Rect.unit ![1, 0, 0] ![1, 1024, 1024] inb_S4x1024x1024_S1x1024x1024_1_0_0) (ix3 0 k d)
    = V m c main_v13 (ix3 1 k d) := by
  refine congrArg (V m c main_v13) ?_
  blk_ext [idx t]
  · rfl
  · exact (show 0 + 1 * k.val = k.val by omega)
  · exact (show 0 + 1 * d.val = d.val by omega)

theorem one2_at (t : Fin cfg0.N) (k d : Fin 1024) : View.ld (iblk m c 6 t) (Rect.unit ![2, 0, 0] ![1, 1024, 1024] inb_S4x1024x1024_S1x1024x1024_2_0_0) (ix3 0 k d)
    = V m c main_v13 (ix3 2 k d) := by
  refine congrArg (V m c main_v13) ?_
  blk_ext [idx t]
  · rfl
  · exact (show 0 + 1 * k.val = k.val by omega)
  · exact (show 0 + 1 * d.val = d.val by omega)

theorem one3_at (t : Fin cfg0.N) (k d : Fin 1024) : View.ld (iblk m c 6 t) (Rect.unit ![3, 0, 0] ![1, 1024, 1024] inb_S4x1024x1024_S1x1024x1024_3_0_0) (ix3 0 k d)
    = V m c main_v13 (ix3 3 k d) := by
  refine congrArg (V m c main_v13) ?_
  blk_ext [idx t]
  · rfl
  · exact (show 0 + 1 * k.val = k.val by omega)
  · exact (show 0 + 1 * d.val = d.val by omega)

theorem two0_at (t : Fin cfg0.N) (k d : Fin 1024) : View.ld (iblk m c 7 t) (Rect.unit ![0, 0, 0] ![1, 1024, 1024] inb_S4x1024x1024_S1x1024x1024_0_0_0) (ix3 0 k d)
    = V m c main_v14 (ix3 0 k d) := by
  refine congrArg (V m c main_v14) ?_
  blk_ext [idx t]
  · rfl
  · exact (show 0 + 1 * k.val = k.val by omega)
  · exact (show 0 + 1 * d.val = d.val by omega)

theorem two1_at (t : Fin cfg0.N) (k d : Fin 1024) : View.ld (iblk m c 7 t) (Rect.unit ![1, 0, 0] ![1, 1024, 1024] inb_S4x1024x1024_S1x1024x1024_1_0_0) (ix3 0 k d)
    = V m c main_v14 (ix3 1 k d) := by
  refine congrArg (V m c main_v14) ?_
  blk_ext [idx t]
  · rfl
  · exact (show 0 + 1 * k.val = k.val by omega)
  · exact (show 0 + 1 * d.val = d.val by omega)

theorem two2_at (t : Fin cfg0.N) (k d : Fin 1024) : View.ld (iblk m c 7 t) (Rect.unit ![2, 0, 0] ![1, 1024, 1024] inb_S4x1024x1024_S1x1024x1024_2_0_0) (ix3 0 k d)
    = V m c main_v14 (ix3 2 k d) := by
  refine congrArg (V m c main_v14) ?_
  blk_ext [idx t]
  · rfl
  · exact (show 0 + 1 * k.val = k.val by omega)
  · exact (show 0 + 1 * d.val = d.val by omega)

theorem two3_at (t : Fin cfg0.N) (k d : Fin 1024) : View.ld (iblk m c 7 t) (Rect.unit ![3, 0, 0] ![1, 1024, 1024] inb_S4x1024x1024_S1x1024x1024_3_0_0) (ix3 0 k d)
    = V m c main_v14 (ix3 3 k d) := by
  refine congrArg (V m c main_v14) ?_
  blk_ext [idx t]
  · rfl
  · exact (show 0 + 1 * k.val = k.val by omega)
  · exact (show 0 + 1 * d.val = d.val by omega)

set_option maxHeartbeats 4000000 in
theorem blk_ok {p : Par} {X M T : Fin 8192 → Fin 1024 → ℝ} (h : Ins m c p X M T) (t : Fin cfg0.N) :
    (blk m c t).Ok p (fun r => X (row t r)) (fun r => M (row t r)) (fun r => T (row t r)) where
  x := fun r d => (iblk0_at m c t r d).trans (h.x _ _)
  mx := fun r d => (iblk1_at m c t r d).trans (h.mx _ _)
  tg := fun r d => (iblk2_at m c t r d).trans (h.tg _ _)
  wo := fun k d => (iblk5_at m c t k d).trans (h.wo _ _)
  g1 := fun d => (mod2048_at m c t d).trans (h.g1 d)
  h2 := fun d => (mod3072_at m c t d).trans (h.h2 d)
  s2 := fun d => (mod4096_at m c t d).trans (h.s2 d)
  g2 := fun d => (mod5120_at m c t d).trans (h.g2 d)
  l1w := fun d => (norm0_at m c t d).trans (h.l1w d)
  l1b := fun d => (norm1_at m c t d).trans (h.l1b d)
  l2w := fun d => (norm2_at m c t d).trans (h.l2w d)
  l2b := fun d => (norm3_at m c t d).trans (h.l2b d)
  a0 := fun k d => (one0_at m c t k d).trans (h.w1 0 k d)
  a1 := fun k d => (one1_at m c t k d).trans (h.w1 1 k d)
  a2 := fun k d => (one2_at m c t k d).trans (h.w1 2 k d)
  a3 := fun k d => (one3_at m c t k d).trans (h.w1 3 k d)
  b0 := fun k d => (two0_at m c t k d).trans (h.w2 0 k d)
  b1 := fun k d => (two1_at m c t k d).trans (h.w2 1 k d)
  b2 := fun k d => (two2_at m c t k d).trans (h.w2 2 k d)
  b3 := fun k d => (two3_at m c t k d).trans (h.w2 3 k d)

end Cert.Kernel2Ideal.Values
-- ==== Proof.MlpOuts.lean ====
import proofs.«01_k».proof.Proof.MlpReads

/-! What the network's kernel leaves at each point of its grid in the seven arrays it stores row by row. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp
open Blks (cols0 cols1 cols2 cols3)

/-- The columns of the hidden layer, chunk by chunk. -/
theorem cols0_emb (r : Fin 256) (k : Fin 1024) : cols0.emb (ix2 r k : S256x1024.Idx) = (ix2 r (col 0 k) : S256x4096.Idx) := by
  funext a
  match a with
  | ⟨0, _⟩ => exact Fin.ext (show 0 + 1 * r.val = r.val by omega)
  | ⟨1, _⟩ => exact Fin.ext (show 0 + 1 * k.val = 0 * 1024 + k.val by omega)

theorem cols1_emb (r : Fin 256) (k : Fin 1024) : cols1.emb (ix2 r k : S256x1024.Idx) = (ix2 r (col 1 k) : S256x4096.Idx) := by
  funext a
  match a with
  | ⟨0, _⟩ => exact Fin.ext (show 0 + 1 * r.val = r.val by omega)
  | ⟨1, _⟩ => exact Fin.ext (show 1024 + 1 * k.val = 1 * 1024 + k.val by omega)

theorem cols2_emb (r : Fin 256) (k : Fin 1024) : cols2.emb (ix2 r k : S256x1024.Idx) = (ix2 r (col 2 k) : S256x4096.Idx) := by
  funext a
  match a with
  | ⟨0, _⟩ => exact Fin.ext (show 0 + 1 * r.val = r.val by omega)
  | ⟨1, _⟩ => exact Fin.ext (show 2048 + 1 * k.val = 2 * 1024 + k.val by omega)

theorem cols3_emb (r : Fin 256) (k : Fin 1024) : cols3.emb (ix2 r k : S256x1024.Idx) = (ix2 r (col 3 k) : S256x4096.Idx) := by
  funext a
  match a with
  | ⟨0, _⟩ => exact Fin.ext (show 0 + 1 * r.val = r.val by omega)
  | ⟨1, _⟩ => exact Fin.ext (show 3072 + 1 * k.val = 3 * 1024 + k.val by omega)

theorem cols1_not_mem (r : Fin 256) (j : Fin 4096) (h : j.val < 1024 ∨ 2048 ≤ j.val) : (ix2 r j : S256x4096.Idx) ∉ cols1.set := by
  rw [Rect.mem_set_unit]
  intro hall
  have := hall (1 : Fin 2)
  have h1 : 1024 ≤ j.val := this.1
  have h2 : j.val < 1024 + 1024 := this.2
  omega

theorem cols2_not_mem (r : Fin 256) (j : Fin 4096) (h : j.val < 2048 ∨ 3072 ≤ j.val) : (ix2 r j : S256x4096.Idx) ∉ cols2.set := by
  rw [Rect.mem_set_unit]
  intro hall
  have := hall (1 : Fin 2)
  have h1 : 2048 ≤ j.val := this.1
  have h2 : j.val < 2048 + 1024 := this.2
  omega

theorem cols3_not_mem (r : Fin 256) (j : Fin 4096) (h : j.val < 3072 ∨ 4096 ≤ j.val) : (ix2 r j : S256x4096.Idx) ∉ cols3.set := by
  rw [Rect.mem_set_unit]
  intro hall
  have := hall (1 : Fin 2)
  have h1 : 3072 ≤ j.val := this.1
  have h2 : j.val < 3072 + 1024 := this.2
  omega

/-- Four chunks of columns stored one after the other hold the whole array. -/
theorem canon_cols {e : EltTy} (q3 q2 q1 q0 : S256x1024.Idx → Elt Ideal e) (f : Fin 256 → Fin 4096 → Elt Ideal e)
    (h3 : ∀ r k, q3 (ix2 r k) = f r (col 3 k)) (h2 : ∀ r k, q2 (ix2 r k) = f r (col 2 k)) (h1 : ∀ r k, q1 (ix2 r k) = f r (col 1 k)) (h0 : ∀ r k, q0 (ix2 r k) = f r (col 0 k))
    (r : Fin 256) (j : Fin 4096) :
    View.canon [(⟨cols3, q3⟩ : View.Piece (Elt Ideal) S256x4096 e), ⟨cols2, q2⟩, ⟨cols1, q1⟩, ⟨cols0, q0⟩] (ix2 r j) = f r j := by
  by_cases j3 : 3072 ≤ j.val
  · obtain ⟨k, rfl⟩ : ∃ k, j = col 3 k := ⟨⟨j.val - 3072, by omega⟩, Fin.ext (show j.val = 3 * 1024 + (j.val - 3072) by omega)⟩
    rw [← cols3_emb]
    exact (View.canon_cons_emb cols3 q3 _ _).trans (h3 r k)
  refine (View.canon_cons_of_not_mem ⟨cols3, q3⟩ _ (cols3_not_mem r j (by omega))).trans ?_
  by_cases j2 : 2048 ≤ j.val
  · obtain ⟨k, rfl⟩ : ∃ k, j = col 2 k := ⟨⟨j.val - 2048, by omega⟩, Fin.ext (show j.val = 2 * 1024 + (j.val - 2048) by omega)⟩
    rw [← cols2_emb]
    exact (View.canon_cons_emb cols2 q2 _ _).trans (h2 r k)
  refine (View.canon_cons_of_not_mem ⟨cols2, q2⟩ _ (cols2_not_mem r j (by omega))).trans ?_
  by_cases j1 : 1024 ≤ j.val
  · obtain ⟨k, rfl⟩ : ∃ k, j = col 1 k := ⟨⟨j.val - 1024, by omega⟩, Fin.ext (show j.val = 1 * 1024 + (j.val - 1024) by omega)⟩
    rw [← cols1_emb]
    exact (View.canon_cons_emb cols1 q1 _ _).trans (h1 r k)
  refine (View.canon_cons_of_not_mem ⟨cols1, q1⟩ _ (cols1_not_mem r j (by omega))).trans ?_
  obtain ⟨k, rfl⟩ : ∃ k, j = col 0 k := ⟨⟨j.val, by omega⟩, Fin.ext (show j.val = 0 * 1024 + j.val by omega)⟩
  rw [← cols0_emb]
  exact (View.canon_cons_emb cols0 q0 _ _).trans (h0 r k)

variable (m : (ℓ : Loc nD τ sig) → Buf (Elt Ideal) ℓ) (c : Dev nD) {p : Par} {X M T : Fin 8192 → Fin 1024 → ℝ} (h : Ins m c p X M T)
include h

set_option maxHeartbeats 1000000 in
theorem out8 (t : Fin cfg0.N) (r : Fin 256) (d : Fin 1024) : (outsAt0 m c t.val t.isLt).1 (ix2 r d)
    = ((dmx p (X (row t r)) (M (row t r)) (T (row t r)) d : ℝ) : EReal) := by
  have B := blk_ok m c h t
  have e := pay2_at (Blks.is336 B) B.g1 B.wo r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out9 (t : Fin cfg0.N) (r : Fin 256) (d : Fin 1024) : (outsAt0 m c t.val t.isLt).2.1 (ix2 r d)
    = ((dxa p (X (row t r)) (M (row t r)) (T (row t r)) d : ℝ) : EReal) := by
  have B := blk_ok m c h t
  have e := pay55_at (Blks.is303 B) (Blks.is29 B) (Blks.is31 B) B.l1w r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out10 (t : Fin cfg0.N) (r : Fin 256) (d : Fin 4096) : (outsAt0 m c t.val t.isLt).2.2.1 (ix2 r d)
    = ((act p (X (row t r)) (M (row t r)) d : ℝ) : EReal) := by
  have B := blk_ok m c h t
  have e := canon_cols (e := .bf16) _ _ _ _ (fun r k => ((act p (X (row t r)) (M (row t r)) k : ℝ) : EReal))
    (pay27_at (c := 3) (Blks.is64 B) B.a3) (pay24_at (c := 2) (Blks.is101 B)) (pay20_at (c := 1) (Blks.is64 B) B.a1) (pay17_at (c := 0) (Blks.is71 B)) r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out11 (t : Fin cfg0.N) (r : Fin 256) (d : Fin 4096) : (outsAt0 m c t.val t.isLt).2.2.2.1 (ix2 r d)
    = ((dh p (X (row t r)) (M (row t r)) (T (row t r)) d : ℝ) : EReal) := by
  have B := blk_ok m c h t
  have e := canon_cols (e := .bf16) _ _ _ _ (fun r k => ((dh p (X (row t r)) (M (row t r)) (T (row t r)) k : ℝ) : EReal))
    (pay46_at (c := 3) (Blks.is212 B) B.b3 (Blks.isR3 B)) (pay45_at (c := 2) (Blks.is212 B) B.b2 (Blks.isR2 B))
    (pay43_at (c := 1) (Blks.is212 B) B.b1 (Blks.isR1 B)) (pay42_at (c := 0) (Blks.is212 B) B.b0 (Blks.isR0 B)) r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out12 (t : Fin cfg0.N) (r : Fin 256) (d : Fin 1024) : (outsAt0 m c t.val t.isLt).2.2.2.2.1 (ix2 r d)
    = ((u2 p (X (row t r)) (M (row t r)) d : ℝ) : EReal) := by
  have B := blk_ok m c h t
  have e := Blks.is64 B r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out13 (t : Fin cfg0.N) (r : Fin 256) (d : Fin 1024) : (outsAt0 m c t.val t.isLt).2.2.2.2.2.1 (ix2 r d)
    = ((df p (X (row t r)) (M (row t r)) (T (row t r)) d : ℝ) : EReal) := by
  have B := blk_ok m c h t
  have e := Blks.is212 B r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

set_option maxHeartbeats 1000000 in
theorem out14 (t : Fin cfg0.N) (r : Fin 256) (d : Fin 1024) : (outsAt0 m c t.val t.isLt).2.2.2.2.2.2.1 (ix2 r d)
    = ((dm p (X (row t r)) (M (row t r)) (T (row t r)) d : ℝ) : EReal) := by
  have B := blk_ok m c h t
  have e := pay1_at (Blks.is336 B) B.g1 r d
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at e
  by_cases h0 : t.val % 32 = 0
  · rw [outsAt0_A m c t h0]
    frame_out
    exact e
  · rw [outsAt0_B m c t h0]
    frame_out
    exact e

end Cert.Kernel2Ideal.Values
-- ==== Proof.MlpRows.lean ====
import proofs.«01_k».proof.Proof.MlpReads

/-! The nine rows of the block of the network's sums, stored one after the other. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

/-- The nine rows of the block of sums. -/
abbrev row0 : Rect S16x1024 := Rect.unit ![0, 0] ![1, 1024] inb_S16x1024_S1x1024_0_0
abbrev row1 : Rect S16x1024 := Rect.unit ![1, 0] ![1, 1024] inb_S16x1024_S1x1024_1_0
abbrev row2 : Rect S16x1024 := Rect.unit ![2, 0] ![1, 1024] inb_S16x1024_S1x1024_2_0
abbrev row3 : Rect S16x1024 := Rect.unit ![3, 0] ![1, 1024] inb_S16x1024_S1x1024_3_0
abbrev row4 : Rect S16x1024 := Rect.unit ![4, 0] ![1, 1024] inb_S16x1024_S1x1024_4_0
abbrev row5 : Rect S16x1024 := Rect.unit ![5, 0] ![1, 1024] inb_S16x1024_S1x1024_5_0
abbrev row6 : Rect S16x1024 := Rect.unit ![6, 0] ![1, 1024] inb_S16x1024_S1x1024_6_0
abbrev row7 : Rect S16x1024 := Rect.unit ![7, 0] ![1, 1024] inb_S16x1024_S1x1024_7_0
abbrev row8 : Rect S16x1024 := Rect.unit ![8, 0] ![1, 1024] inb_S16x1024_S1x1024_8_0

theorem row0_emb (d : Fin 1024) : row0.emb (ix2 (0 : Fin 1) d : S1x1024.Idx) = (ix2 0 d : S16x1024.Idx) := by
  funext a
  match a with
  | ⟨0, _⟩ => rfl
  | ⟨1, _⟩ => exact Fin.ext (show 0 + 1 * d.val = d.val by omega)

theorem row0_not_mem (j : Fin 16) (d : Fin 1024) (h : j.val ≠ 0) : (ix2 j d : S16x1024.Idx) ∉ row0.set := by
  rw [Rect.mem_set_unit]
  intro hall
  have := hall (0 : Fin 2)
  have h1 : 0 ≤ j.val := this.1
  have h2 : j.val < 0 + 1 := this.2
  omega

theorem row1_emb (d : Fin 1024) : row1.emb (ix2 (0 : Fin 1) d : S1x1024.Idx) = (ix2 1 d : S16x1024.Idx) := by
  funext a
  match a with
  | ⟨0, _⟩ => rfl
  | ⟨1, _⟩ => exact Fin.ext (show 0 + 1 * d.val = d.val by omega)

theorem row1_not_mem (j : Fin 16) (d : Fin 1024) (h : j.val ≠ 1) : (ix2 j d : S16x1024.Idx) ∉ row1.set := by
  rw [Rect.mem_set_unit]
  intro hall
  have := hall (0 : Fin 2)
  have h1 : 1 ≤ j.val := this.1
  have h2 : j.val < 1 + 1 := this.2
  omega

theorem row2_emb (d : Fin 1024) : row2.emb (ix2 (0 : Fin 1) d : S1x1024.Idx) = (ix2 2 d : S16x1024.Idx) := by
  funext a
  match a with
  | ⟨0, _⟩ => rfl
  | ⟨1, _⟩ => exact Fin.ext (show 0 + 1 * d.val = d.val by omega)

theorem row2_not_mem (j : Fin 16) (d : Fin 1024) (h : j.val ≠ 2) : (ix2 j d : S16x1024.Idx) ∉ row2.set := by
  rw [Rect.mem_set_unit]
  intro hall
  have := hall (0 : Fin 2)
  have h1 : 2 ≤ j.val := this.1
  have h2 : j.val < 2 + 1 := this.2
  omega

theorem row3_emb (d : Fin 1024) : row3.emb (ix2 (0 : Fin 1) d : S1x1024.Idx) = (ix2 3 d : S16x1024.Idx) := by
  funext a
  match a with
  | ⟨0, _⟩ => rfl
  | ⟨1, _⟩ => exact Fin.ext (show 0 + 1 * d.val = d.val by omega)

theorem row3_not_mem (j : Fin 16) (d : Fin 1024) (h : j.val ≠ 3) : (ix2 j d : S16x1024.Idx) ∉ row3.set := by
  rw [Rect.mem_set_unit]
  intro hall
  have := hall (0 : Fin 2)
  have h1 : 3 ≤ j.val := this.1
  have h2 : j.val < 3 + 1 := this.2
  omega

theorem row4_emb (d : Fin 1024) : row4.emb (ix2 (0 : Fin 1) d : S1x1024.Idx) = (ix2 4 d : S16x1024.Idx) := by
  funext a
  match a with
  | ⟨0, _⟩ => rfl
  | ⟨1, _⟩ => exact Fin.ext (show 0 + 1 * d.val = d.val by omega)

theorem row4_not_mem (j : Fin 16) (d : Fin 1024) (h : j.val ≠ 4) : (ix2 j d : S16x1024.Idx) ∉ row4.set := by
  rw [Rect.mem_set_unit]
  intro hall
  have := hall (0 : Fin 2)
  have h1 : 4 ≤ j.val := this.1
  have h2 : j.val < 4 + 1 := this.2
  omega

theorem row5_emb (d : Fin 1024) : row5.emb (ix2 (0 : Fin 1) d : S1x1024.Idx) = (ix2 5 d : S16x1024.Idx) := by
  funext a
  match a with
  | ⟨0, _⟩ => rfl
  | ⟨1, _⟩ => exact Fin.ext (show 0 + 1 * d.val = d.val by omega)

theorem row5_not_mem (j : Fin 16) (d : Fin 1024) (h : j.val ≠ 5) : (ix2 j d : S16x1024.Idx) ∉ row5.set := by
  rw [Rect.mem_set_unit]
  intro hall
  have := hall (0 : Fin 2)
  have h1 : 5 ≤ j.val := this.1
  have h2 : j.val < 5 + 1 := this.2
  omega

theorem row6_emb (d : Fin 1024) : row6.emb (ix2 (0 : Fin 1) d : S1x1024.Idx) = (ix2 6 d : S16x1024.Idx) := by
  funext a
  match a with
  | ⟨0, _⟩ => rfl
  | ⟨1, _⟩ => exact Fin.ext (show 0 + 1 * d.val = d.val by omega)

theorem row6_not_mem (j : Fin 16) (d : Fin 1024) (h : j.val ≠ 6) : (ix2 j d : S16x1024.Idx) ∉ row6.set := by
  rw [Rect.mem_set_unit]
  intro hall
  have := hall (0 : Fin 2)
  have h1 : 6 ≤ j.val := this.1
  have h2 : j.val < 6 + 1 := this.2
  omega

theorem row7_emb (d : Fin 1024) : row7.emb (ix2 (0 : Fin 1) d : S1x1024.Idx) = (ix2 7 d : S16x1024.Idx) := by
  funext a
  match a with
  | ⟨0, _⟩ => rfl
  | ⟨1, _⟩ => exact Fin.ext (show 0 + 1 * d.val = d.val by omega)

theorem row7_not_mem (j : Fin 16) (d : Fin 1024) (h : j.val ≠ 7) : (ix2 j d : S16x1024.Idx) ∉ row7.set := by
  rw [Rect.mem_set_unit]
  intro hall
  have := hall (0 : Fin 2)
  have h1 : 7 ≤ j.val := this.1
  have h2 : j.val < 7 + 1 := this.2
  omega

theorem row8_emb (d : Fin 1024) : row8.emb (ix2 (0 : Fin 1) d : S1x1024.Idx) = (ix2 8 d : S16x1024.Idx) := by
  funext a
  match a with
  | ⟨0, _⟩ => rfl
  | ⟨1, _⟩ => exact Fin.ext (show 0 + 1 * d.val = d.val by omega)

theorem row8_not_mem (j : Fin 16) (d : Fin 1024) (h : j.val ≠ 8) : (ix2 j d : S16x1024.Idx) ∉ row8.set := by
  rw [Rect.mem_set_unit]
  intro hall
  have := hall (0 : Fin 2)
  have h1 : 8 ≤ j.val := this.1
  have h2 : j.val < 8 + 1 := this.2
  omega

theorem writes_hit0 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row0, q⟩ : View.Piece (Elt Ideal) S16x1024 .f32) :: L)) (ix2 0 d) = q (ix2 0 d) :=
  View.read_writes_cons_rows_of_mem (o := 0) v f _ q _ _ (ix2 (0 : Fin 1) d : S1x1024.Idx) rfl rfl rfl

theorem writes_miss0 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 0) :
    v.read (Elt Ideal) (v.writes (Elt Ideal) f ((⟨row0, q⟩ : View.Piece (Elt Ideal) S16x1024 .f32) :: L)) (ix2 j d) = v.read (Elt Ideal) (v.writes (Elt Ideal) f L) (ix2 j d) :=
  View.read_writes_cons_rows_of_not_mem v f (o := 0) (W := 1) _ q _ _ rfl rfl (by show j.val < 0 ∨ 0 + 1 ≤ j.val; omega)

theorem writes_hit1 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row1, q⟩ : View.Piece (Elt Ideal) S16x1024 .f32) :: L)) (ix2 1 d) = q (ix2 0 d) :=
  View.read_writes_cons_rows_of_mem (o := 1) v f _ q _ _ (ix2 (0 : Fin 1) d : S1x1024.Idx) rfl rfl rfl

theorem writes_miss1 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 1) :
    v.read (Elt Ideal) (v.writes (Elt Ideal) f ((⟨row1, q⟩ : View.Piece (Elt Ideal) S16x1024 .f32) :: L)) (ix2 j d) = v.read (Elt Ideal) (v.writes (Elt Ideal) f L) (ix2 j d) :=
  View.read_writes_cons_rows_of_not_mem v f (o := 1) (W := 1) _ q _ _ rfl rfl (by show j.val < 1 ∨ 1 + 1 ≤ j.val; omega)

theorem writes_hit2 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row2, q⟩ : View.Piece (Elt Ideal) S16x1024 .f32) :: L)) (ix2 2 d) = q (ix2 0 d) :=
  View.read_writes_cons_rows_of_mem (o := 2) v f _ q _ _ (ix2 (0 : Fin 1) d : S1x1024.Idx) rfl rfl rfl

theorem writes_miss2 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 2) :
    v.read (Elt Ideal) (v.writes (Elt Ideal) f ((⟨row2, q⟩ : View.Piece (Elt Ideal) S16x1024 .f32) :: L)) (ix2 j d) = v.read (Elt Ideal) (v.writes (Elt Ideal) f L) (ix2 j d) :=
  View.read_writes_cons_rows_of_not_mem v f (o := 2) (W := 1) _ q _ _ rfl rfl (by show j.val < 2 ∨ 2 + 1 ≤ j.val; omega)

theorem writes_hit3 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row3, q⟩ : View.Piece (Elt Ideal) S16x1024 .f32) :: L)) (ix2 3 d) = q (ix2 0 d) :=
  View.read_writes_cons_rows_of_mem (o := 3) v f _ q _ _ (ix2 (0 : Fin 1) d : S1x1024.Idx) rfl rfl rfl

theorem writes_miss3 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 3) :
    v.read (Elt Ideal) (v.writes (Elt Ideal) f ((⟨row3, q⟩ : View.Piece (Elt Ideal) S16x1024 .f32) :: L)) (ix2 j d) = v.read (Elt Ideal) (v.writes (Elt Ideal) f L) (ix2 j d) :=
  View.read_writes_cons_rows_of_not_mem v f (o := 3) (W := 1) _ q _ _ rfl rfl (by show j.val < 3 ∨ 3 + 1 ≤ j.val; omega)

theorem writes_hit4 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row4, q⟩ : View.Piece (Elt Ideal) S16x1024 .f32) :: L)) (ix2 4 d) = q (ix2 0 d) :=
  View.read_writes_cons_rows_of_mem (o := 4) v f _ q _ _ (ix2 (0 : Fin 1) d : S1x1024.Idx) rfl rfl rfl

theorem writes_miss4 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 4) :
    v.read (Elt Ideal) (v.writes (Elt Ideal) f ((⟨row4, q⟩ : View.Piece (Elt Ideal) S16x1024 .f32) :: L)) (ix2 j d) = v.read (Elt Ideal) (v.writes (Elt Ideal) f L) (ix2 j d) :=
  View.read_writes_cons_rows_of_not_mem v f (o := 4) (W := 1) _ q _ _ rfl rfl (by show j.val < 4 ∨ 4 + 1 ≤ j.val; omega)

theorem writes_hit5 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row5, q⟩ : View.Piece (Elt Ideal) S16x1024 .f32) :: L)) (ix2 5 d) = q (ix2 0 d) :=
  View.read_writes_cons_rows_of_mem (o := 5) v f _ q _ _ (ix2 (0 : Fin 1) d : S1x1024.Idx) rfl rfl rfl

theorem writes_miss5 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 5) :
    v.read (Elt Ideal) (v.writes (Elt Ideal) f ((⟨row5, q⟩ : View.Piece (Elt Ideal) S16x1024 .f32) :: L)) (ix2 j d) = v.read (Elt Ideal) (v.writes (Elt Ideal) f L) (ix2 j d) :=
  View.read_writes_cons_rows_of_not_mem v f (o := 5) (W := 1) _ q _ _ rfl rfl (by show j.val < 5 ∨ 5 + 1 ≤ j.val; omega)

theorem writes_hit6 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row6, q⟩ : View.Piece (Elt Ideal) S16x1024 .f32) :: L)) (ix2 6 d) = q (ix2 0 d) :=
  View.read_writes_cons_rows_of_mem (o := 6) v f _ q _ _ (ix2 (0 : Fin 1) d : S1x1024.Idx) rfl rfl rfl

theorem writes_miss6 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 6) :
    v.read (Elt Ideal) (v.writes (Elt Ideal) f ((⟨row6, q⟩ : View.Piece (Elt Ideal) S16x1024 .f32) :: L)) (ix2 j d) = v.read (Elt Ideal) (v.writes (Elt Ideal) f L) (ix2 j d) :=
  View.read_writes_cons_rows_of_not_mem v f (o := 6) (W := 1) _ q _ _ rfl rfl (by show j.val < 6 ∨ 6 + 1 ≤ j.val; omega)

theorem writes_hit7 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row7, q⟩ : View.Piece (Elt Ideal) S16x1024 .f32) :: L)) (ix2 7 d) = q (ix2 0 d) :=
  View.read_writes_cons_rows_of_mem (o := 7) v f _ q _ _ (ix2 (0 : Fin 1) d : S1x1024.Idx) rfl rfl rfl

theorem writes_miss7 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 7) :
    v.read (Elt Ideal) (v.writes (Elt Ideal) f ((⟨row7, q⟩ : View.Piece (Elt Ideal) S16x1024 .f32) :: L)) (ix2 j d) = v.read (Elt Ideal) (v.writes (Elt Ideal) f L) (ix2 j d) :=
  View.read_writes_cons_rows_of_not_mem v f (o := 7) (W := 1) _ q _ _ rfl rfl (by show j.val < 7 ∨ 7 + 1 ≤ j.val; omega)

theorem writes_hit8 {κ : Kind} {sp : Space} (v : View sig κ sp S16x1024 .f32) (f : v.ty.Contents (Elt Ideal)) (q : Vec Ideal S1x1024 .f32) (L : List (View.Piece (Elt Ideal) S16x1024 .f32)) (d : Fin 1024) :
    v.read (Elt Ideal) (v.writes (Elt Ideal) f ((⟨row8, q⟩ : View.Piece (Elt Ideal) S16x1024 .f32) :: L)) (ix2 8 d) = q (ix2 0 d) :=
  View.read_writes_cons_rows_of_mem (o := 8) v f _ q _ _ (ix2 (0 : Fin 1) d : S1x1024.Idx) rfl rfl rfl

theorem writes_miss8 {κ : Kind} {sp : Space} (v : View sig κ sp S16x1024 .f32) (f : v.ty.Contents (Elt Ideal)) (q : Vec Ideal S1x1024 .f32) (L : List (View.Piece (Elt Ideal) S16x1024 .f32)) (j : Fin 16) (d : Fin 1024) (h : j.val ≠ 8) :
    v.read (Elt Ideal) (v.writes (Elt Ideal) f ((⟨row8, q⟩ : View.Piece (Elt Ideal) S16x1024 .f32) :: L)) (ix2 j d) = v.read (Elt Ideal) (v.writes (Elt Ideal) f L) (ix2 j d) :=
  View.read_writes_cons_rows_of_not_mem v f (o := 8) (W := 1) _ q _ _ rfl rfl (by show j.val < 8 ∨ 8 + 1 ≤ j.val; omega)

/-- Nine rows stored into a block: the rows hold what was stored, the others what was there. -/
theorem writes_rows9 {κ : Kind} {sp : Space} (v : View sig κ sp S16x1024 .f32) (f : v.ty.Contents (Elt Ideal)) (q0 q5 q4 q2 q1 q3 q7 q6 q8 : Vec Ideal S1x1024 .f32) (G : Fin 16 → Fin 1024 → EReal)
    (h0 : ∀ d, q0 (ix2 0 d) = G 0 d)
    (h5 : ∀ d, q5 (ix2 0 d) = G 5 d)
    (h4 : ∀ d, q4 (ix2 0 d) = G 4 d)
    (h2 : ∀ d, q2 (ix2 0 d) = G 2 d)
    (h1 : ∀ d, q1 (ix2 0 d) = G 1 d)
    (h3 : ∀ d, q3 (ix2 0 d) = G 3 d)
    (h7 : ∀ d, q7 (ix2 0 d) = G 7 d)
    (h6 : ∀ d, q6 (ix2 0 d) = G 6 d)
    (h8 : ∀ d, q8 (ix2 0 d) = G 8 d)
    (hr : ∀ (j : Fin 16) d, 9 ≤ j.val → v.read (Elt Ideal) f (ix2 j d) = G j d) (j : Fin 16) (d : Fin 1024) :
    v.read (Elt Ideal) (v.writes (Elt Ideal) f [(⟨row0, q0⟩ : View.Piece (Elt Ideal) S16x1024 .f32), ⟨row5, q5⟩, ⟨row4, q4⟩, ⟨row2, q2⟩, ⟨row1, q1⟩, ⟨row3, q3⟩, ⟨row7, q7⟩, ⟨row6, q6⟩, ⟨row8, q8⟩]) (ix2 j d) = G j d := by
  by_cases j0 : j.val = 0
  · obtain rfl : j = 0 := Fin.ext j0
    exact (writes_hit0 v f q0 _ d).trans (h0 d)
  refine (writes_miss0 v f q0 _ j d j0).trans ?_
  by_cases j5 : j.val = 5
  · obtain rfl : j = 5 := Fin.ext j5
    exact (writes_hit5 v f q5 _ d).trans (h5 d)
  refine (writes_miss5 v f q5 _ j d j5).trans ?_
  by_cases j4 : j.val = 4
  · obtain rfl : j = 4 := Fin.ext j4
    exact (writes_hit4 v f q4 _ d).trans (h4 d)
  refine (writes_miss4 v f q4 _ j d j4).trans ?_
  by_cases j2 : j.val = 2
  · obtain rfl : j = 2 := Fin.ext j2
    exact (writes_hit2 v f q2 _ d).trans (h2 d)
  refine (writes_miss2 v f q2 _ j d j2).trans ?_
  by_cases j1 : j.val = 1
  · obtain rfl : j = 1 := Fin.ext j1
    exact (writes_hit1 v f q1 _ d).trans (h1 d)
  refine (writes_miss1 v f q1 _ j d j1).trans ?_
  by_cases j3 : j.val = 3
  · obtain rfl : j = 3 := Fin.ext j3
    exact (writes_hit3 v f q3 _ d).trans (h3 d)
  refine (writes_miss3 v f q3 _ j d j3).trans ?_
  by_cases j7 : j.val = 7
  · obtain rfl : j = 7 := Fin.ext j7
    exact (writes_hit7 v f q7 _ d).trans (h7 d)
  refine (writes_miss7 v f q7 _ j d j7).trans ?_
  by_cases j6 : j.val = 6
  · obtain rfl : j = 6 := Fin.ext j6
    exact (writes_hit6 v f q6 _ d).trans (h6 d)
  refine (writes_miss6 v f q6 _ j d j6).trans ?_
  by_cases j8 : j.val = 8
  · obtain rfl : j = 8 := Fin.ext j8
    exact (writes_hit8 v f q8 _ d).trans (h8 d)
  refine (writes_miss8 v f q8 _ j d j8).trans ?_
  exact hr j d (by omega)

theorem canon_rows9 (q0 q5 q4 q2 q1 q3 q7 q6 q8 : Vec Ideal S1x1024 .f32) (L : List (View.Piece (Elt Ideal) S16x1024 .f32)) (G : Fin 16 → Fin 1024 → EReal)
    (h0 : ∀ d, q0 (ix2 0 d) = G 0 d)
    (h5 : ∀ d, q5 (ix2 0 d) = G 5 d)
    (h4 : ∀ d, q4 (ix2 0 d) = G 4 d)
    (h2 : ∀ d, q2 (ix2 0 d) = G 2 d)
    (h1 : ∀ d, q1 (ix2 0 d) = G 1 d)
    (h3 : ∀ d, q3 (ix2 0 d) = G 3 d)
    (h7 : ∀ d, q7 (ix2 0 d) = G 7 d)
    (h6 : ∀ d, q6 (ix2 0 d) = G 6 d)
    (h8 : ∀ d, q8 (ix2 0 d) = G 8 d)
    (hr : ∀ (j : Fin 16) d, 9 ≤ j.val → View.canon L (ix2 j d) = G j d) (j : Fin 16) (d : Fin 1024) :
    View.canon ((⟨row0, q0⟩ : View.Piece (Elt Ideal) S16x1024 .f32) :: ⟨row5, q5⟩ :: ⟨row4, q4⟩ :: ⟨row2, q2⟩ :: ⟨row1, q1⟩ :: ⟨row3, q3⟩ :: ⟨row7, q7⟩ :: ⟨row6, q6⟩ :: ⟨row8, q8⟩ :: L) (ix2 j d) = G j d := by
  by_cases j0 : j.val = 0
  · obtain rfl : j = 0 := Fin.ext j0
    rw [← row0_emb]
    exact (View.canon_cons_emb row0 q0 _ _).trans (h0 d)
  refine (View.canon_cons_of_not_mem ⟨row0, q0⟩ _ (row0_not_mem j d j0)).trans ?_
  by_cases j5 : j.val = 5
  · obtain rfl : j = 5 := Fin.ext j5
    rw [← row5_emb]
    exact (View.canon_cons_emb row5 q5 _ _).trans (h5 d)
  refine (View.canon_cons_of_not_mem ⟨row5, q5⟩ _ (row5_not_mem j d j5)).trans ?_
  by_cases j4 : j.val = 4
  · obtain rfl : j = 4 := Fin.ext j4
    rw [← row4_emb]
    exact (View.canon_cons_emb row4 q4 _ _).trans (h4 d)
  refine (View.canon_cons_of_not_mem ⟨row4, q4⟩ _ (row4_not_mem j d j4)).trans ?_
  by_cases j2 : j.val = 2
  · obtain rfl : j = 2 := Fin.ext j2
    rw [← row2_emb]
    exact (View.canon_cons_emb row2 q2 _ _).trans (h2 d)
  refine (View.canon_cons_of_not_mem ⟨row2, q2⟩ _ (row2_not_mem j d j2)).trans ?_
  by_cases j1 : j.val = 1
  · obtain rfl : j = 1 := Fin.ext j1
    rw [← row1_emb]
    exact (View.canon_cons_emb row1 q1 _ _).trans (h1 d)
  refine (View.canon_cons_of_not_mem ⟨row1, q1⟩ _ (row1_not_mem j d j1)).trans ?_
  by_cases j3 : j.val = 3
  · obtain rfl : j = 3 := Fin.ext j3
    rw [← row3_emb]
    exact (View.canon_cons_emb row3 q3 _ _).trans (h3 d)
  refine (View.canon_cons_of_not_mem ⟨row3, q3⟩ _ (row3_not_mem j d j3)).trans ?_
  by_cases j7 : j.val = 7
  · obtain rfl : j = 7 := Fin.ext j7
    rw [← row7_emb]
    exact (View.canon_cons_emb row7 q7 _ _).trans (h7 d)
  refine (View.canon_cons_of_not_mem ⟨row7, q7⟩ _ (row7_not_mem j d j7)).trans ?_
  by_cases j6 : j.val = 6
  · obtain rfl : j = 6 := Fin.ext j6
    rw [← row6_emb]
    exact (View.canon_cons_emb row6 q6 _ _).trans (h6 d)
  refine (View.canon_cons_of_not_mem ⟨row6, q6⟩ _ (row6_not_mem j d j6)).trans ?_
  by_cases j8 : j.val = 8
  · obtain rfl : j = 8 := Fin.ext j8
    rw [← row8_emb]
    exact (View.canon_cons_emb row8 q8 _ _).trans (h8 d)
  refine (View.canon_cons_of_not_mem ⟨row8, q8⟩ _ (row8_not_mem j d j8)).trans ?_
  exact hr j d (by omega)

end Cert.Kernel2Ideal.Values
-- ==== Proof.MlpSums.lean ====
import proofs.«01_k».proof.Proof.MlpRows

/-! The running sums of the network's kernel: nine rows, added to at every point of the grid. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

variable (m : (ℓ : Loc nD τ sig) → Buf (Elt Ideal) ℓ) (c : Dev nD) {p : Par} {X M T : Fin 8192 → Fin 1024 → ℝ}

/-- What point `t` adds to the sums. -/
def term (p : Par) (X M T : Fin 8192 → Fin 1024 → ℝ) (t : Fin cfg0.N) (j : Fin 16) (d : Fin 1024) : ℝ :=
  ∑ r, part p (X (row t r)) (M (row t r)) (T (row t r)) j d

theorem term_rest (t : Fin cfg0.N) (j : Fin 16) (d : Fin 1024) (hj : 9 ≤ j.val) : term p X M T t j d = 0 := by
  unfold term
  refine Finset.sum_eq_zero fun r _ => ?_
  unfold part
  iterate 9 rw [if_neg (by omega)]

variable (h : Ins m c p X M T)
include h

set_option maxHeartbeats 4000000 in
theorem sums_step (t : Fin cfg0.N) (h0 : ¬t.val % 32 = 0) (j : Fin 16) (d : Fin 1024) :
    (outsAt0 m c t.val t.isLt).2.2.2.2.2.2.2 (ix2 j d) = (outsAt0 m c (t.val - 1) (by omega)).2.2.2.2.2.2.2 (ix2 j d) + ((term p X M T t j d : ℝ) : EReal) := by
  have B := blk_ok m c h t
  have f0 := pay54_at (Blks.is303 B) (Blks.is29 B) (Blks.is31 B) B.l1w (pay4_at B.mx B.wo)
  have f5 := pay52_at (Blks.is303 B)
  have f4 := pay51_at (Blks.is53 B) (Blks.is55 B) (Blks.is201 B) (Blks.is266 B) B.s2 (Blks.is31 B)
  have f2 := pay49_at (Blks.is266 B)
  have f1 := pay48_at (Blks.is212 B) (Blks.is240 B) B.b2 B.a2 B.b3 B.a3 (Blks.isR2 B) (Blks.isR3 B) (Blks.is55 B)
  have f3 := pay40_at (Blks.is146 B) (Blks.is148 B) (Blks.is168 B) B.l2w (Blks.is126 B)
  have f7 := pay38_at (Blks.is168 B)
  have f6 := pay37_at (Blks.is132 B) (Blks.is137 B) B.l2w B.l2b B.tg
  have f8 := pay35_at (Blks.is132 B) (Blks.is137 B) B.l2w B.l2b B.tg
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at f0 f5 f4 f2 f1 f3 f7 f6 f8
  rw [outsAt0_B m c t h0]
  frame_out
  refine writes_rows9 _ _ _ _ _ _ _ _ _ _ _ (fun j d => (outsAt0 m c (t.val - 1) (by omega)).2.2.2.2.2.2.2 (ix2 j d) + ((term p X M T t j d : ℝ) : EReal)) ?_ ?_ ?_ ?_ ?_ ?_ ?_ ?_ ?_ ?_ j d
  · intro d
    refine (f0 _ d).trans (congrArg (· + _) ?_)
    exact congrArg _ (row0_emb d)
  · intro d
    refine (f5 _ d).trans (congrArg (· + _) ?_)
    exact congrArg _ (row5_emb d)
  · intro d
    refine (f4 _ d).trans (congrArg (· + _) ?_)
    exact congrArg _ (row4_emb d)
  · intro d
    refine (f2 _ d).trans (congrArg (· + _) ?_)
    exact congrArg _ (row2_emb d)
  · intro d
    refine (f1 _ d).trans (congrArg (· + _) ?_)
    exact congrArg _ (row1_emb d)
  · intro d
    refine (f3 _ d).trans (congrArg (· + _) ?_)
    exact congrArg _ (row3_emb d)
  · intro d
    refine (f7 _ d).trans (congrArg (· + _) ?_)
    exact congrArg _ (row7_emb d)
  · intro d
    refine (f6 _ d).trans (congrArg (· + _) ?_)
    exact congrArg _ (row6_emb d)
  · intro d
    refine (f8 _ d).trans (congrArg (· + _) ?_)
    exact congrArg _ (row8_emb d)
  · intro j d hj
    show _ = _ + _
    rw [term_rest t j d hj, EReal.coe_zero, add_zero]
    exact congrFun (Memref.IsWhole.read_unread _ _) _

set_option maxHeartbeats 8000000 in
theorem sums_reset (t : Fin cfg0.N) (h0 : t.val % 32 = 0) (j : Fin 16) (d : Fin 1024) :
    (outsAt0 m c t.val t.isLt).2.2.2.2.2.2.2 (ix2 j d) = 0 + ((term p X M T t j d : ℝ) : EReal) := by
  have B := blk_ok m c h t
  have f0 := pay54_at (Blks.is303 B) (Blks.is29 B) (Blks.is31 B) B.l1w (pay4_at B.mx B.wo)
  have f5 := pay52_at (Blks.is303 B)
  have f4 := pay51_at (Blks.is53 B) (Blks.is55 B) (Blks.is201 B) (Blks.is266 B) B.s2 (Blks.is31 B)
  have f2 := pay49_at (Blks.is266 B)
  have f1 := pay48_at (Blks.is212 B) (Blks.is240 B) B.b2 B.a2 B.b3 B.a3 (Blks.isR2 B) (Blks.isR3 B) (Blks.is55 B)
  have f3 := pay40_at (Blks.is146 B) (Blks.is148 B) (Blks.is168 B) B.l2w (Blks.is126 B)
  have f7 := pay38_at (Blks.is168 B)
  have f6 := pay37_at (Blks.is132 B) (Blks.is137 B) B.l2w B.l2b B.tg
  have f8 := pay35_at (Blks.is132 B) (Blks.is137 B) B.l2w B.l2b B.tg
  dsimp only [Blks.v29, Blks.v31, Blks.v35, Blks.v39, Blks.v53, Blks.v55, Blks.v64, Blks.v71, Blks.v96, Blks.v101, Blks.v126, Blks.v132, Blks.v137, Blks.v146, Blks.v148, Blks.v168, Blks.v201, Blks.v212,
    Blks.kept, Blks.r0, Blks.r1, Blks.r2, Blks.r3, Blks.v240, Blks.v266, Blks.v303, Blks.v336, blk] at f0 f5 f4 f2 f1 f3 f7 f6 f8
  rw [outsAt0_A m c t h0]
  frame_out
  refine canon_rows9 _ _ _ _ _ _ _ _ _ _ (fun j d => 0 + ((term p X M T t j d : ℝ) : EReal)) ?_ ?_ ?_ ?_ ?_ ?_ ?_ ?_ ?_ ?_ j d
  · intro d
    refine (f0 _ d).trans (congrArg (· + _) ?_)
    iterate 8 refine (congrFun (View.readCov_skip _ _ _ _ _ (by decide)) _).trans ?_
    refine (congrFun (View.readCov_fill _ _ _ _ _ (by decide)) _).trans ?_
    exact Ideal.ofBits_zero .f32
  · intro d
    refine (f5 _ d).trans (congrArg (· + _) ?_)
    iterate 7 refine (congrFun (View.readCov_skip _ _ _ _ _ (by decide)) _).trans ?_
    refine (congrFun (View.readCov_fill _ _ _ _ _ (by decide)) _).trans ?_
    exact Ideal.ofBits_zero .f32
  · intro d
    refine (f4 _ d).trans (congrArg (· + _) ?_)
    iterate 6 refine (congrFun (View.readCov_skip _ _ _ _ _ (by decide)) _).trans ?_
    refine (congrFun (View.readCov_fill _ _ _ _ _ (by decide)) _).trans ?_
    exact Ideal.ofBits_zero .f32
  · intro d
    refine (f2 _ d).trans (congrArg (· + _) ?_)
    iterate 5 refine (congrFun (View.readCov_skip _ _ _ _ _ (by decide)) _).trans ?_
    refine (congrFun (View.readCov_fill _ _ _ _ _ (by decide)) _).trans ?_
    exact Ideal.ofBits_zero .f32
  · intro d
    refine (f1 _ d).trans (congrArg (· + _) ?_)
    iterate 4 refine (congrFun (View.readCov_skip _ _ _ _ _ (by decide)) _).trans ?_
    refine (congrFun (View.readCov_fill _ _ _ _ _ (by decide)) _).trans ?_
    exact Ideal.ofBits_zero .f32
  · intro d
    refine (f3 _ d).trans (congrArg (· + _) ?_)
    iterate 3 refine (congrFun (View.readCov_skip _ _ _ _ _ (by decide)) _).trans ?_
    refine (congrFun (View.readCov_fill _ _ _ _ _ (by decide)) _).trans ?_
    exact Ideal.ofBits_zero .f32
  · intro d
    refine (f7 _ d).trans (congrArg (· + _) ?_)
    iterate 2 refine (congrFun (View.readCov_skip _ _ _ _ _ (by decide)) _).trans ?_
    refine (congrFun (View.readCov_fill _ _ _ _ _ (by decide)) _).trans ?_
    exact Ideal.ofBits_zero .f32
  · intro d
    refine (f6 _ d).trans (congrArg (· + _) ?_)
    iterate 1 refine (congrFun (View.readCov_skip _ _ _ _ _ (by decide)) _).trans ?_
    refine (congrFun (View.readCov_fill _ _ _ _ _ (by decide)) _).trans ?_
    exact Ideal.ofBits_zero .f32
  · intro d
    refine (f8 _ d).trans (congrArg (· + _) ?_)
    refine (congrFun (View.readCov_fill _ _ _ _ _ (by decide)) _).trans ?_
    exact Ideal.ofBits_zero .f32
  · intro j d hj
    show _ = _ + _
    rw [term_rest t j d hj, View.canon_cons_unit_lit _ _ _ (by decide), EReal.coe_zero, add_zero]
    exact Ideal.ofBits_zero .f32

/-- The block of sums after point `n`. -/
def sumsAt (n : ℕ) (hn : n < cfg0.N) (i : Fin 16 × Fin 1024) : EReal := (outsAt0 m c n hn).2.2.2.2.2.2.2 (ix2 i.1 i.2)

theorem sumsAt_reset (t : Fin cfg0.N) (h0 : t.val % 32 = 0) (i : Fin 16 × Fin 1024) : sumsAt m c t.val t.isLt i = 0 + ((term p X M T t i.1 i.2 : ℝ) : EReal) :=
  sums_reset m c h t h0 i.1 i.2

theorem sumsAt_step (t : Fin cfg0.N) (h0 : ¬t.val % 32 = 0) (i : Fin 16 × Fin 1024) :
    sumsAt m c t.val t.isLt i = sumsAt m c (t.val - 1) (by omega) i + ((term p X M T t i.1 i.2 : ℝ) : EReal) :=
  sums_step m c h t h0 i.1 i.2

theorem sums_last (j : Fin 16) (d : Fin 1024) : sumsAt m c 31 (by decide) (j, d) = ((∑ t, part p (X t) (M t) (T t) j d : ℝ) : EReal) := by
  have e := Pipeline.eq_sum_fin_of_reset_step_apply_last (sumsAt m c) 32 (fun _ => 0)
    (fun t i => ((term p X M T t i.1 i.2 : ℝ) : EReal)) (sumsAt_reset m c h) (sumsAt_step m c h)
    (by decide) ⟨31, by decide⟩ rfl (j, d)
  refine e.trans ?_
  rw [zero_add, coe_sum, EReal.coe_eq_coe_iff]
  exact Fin.sum_mul_add_fin (n := 256) (S := 32) fun l : Fin 8192 => part p (X l) (M l) (T l) j d

end Cert.Kernel2Ideal.Values
-- ==== Proof.MlpHost.lean ====
import proofs.«01_k».proof.Proof.MlpReads

/-! What the host prepares for the network's kernel: the arguments laid out for its windows. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

variable (m : (ℓ : Loc nD τ sig) → Buf (Elt Ideal) ℓ) (c : Dev nD)

/-- The four rows of the norms, one under the other. -/
def normRows (a b e f : FVec Ideal S1x1024 .f32) : FVec Ideal S4x1024 .f32 :=
  concatenate S4x1024 0 [⟨S1x1024, a⟩, ⟨S1x1024, b⟩, ⟨S1x1024, e⟩, ⟨S1x1024, f⟩] concatenates_S1x1024_S1x1024_S1x1024_S1x1024_S4x1024_d0

def flat1 (w : FVec Ideal S1x1024x4096 .f32) : FVec Ideal S1024x4096 .bf16 :=
  truncf .bf16 (shapeCast S1024x4096 w shapeCasts_S1x1024x4096_S1024x4096 : FVec Ideal S1024x4096 .f32) bitsLt_bf16_f32

/-- The first layer's four chunks of columns, stacked. -/
def stack1 (w : FVec Ideal S1024x4096 .bf16) : FVec Ideal S4x1024x1024 .bf16 :=
  concatenate S4x1024x1024 0
    [⟨S1x1024x1024, broadcastInDim S1x1024x1024 ![1, 2] bcast_S1024x1024_S1x1024x1024_1_2 (extractStridedSlice S1024x1024 ![0, 0] w slices_S1024x4096_S1024x1024_0_0)⟩,
      ⟨S1x1024x1024, broadcastInDim S1x1024x1024 ![1, 2] bcast_S1024x1024_S1x1024x1024_1_2 (extractStridedSlice S1024x1024 ![0, 1024] w slices_S1024x4096_S1024x1024_0_1024)⟩,
      ⟨S1x1024x1024, broadcastInDim S1x1024x1024 ![1, 2] bcast_S1024x1024_S1x1024x1024_1_2 (extractStridedSlice S1024x1024 ![0, 2048] w slices_S1024x4096_S1024x1024_0_2048)⟩,
      ⟨S1x1024x1024, broadcastInDim S1x1024x1024 ![1, 2] bcast_S1024x1024_S1x1024x1024_1_2 (extractStridedSlice S1024x1024 ![0, 3072] w slices_S1024x4096_S1024x1024_0_3072)⟩]
    concatenates_S1x1024x1024_S1x1024x1024_S1x1024x1024_S1x1024x1024_S4x1024x1024_d0

/-- The second layer's four chunks of rows. -/
def stack2 (w : FVec Ideal S1x4096x1024 .f32) : FVec Ideal S4x1024x1024 .bf16 :=
  shapeCast S4x1024x1024 (truncf .bf16 (shapeCast S4096x1024 w shapeCasts_S1x4096x1024_S4096x1024 : FVec Ideal S4096x1024 .f32) bitsLt_bf16_f32 : FVec Ideal S4096x1024 .bf16)
    shapeCasts_S4096x1024_S4x1024x1024

theorem entry0 : V m c main_v0 = normRows (m ((c : Thread nD τ).loc main_arg4)) (m ((c : Thread nD τ).loc main_arg5)) (m ((c : Thread nD τ).loc main_arg6)) (m ((c : Thread nD τ).loc main_arg7)) := by
  sl_kernel_rfl
theorem entry13 : V m c main_v13 = stack1 (flat1 (m ((c : Thread nD τ).loc main_arg9))) := by
  sl_kernel_rfl
theorem entry14 : V m c main_v14 = stack2 (m ((c : Thread nD τ).loc main_arg10)) := by
  sl_kernel_rfl
theorem entry15 : V m c main_v15 = shapeCast S8192x1024 (m ((c : Thread nD τ).loc main_arg0)) shapeCasts_S1x8192x1024_S8192x1024 := by
  sl_kernel_rfl
theorem entry16 : V m c main_v16 = (truncf .bf16 (m ((c : Thread nD τ).loc main_arg1) : FVec Ideal S8192x1024 .f32) bitsLt_bf16_f32 : FVec Ideal S8192x1024 .bf16) := by
  sl_kernel_rfl
theorem entry17 : V m c main_v17 = shapeCast S8192x1024 (m ((c : Thread nD τ).loc main_arg2)) shapeCasts_S1x8192x1024_S8192x1024 := by
  sl_kernel_rfl
theorem entry19 : V m c main_v19 = (truncf .bf16 (shapeCast S1024x1024 (m ((c : Thread nD τ).loc main_arg8)) shapeCasts_S1x1024x1024_S1024x1024 : FVec Ideal S1024x1024 .f32) bitsLt_bf16_f32 : FVec Ideal S1024x1024 .bf16) := by
  sl_kernel_rfl

theorem tokens_at (x : FVec Ideal S1x8192x1024 .f32) (t : Fin 8192) (d : Fin 1024) :
    shapeCast S8192x1024 x shapeCasts_S1x8192x1024_S8192x1024 (ix2 t d) = x (ix3 0 t d) := by
  pointwise

theorem square_at (w : FVec Ideal S1x1024x1024 .f32) (k d : Fin 1024) :
    (truncf .bf16 (shapeCast S1024x1024 w shapeCasts_S1x1024x1024_S1024x1024 : FVec Ideal S1024x1024 .f32) bitsLt_bf16_f32 : FVec Ideal S1024x1024 .bf16) (ix2 k d) = w (ix3 0 k d) := by
  pointwise

theorem flat1_at (w : FVec Ideal S1x1024x4096 .f32) (d : Fin 1024) (j : Fin 4096) : flat1 w (ix2 d j) = w (ix3 0 d j) := by
  pointwise [flat1]

theorem stack1_at (w : FVec Ideal S1024x4096 .bf16) (j : Fin 4) (d k : Fin 1024) : stack1 w (ix3 j d k) = w (ix2 d (col j k)) := by
  match j with
  | ⟨0, _⟩ => pointwise [stack1, col]
  | ⟨1, _⟩ => pointwise [stack1, col]
  | ⟨2, _⟩ => pointwise [stack1, col]
  | ⟨3, _⟩ => pointwise [stack1, col]

theorem stack2_at (w : FVec Ideal S1x4096x1024 .f32) (j : Fin 4) (k d : Fin 1024) : stack2 w (ix3 j k d) = w (ix3 0 (col j k) d) := by
  pointwise [stack2, col]

section
variable (a b e f : FVec Ideal S1x1024 .f32) (d : Fin 1024)
theorem normRows_0 : normRows a b e f (ix2 0 d) = a (ix2 0 d) := by pointwise [normRows]
theorem normRows_1 : normRows a b e f (ix2 1 d) = b (ix2 0 d) := by pointwise [normRows]
theorem normRows_2 : normRows a b e f (ix2 2 d) = e (ix2 0 d) := by pointwise [normRows]
theorem normRows_3 : normRows a b e f (ix2 3 d) = f (ix2 0 d) := by pointwise [normRows]
end

end Cert.Kernel2Ideal.Values
-- ==== Proof.MlpFinal.lean ====
import proofs.«01_k».proof.Proof.MlpOuts
import proofs.«01_k».proof.Proof.MlpSums
import proofs.«01_k».proof.Proof.MlpHost

/-! The eight arrays the network's kernel leaves, in terms of its arguments. -/

set_option maxRecDepth 16384

noncomputable section

namespace Cert.Kernel2Ideal.Values

open Idealize.ShloMosaic Idealize.ShloMosaic.TcCoe Idealize.SL.Sem
open Cert.Kernel2Ideal Cert.Kernel2Ideal.Gen Cert.Reals Cert.Mlp

variable (m : (ℓ : Loc nD τ sig) → Buf (Elt Ideal) ℓ) (c : Dev nD) {p : Par} {X M T : Fin 8192 → Fin 1024 → ℝ}

/-- Arguments that hold the reals named give the kernel arrays that do. -/
theorem ins_of (x : FVec Ideal S1x8192x1024 .f32) (hx : m ((c : Thread nD τ).loc main_arg0) = x) (mx : FVec Ideal S8192x1024 .f32) (hmx : m ((c : Thread nD τ).loc main_arg1) = mx)
    (tg : FVec Ideal S1x8192x1024 .f32) (htg : m ((c : Thread nD τ).loc main_arg2) = tg) (z : FVec Ideal S1x6144 .f32) (hz : m ((c : Thread nD τ).loc main_arg3) = z)
    (a : FVec Ideal S1x1024 .f32) (ha : m ((c : Thread nD τ).loc main_arg4) = a) (b : FVec Ideal S1x1024 .f32) (hb : m ((c : Thread nD τ).loc main_arg5) = b)
    (e : FVec Ideal S1x1024 .f32) (he : m ((c : Thread nD τ).loc main_arg6) = e) (f : FVec Ideal S1x1024 .f32) (hf : m ((c : Thread nD τ).loc main_arg7) = f)
    (wo : FVec Ideal S1x1024x1024 .f32) (hwo : m ((c : Thread nD τ).loc main_arg8) = wo) (w1 : FVec Ideal S1x1024x4096 .f32) (hw1 : m ((c : Thread nD τ).loc main_arg9) = w1)
    (w2 : FVec Ideal S1x4096x1024 .f32) (hw2 : m ((c : Thread nD τ).loc main_arg10) = w2)
    (kx : ∀ t d, x (ix3 0 t d) = ((X t d : ℝ) : EReal)) (km : ∀ t d, mx (ix2 t d) = ((M t d : ℝ) : EReal)) (kt : ∀ t d, tg (ix3 0 t d) = ((T t d : ℝ) : EReal))
    (kg1 : ∀ d : Fin 1024, z (ix2 0 (⟨2048 + d.val, by omega⟩ : Fin 6144)) = ((p.g1 d : ℝ) : EReal)) (kh2 : ∀ d : Fin 1024, z (ix2 0 (⟨3072 + d.val, by omega⟩ : Fin 6144)) = ((p.h2 d : ℝ) : EReal))
    (ks2 : ∀ d : Fin 1024, z (ix2 0 (⟨4096 + d.val, by omega⟩ : Fin 6144)) = ((p.s2 d : ℝ) : EReal)) (kg2 : ∀ d : Fin 1024, z (ix2 0 (⟨5120 + d.val, by omega⟩ : Fin 6144)) = ((p.g2 d : ℝ) : EReal))
    (ka : ∀ d, a (ix2 0 d) = ((p.l1w d : ℝ) : EReal)) (kb : ∀ d, b (ix2 0 d) = ((p.l1b d : ℝ) : EReal)) (ke : ∀ d, e (ix2 0 d) = ((p.l2w d : ℝ) : EReal)) (kf : ∀ d, f (ix2 0 d) = ((p.l2b d : ℝ) : EReal))
    (kwo : ∀ k d, wo (ix3 0 k d) = ((p.wo k d : ℝ) : EReal)) (kw1 : ∀ d j, w1 (ix3 0 d j) = ((p.w1 d j : ℝ) : EReal)) (kw2 : ∀ j d, w2 (ix3 0 j d) = ((p.w2 j d : ℝ) : EReal)) :
    Ins m c p X M T := by
  subst hx hmx htg hz ha hb he hf hwo hw1 hw2
  refine ⟨fun t d => ?_, fun t d => ?_, fun t d => ?_, fun k d => ?_, fun d => ?_, fun d => ?_, fun d => ?_, fun d => ?_, fun d => ?_, fun d => ?_, fun d => ?_, fun d => ?_, fun j d k => ?_, fun j k d => ?_⟩
  · exact (congrFun (entry15 m c) _).trans ((tokens_at _ t d).trans (kx t d))
  · exact (congrFun (entry16 m c) _).trans (km t d)
  · exact (congrFun (entry17 m c) _).trans ((tokens_at _ t d).trans (kt t d))
  · exact (congrFun (entry19 m c) _).trans ((square_at _ k d).trans (kwo k d))
  · exact (congrFun (V_main_arg3 m c) _).trans (kg1 d)
  · exact (congrFun (V_main_arg3 m c) _).trans (kh2 d)
  · exact (congrFun (V_main_arg3 m c) _).trans (ks2 d)
  · exact (congrFun (V_main_arg3 m c) _).trans (kg2 d)
  · exact (congrFun (entry0 m c) _).trans ((normRows_0 _ _ _ _ d).trans (ka d))
  · exact (congrFun (entry0 m c) _).trans ((normRows_1 _ _ _ _ d).trans (kb d))
  · exact (congrFun (entry0 m c) _).trans ((normRows_2 _ _ _ _ d).trans (ke d))
  · exact (congrFun (entry0 m c) _).trans ((normRows_3 _ _ _ _ d).trans (kf d))
  · exact (congrFun (entry13 m c) _).trans ((stack1_at _ j d k).trans ((flat1_at _ d _).trans (kw1 d _)))
  · exact (congrFun (entry14 m c) _).trans ((stack2_at _ j k d).trans (kw2 _ d))

variable (h : Ins m c p X M T)
include h

theorem dmx_eq (G : FVec Ideal S8192x1024 .f32) (hG : ∀ t d, G (ix2 t d) = ((dmx p (X t) (M t) (T t) d : ℝ) : EReal)) : (dats m 0 c).arrAt 8 cfg0.N = G := by
  refine (dats m 0 c).arrAt_eq_of_covers 8 G (by decide +kernel) fun t hf y => ?_
  blk_simp
  rw [after0_8]
  obtain ⟨a, b, rfl⟩ : ∃ (a : Fin 256) (b : Fin 1024), y = ix2 a b := ⟨y 0, y 1, by funext k; match k with | ⟨0, _⟩ => rfl | ⟨1, _⟩ => rfl⟩
  refine (out8 m c h t a b).trans ?_
  rw [← hG]
  refine congrArg G ?_
  blk_ext [row, idx t]

theorem dxa_eq (G : FVec Ideal S8192x1024 .f32) (hG : ∀ t d, G (ix2 t d) = ((dxa p (X t) (M t) (T t) d : ℝ) : EReal)) : (dats m 0 c).arrAt 9 cfg0.N = G := by
  refine (dats m 0 c).arrAt_eq_of_covers 9 G (by decide +kernel) fun t hf y => ?_
  blk_simp
  rw [after0_9]
  obtain ⟨a, b, rfl⟩ : ∃ (a : Fin 256) (b : Fin 1024), y = ix2 a b := ⟨y 0, y 1, by funext k; match k with | ⟨0, _⟩ => rfl | ⟨1, _⟩ => rfl⟩
  refine (out9 m c h t a b).trans ?_
  rw [← hG]
  refine congrArg G ?_
  blk_ext [row, idx t]

theorem act_eq (G : FVec Ideal S8192x4096 .bf16) (hG : ∀ t d, G (ix2 t d) = ((act p (X t) (M t) d : ℝ) : EReal)) : (dats m 0 c).arrAt 10 cfg0.N = G := by
  refine (dats m 0 c).arrAt_eq_of_covers 10 G (by decide +kernel) fun t hf y => ?_
  blk_simp
  rw [after0_10]
  obtain ⟨a, b, rfl⟩ : ∃ (a : Fin 256) (b : Fin 4096), y = ix2 a b := ⟨y 0, y 1, by funext k; match k with | ⟨0, _⟩ => rfl | ⟨1, _⟩ => rfl⟩
  refine (out10 m c h t a b).trans ?_
  rw [← hG]
  refine congrArg G ?_
  blk_ext [row, idx t]

theorem dh_eq (G : FVec Ideal S8192x4096 .bf16) (hG : ∀ t d, G (ix2 t d) = ((dh p (X t) (M t) (T t) d : ℝ) : EReal)) : (dats m 0 c).arrAt 11 cfg0.N = G := by
  refine (dats m 0 c).arrAt_eq_of_covers 11 G (by decide +kernel) fun t hf y => ?_
  blk_simp
  rw [after0_11]
  obtain ⟨a, b, rfl⟩ : ∃ (a : Fin 256) (b : Fin 4096), y = ix2 a b := ⟨y 0, y 1, by funext k; match k with | ⟨0, _⟩ => rfl | ⟨1, _⟩ => rfl⟩
  refine (out11 m c h t a b).trans ?_
  rw [← hG]
  refine congrArg G ?_
  blk_ext [row, idx t]

theorem u2_eq (G : FVec Ideal S8192x1024 .bf16) (hG : ∀ t d, G (ix2 t d) = ((u2 p (X t) (M t) d : ℝ) : EReal)) : (dats m 0 c).arrAt 12 cfg0.N = G := by
  refine (dats m 0 c).arrAt_eq_of_covers 12 G (by decide +kernel) fun t hf y => ?_
  blk_simp
  rw [after0_12]
  obtain ⟨a, b, rfl⟩ : ∃ (a : Fin 256) (b : Fin 1024), y = ix2 a b := ⟨y 0, y 1, by funext k; match k with | ⟨0, _⟩ => rfl | ⟨1, _⟩ => rfl⟩
  refine (out12 m c h t a b).trans ?_
  rw [← hG]
  refine congrArg G ?_
  blk_ext [row, idx t]

theorem df_eq (G : FVec Ideal S8192x1024 .bf16) (hG : ∀ t d, G (ix2 t d) = ((df p (X t) (M t) (T t) d : ℝ) : EReal)) : (dats m 0 c).arrAt 13 cfg0.N = G := by
  refine (dats m 0 c).arrAt_eq_of_covers 13 G (by decide +kernel) fun t hf y => ?_
  blk_simp
  rw [after0_13]
  obtain ⟨a, b, rfl⟩ : ∃ (a : Fin 256) (b : Fin 1024), y = ix2 a b := ⟨y 0, y 1, by funext k; match k with | ⟨0, _⟩ => rfl | ⟨1, _⟩ => rfl⟩
  refine (out13 m c h t a b).trans ?_
  rw [← hG]
  refine congrArg G ?_
  blk_ext [row, idx t]

theorem dm_eq (G : FVec Ideal S8192x1024 .bf16) (hG : ∀ t d, G (ix2 t d) = ((dm p (X t) (M t) (T t) d : ℝ) : EReal)) : (dats m 0 c).arrAt 14 cfg0.N = G := by
  refine (dats m 0 c).arrAt_eq_of_covers 14 G (by decide +kernel) fun t hf y => ?_
  blk_simp
  rw [after0_14]
  obtain ⟨a, b, rfl⟩ : ∃ (a : Fin 256) (b : Fin 1024), y = ix2 a b := ⟨y 0, y 1, by funext k; match k with | ⟨0, _⟩ => rfl | ⟨1, _⟩ => rfl⟩
  refine (out14 m c h t a b).trans ?_
  rw [← hG]
  refine congrArg G ?_
  blk_ext [row, idx t]

set_option maxHeartbeats 2000000 in
theorem sums_eq (G : FVec Ideal S16x1024 .f32) (hG : ∀ j d, G (ix2 j d) = ((∑ t, part p (X t) (M t) (T t) j d : ℝ) : EReal)) : (dats m 0 c).arrAt 15 cfg0.N = G := by
  refine (dats m 0 c).arrAt_eq_of_after_last 15 ⟨31, by decide⟩ (by decide +kernel) G fun j => ?_
  refine (congrFun (after0_15 m c ⟨31, by decide⟩) _).trans ?_
  obtain ⟨a, b, rfl⟩ : ∃ (a : Fin 16) (b : Fin 1024), j = ix2 a b := ⟨j 0, j 1, by funext k; match k with | ⟨0, _⟩ => rfl | ⟨1, _⟩ => rfl⟩
  have e := (sums_last m c h a b).trans (hG a b).symm
  dsimp only [sumsAt] at e
  exact e

end Cert.Kernel2Ideal.Values
-- ==== Proof.MlpReference.lean ====
import proofs.«01_k».proof.Proof.Gen.Reference2Ideal.Run
import proofs.«01_k».proof.Proof.Gen.Reference2Ideal.Read
import proofs.«01_k».proof.Proof.MlpReals
import Idealize.ShloMosaic.Lib.Pipeline.ValueKit

/-! The results of the network's reference at an index, on arguments that are real. -/

set_option maxRecDepth 16384

noncomputable section

namespace Cert.Reference2Ideal.Values

open Idealize.ShloMosaic Idealize.ShloMosaic.TcCoe Idealize.SL.Sem
open Cert.Reference2Ideal Cert.Reference2Ideal.Gen Cert.Reference2Ideal.Value Cert.Reference2Ideal.Read Cert.Reals Cert.Mlp

/-- The arguments are the reals named. -/
structure Args (x0 : FVec Ideal S1x8192x1024 .f32) (x1 : FVec Ideal S8192x1024 .f32) (x2 : FVec Ideal S1x8192x1024 .f32) (x3 : FVec Ideal S1x6144 .f32)
    (x4 x5 x6 x7 : FVec Ideal S1x1024 .f32) (x8 : FVec Ideal S1x1024x1024 .f32) (x9 : FVec Ideal S1x1024x4096 .f32) (x10 : FVec Ideal S1x4096x1024 .f32)
    (p : Par) (X M T : Fin 8192 → Fin 1024 → ℝ) : Prop where
  x : ∀ t d, x0 (ix3 0 t d) = ((X t d : ℝ) : EReal)
  m : ∀ t d, x1 (ix2 t d) = ((M t d : ℝ) : EReal)
  t : ∀ t d, x2 (ix3 0 t d) = ((T t d : ℝ) : EReal)
  g1 : ∀ d : Fin 1024, x3 (ix2 0 (⟨2048 + d.val, by omega⟩ : Fin 6144)) = ((p.g1 d : ℝ) : EReal)
  h2 : ∀ d : Fin 1024, x3 (ix2 0 (⟨3072 + d.val, by omega⟩ : Fin 6144)) = ((p.h2 d : ℝ) : EReal)
  s2 : ∀ d : Fin 1024, x3 (ix2 0 (⟨4096 + d.val, by omega⟩ : Fin 6144)) = ((p.s2 d : ℝ) : EReal)
  g2 : ∀ d : Fin 1024, x3 (ix2 0 (⟨5120 + d.val, by omega⟩ : Fin 6144)) = ((p.g2 d : ℝ) : EReal)
  l1w : ∀ d, x4 (ix2 0 d) = ((p.l1w d : ℝ) : EReal)
  l1b : ∀ d, x5 (ix2 0 d) = ((p.l1b d : ℝ) : EReal)
  l2w : ∀ d, x6 (ix2 0 d) = ((p.l2w d : ℝ) : EReal)
  l2b : ∀ d, x7 (ix2 0 d) = ((p.l2b d : ℝ) : EReal)
  wo : ∀ k d, x8 (ix3 0 k d) = ((p.wo k d : ℝ) : EReal)
  w1 : ∀ d j, x9 (ix3 0 d j) = ((p.w1 d j : ℝ) : EReal)
  w2 : ∀ j d, x10 (ix3 0 j d) = ((p.w2 j d : ℝ) : EReal)

variable {x0 : FVec Ideal S1x8192x1024 .f32} {x1 : FVec Ideal S8192x1024 .f32} {x2 : FVec Ideal S1x8192x1024 .f32} {x3 : FVec Ideal S1x6144 .f32}
  {x4 x5 x6 x7 : FVec Ideal S1x1024 .f32} {x8 : FVec Ideal S1x1024x1024 .f32} {x9 : FVec Ideal S1x1024x4096 .f32} {x10 : FVec Ideal S1x4096x1024 .f32}
  {p : Par} {X M T : Fin 8192 → Fin 1024 → ℝ} (h : Args x0 x1 x2 x3 x4 x5 x6 x7 x8 x9 x10 p X M T)
include h

theorem zero_word : Ideal.ofBits .f32 0x00000000#32 = 0 := Ideal.ofBits_zero .f32

theorem out_at (t : Fin 8192) (d : Fin 1024) : val_main_v10 (F := Ideal) x1 x8 (ix3 0 t d) = ((out p (M t) d : ℝ) : EReal) := by
  pointwise [val_main_v10, val_main_v9, val_main_v8, val_main_v5, val_main_v4, val_main_cst, h.m, h.wo]
  simp only [← EReal.coe_mul, coe_sum]
  rfl

theorem z1_at (t : Fin 8192) (d : Fin 1024) : val_main_v16 (F := Ideal) x0 x1 x3 x8 (ix3 0 t d) = ((z1 p (X t) (M t) d : ℝ) : EReal) := by
  pointwise [val_main_v16, val_main_v15, val_main_v14, val_main_v13, val_main_v0, val_main_v12, val_main_v11, val_main_cst_2, out_at h, h.x, h.g1]
  simp only [word_al, ← EReal.coe_mul, ← EReal.coe_add]
  rfl

theorem cen1_at (t : Fin 8192) (d : Fin 1024) : val_main_v22 (F := Ideal) x0 x1 x3 x8 (ix3 0 t d) = ((cen (z1 p (X t) (M t)) d : ℝ) : EReal) := by
  pointwise [val_main_v22, val_main_v21, val_main_v20, val_main_v19, val_main_cst_4, val_main_v18, val_main_v17, val_main_cst_3, z1_at h]
  rw [word_1024, coe_sum, div_coe _ _ (by norm_num), ← EReal.coe_sub]
  rfl

theorem cen1_at' (t : Fin 8192) (d : Fin 1024) : val_main_v31 (F := Ideal) x0 x1 x3 x8 (ix3 0 t d) = ((cen (z1 p (X t) (M t)) d : ℝ) : EReal) := by
  rw [← cen1_at h]
  pointwise [val_main_v22, val_main_v21, val_main_v31, val_main_v30]

theorem var1_at (t : Fin 8192) : val_main_v33 (F := Ideal) x0 x1 x3 x8 (ix3 0 t 0) = ((vari (z1 p (X t) (M t)) + eps : ℝ) : EReal) := by
  pointwise [val_main_v33, val_main_v32, val_main_cst_8, val_main_v29, val_main_v28, val_main_cst_7, val_main_v27, val_main_v26, val_main_cst_6, val_main_v23, cen1_at h]
  simp only [← EReal.coe_mul]
  rw [word_1024, word_eps, coe_sum, div_coe _ _ (by norm_num), ← EReal.coe_add]
  rfl

theorem rs1_at (t : Fin 8192) : val_main_v34 (F := Ideal) x0 x1 x3 x8 (ix3 0 t 0) = ((rs (z1 p (X t) (M t)) : ℝ) : EReal) := by
  pointwise [val_main_v34, var1_at h]
  rw [rsqrt_coe _ (vari_eps_pos _)]
  rfl

theorem nrm1_at (t : Fin 8192) (d : Fin 1024) : val_main_v39 (F := Ideal) x0 x1 x3 x8 (ix3 0 t d) = ((nrm (z1 p (X t) (M t)) d : ℝ) : EReal) := by
  pointwise [val_main_v39, val_main_v38, cen1_at' h, rs1_at h]
  rw [← EReal.coe_mul]
  rfl

theorem x1_at (t : Fin 8192) (d : Fin 1024) : val_main_v47 (F := Ideal) x0 x1 x3 x4 x5 x8 (ix3 0 t d) = ((Mlp.x1 p (X t) (M t) d : ℝ) : EReal) := by
  pointwise [val_main_v47, val_main_v46, val_main_v45, val_main_v44, val_main_v43, val_main_v42, val_main_v41, val_main_v40, nrm1_at h, h.l1w, h.l1b]
  rw [← EReal.coe_mul, ← EReal.coe_add]
  rfl

theorem cen2_at (t : Fin 8192) (d : Fin 1024) : val_main_v53 (F := Ideal) x0 x1 x3 x4 x5 x8 (ix3 0 t d) = ((cen (Mlp.x1 p (X t) (M t)) d : ℝ) : EReal) := by
  pointwise [val_main_v53, val_main_v52, val_main_v51, val_main_v50, val_main_cst_11, val_main_v49, val_main_v48, val_main_cst_10, x1_at h]
  rw [word_1024, coe_sum, div_coe _ _ (by norm_num), ← EReal.coe_sub]
  rfl

theorem cen2_at' (t : Fin 8192) (d : Fin 1024) : val_main_v62 (F := Ideal) x0 x1 x3 x4 x5 x8 (ix3 0 t d) = ((cen (Mlp.x1 p (X t) (M t)) d : ℝ) : EReal) := by
  rw [← cen2_at h]
  pointwise [val_main_v53, val_main_v52, val_main_v62, val_main_v61]

theorem var2_at (t : Fin 8192) : val_main_v64 (F := Ideal) x0 x1 x3 x4 x5 x8 (ix3 0 t 0) = ((vari (Mlp.x1 p (X t) (M t)) + eps : ℝ) : EReal) := by
  pointwise [val_main_v64, val_main_v63, val_main_cst_15, val_main_v60, val_main_v59, val_main_cst_14, val_main_v58, val_main_v57, val_main_cst_13, val_main_v54, cen2_at h]
  simp only [← EReal.coe_mul]
  rw [word_1024, word_eps, coe_sum, div_coe _ _ (by norm_num), ← EReal.coe_add]
  rfl

theorem rs2_at (t : Fin 8192) : val_main_v65 (F := Ideal) x0 x1 x3 x4 x5 x8 (ix3 0 t 0) = ((rs (Mlp.x1 p (X t) (M t)) : ℝ) : EReal) := by
  pointwise [val_main_v65, var2_at h]
  rw [rsqrt_coe _ (vari_eps_pos _)]
  rfl

theorem nrm2_at (t : Fin 8192) (d : Fin 1024) : val_main_v70 (F := Ideal) x0 x1 x3 x4 x5 x8 (ix3 0 t d) = ((nrm (Mlp.x1 p (X t) (M t)) d : ℝ) : EReal) := by
  pointwise [val_main_v70, val_main_v69, cen2_at' h, rs2_at h]
  rw [← EReal.coe_mul]
  rfl

theorem scale_at (d : Fin 1024) : val_main_v73 (F := Ideal) x3 (ix3 0 0 d) = ((1 + p.s2 d : ℝ) : EReal) := by
  pointwise [val_main_v73, val_main_v72, val_main_cst_17, val_main_v71, val_main_v2, h.s2]
  rw [← EReal.coe_one, ← EReal.coe_add]

theorem u2_at (t : Fin 8192) (d : Fin 1024) : val_main_v78 (F := Ideal) x0 x1 x3 x4 x5 x8 (ix3 0 t d) = ((u2 p (X t) (M t) d : ℝ) : EReal) := by
  pointwise [val_main_v78, val_main_v77, val_main_v76, val_main_v1, val_main_v75, val_main_v74, scale_at h, nrm2_at h, h.h2]
  rw [← EReal.coe_mul, ← EReal.coe_add]
  rfl

theorem hid_at (t : Fin 8192) (j : Fin 4096) : val_main_v81 (F := Ideal) x0 x1 x3 x4 x5 x8 x9 (ix3 0 t j) = ((hid p (X t) (M t) j : ℝ) : EReal) := by
  pointwise [val_main_v81, val_main_v80, val_main_v79, val_main_v6, val_main_cst_0, u2_at h, h.w1]
  simp only [← EReal.coe_mul, coe_sum]
  rfl

theorem rl_at (t : Fin 8192) (j : Fin 4096) : val_main_v82 (F := Ideal) x0 x1 x3 x4 x5 x8 x9 (ix3 0 t j) = ((rl p (X t) (M t) j : ℝ) : EReal) := by
  pointwise [val_main_v82, val_main_call0_v0, val_main_call0_cst, hid_at h]
  rw [← EReal.coe_zero, max_coe]
  rfl

theorem act_at (t : Fin 8192) (j : Fin 4096) : val_main_v86 (F := Ideal) x0 x1 x3 x4 x5 x8 x9 (ix3 0 t j) = ((act p (X t) (M t) j : ℝ) : EReal) := by
  pointwise [val_main_v86, rl_at h]
  rw [← EReal.coe_mul]
  rfl

theorem ff_at (t : Fin 8192) (d : Fin 1024) : val_main_v91 (F := Ideal) x0 x1 x3 x4 x5 x8 x9 x10 (ix3 0 t d) = ((ff p (X t) (M t) d : ℝ) : EReal) := by
  pointwise [val_main_v91, val_main_v90, val_main_v89, val_main_v7, val_main_cst_1, act_at h, h.w2]
  simp only [← EReal.coe_mul, coe_sum]
  rfl

theorem z2_at (t : Fin 8192) (d : Fin 1024) : val_main_v97 (F := Ideal) x0 x1 x3 x4 x5 x8 x9 x10 (ix3 0 t d) = ((z2 p (X t) (M t) d : ℝ) : EReal) := by
  pointwise [val_main_v97, val_main_v96, val_main_v95, val_main_v94, val_main_v3, val_main_v93, val_main_v92, val_main_cst_21, ff_at h, x1_at h, h.g2]
  simp only [word_al, ← EReal.coe_mul, ← EReal.coe_add]
  rfl

theorem cen3_at (t : Fin 8192) (d : Fin 1024) : val_main_v103 (F := Ideal) x0 x1 x3 x4 x5 x8 x9 x10 (ix3 0 t d) = ((cen (z2 p (X t) (M t)) d : ℝ) : EReal) := by
  pointwise [val_main_v103, val_main_v102, val_main_v101, val_main_v100, val_main_cst_23, val_main_v99, val_main_v98, val_main_cst_22, z2_at h]
  rw [word_1024, coe_sum, div_coe _ _ (by norm_num), ← EReal.coe_sub]
  rfl

theorem cen3_at' (t : Fin 8192) (d : Fin 1024) : val_main_v112 (F := Ideal) x0 x1 x3 x4 x5 x8 x9 x10 (ix3 0 t d) = ((cen (z2 p (X t) (M t)) d : ℝ) : EReal) := by
  rw [← cen3_at h]
  pointwise [val_main_v103, val_main_v102, val_main_v112, val_main_v111]

theorem var3_at (t : Fin 8192) : val_main_v114 (F := Ideal) x0 x1 x3 x4 x5 x8 x9 x10 (ix3 0 t 0) = ((vari (z2 p (X t) (M t)) + eps : ℝ) : EReal) := by
  pointwise [val_main_v114, val_main_v113, val_main_cst_27, val_main_v110, val_main_v109, val_main_cst_26, val_main_v108, val_main_v107, val_main_cst_25, val_main_v104, cen3_at h]
  simp only [← EReal.coe_mul]
  rw [word_1024, word_eps, coe_sum, div_coe _ _ (by norm_num), ← EReal.coe_add]
  rfl

theorem rs3_at (t : Fin 8192) : val_main_v115 (F := Ideal) x0 x1 x3 x4 x5 x8 x9 x10 (ix3 0 t 0) = ((rs (z2 p (X t) (M t)) : ℝ) : EReal) := by
  pointwise [val_main_v115, var3_at h]
  rw [rsqrt_coe _ (vari_eps_pos _)]
  rfl

theorem nrm3_at (t : Fin 8192) (d : Fin 1024) : val_main_v120 (F := Ideal) x0 x1 x3 x4 x5 x8 x9 x10 (ix3 0 t d) = ((nrm (z2 p (X t) (M t)) d : ℝ) : EReal) := by
  pointwise [val_main_v120, val_main_v119, cen3_at' h, rs3_at h]
  rw [← EReal.coe_mul]
  rfl

theorem err_at (t : Fin 8192) (d : Fin 1024) : val_main_v129 (F := Ideal) x0 x1 x2 x3 x4 x5 x6 x7 x8 x9 x10 (ix3 0 t d) = ((err p (X t) (M t) (T t) d : ℝ) : EReal) := by
  pointwise [val_main_v129, val_main_v128, val_main_v127, val_main_v126, val_main_v125, val_main_v124, val_main_v123, val_main_v122, val_main_v121, nrm3_at h, h.l2w, h.l2b, h.t]
  rw [← EReal.coe_mul, ← EReal.coe_add, ← EReal.coe_sub]
  rfl

theorem dy_at (t : Fin 8192) (d : Fin 1024) : val_main_v144 (F := Ideal) x0 x1 x2 x3 x4 x5 x6 x7 x8 x9 x10 (ix3 0 t d) = ((dy p (X t) (M t) (T t) d : ℝ) : EReal) := by
  pointwise [val_main_v144, val_main_v143, val_main_v142, val_main_v141, val_main_cst_37, val_main_v140, val_main_v139, val_main_cst_35, val_main_cst_36, val_main_v132, val_main_v131, val_main_cst_29, err_at h]
  simp only [word_half, word_1024, word_two, mul_one, div_coe _ _ (show (1024 : ℝ) ≠ 0 by norm_num), ← EReal.coe_mul, EReal.coe_eq_coe_iff]
  unfold dy
  ring

theorem gz2_at (t : Fin 8192) (d : Fin 1024) : val_main_v153 (F := Ideal) x0 x1 x2 x3 x4 x5 x6 x7 x8 x9 x10 (ix3 0 t d) = ((dy p (X t) (M t) (T t) d * p.l2w d : ℝ) : EReal) := by
  pointwise [val_main_v153, val_main_v152, val_main_v122, val_main_v121, dy_at h, h.l2w]
  rw [← EReal.coe_mul]

theorem dz2_at (t : Fin 8192) (d : Fin 1024) : val_main_v181 (F := Ideal) x0 x1 x2 x3 x4 x5 x6 x7 x8 x9 x10 (ix3 0 t d) = ((dz2 p (X t) (M t) (T t) d : ℝ) : EReal) := by
  pointwise [val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v118, val_main_v117, val_main_v116, val_main_v106, val_main_v105, val_main_cst_24, val_main_cst_28, val_main_cst_42, val_main_cst_43, val_main_cst_44, val_main_cst_45, val_main_cst_46, val_main_cst_47, val_main_cst_48]
  rw [reduceAdd_middle, reduceAdd_middle]
  pointwise [gz2_at h, cen3_at h, cen3_at' h, var3_at h, rs3_at h, reduceAdd_middle]
  unfold dz2
  rw [← lnBwd_steps]
  simp only [word_1024, word_two, word_neg_half, ← EReal.coe_mul, ← EReal.coe_add, ← EReal.coe_neg, coe_sum,
    div_coe _ _ (vari_eps_pos (z2 p (X t) (M t))).ne', div_coe _ _ (show (1024 : ℝ) ≠ 0 by norm_num)]

theorem df_at (t : Fin 8192) (d : Fin 1024) : val_main_v183 (F := Ideal) x0 x1 x2 x3 x4 x5 x6 x7 x8 x9 x10 (ix3 0 t d) = ((df p (X t) (M t) (T t) d : ℝ) : EReal) := by
  pointwise [val_main_v183, val_main_v182, val_main_v94, val_main_v3, dz2_at h, h.g2]
  rw [← EReal.coe_mul]
  rfl

theorem dh_at (t : Fin 8192) (j : Fin 4096) : val_main_v194 (F := Ideal) x0 x1 x2 x3 x4 x5 x6 x7 x8 x9 x10 (ix3 0 t j) = ((dh p (X t) (M t) (T t) j : ℝ) : EReal) := by
  pointwise [val_main_v194, val_main_v193, val_main_cst_52, val_main_v192, val_main_v191, val_main_v89, val_main_v88, val_main_v87, val_main_cst_20, val_main_v84, val_main_v83, val_main_cst_18, hid_at h, rl_at h, df_at h, h.w2]
  simp only [word_two, ← EReal.coe_mul, coe_sum]
  by_cases hp : 0 < hid p (X t) (M t) j
  · rw [if_pos (EReal.coe_pos.mpr hp)]
    rfl
  · rw [if_neg (fun e => hp (EReal.coe_pos.mp e)), ← EReal.coe_zero, EReal.coe_eq_coe_iff]
    unfold dh rl
    rw [max_eq_right (not_lt.mp hp), mul_zero, mul_zero]

theorem du2_at (t : Fin 8192) (d : Fin 1024) : val_main_v195 (F := Ideal) x0 x1 x2 x3 x4 x5 x6 x7 x8 x9 x10 (ix3 0 t d) = ((du2 p (X t) (M t) (T t) d : ℝ) : EReal) := by
  pointwise [val_main_v195, val_main_v79, dh_at h, h.w1]
  simp only [← EReal.coe_mul, coe_sum]
  rfl

theorem gx1_at (t : Fin 8192) (d : Fin 1024) : val_main_v204 (F := Ideal) x0 x1 x2 x3 x4 x5 x6 x7 x8 x9 x10 (ix3 0 t d) = ((du2 p (X t) (M t) (T t) d * (1 + p.s2 d) : ℝ) : EReal) := by
  pointwise [val_main_v204, val_main_v203, scale_at h, du2_at h]
  rw [← EReal.coe_mul]

theorem dx1_at (t : Fin 8192) (d : Fin 1024) : val_main_v233 (F := Ideal) x0 x1 x2 x3 x4 x5 x6 x7 x8 x9 x10 (ix3 0 t d) = ((dx1 p (X t) (M t) (T t) d : ℝ) : EReal) := by
  pointwise [val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v190, val_main_v189, val_main_v68, val_main_v67, val_main_v66, val_main_v56, val_main_v55, val_main_cst_12, val_main_cst_16, val_main_cst_51, val_main_cst_57, val_main_cst_58, val_main_cst_59, val_main_cst_60, val_main_cst_61, val_main_cst_62, val_main_cst_63]
  rw [reduceAdd_middle, reduceAdd_middle]
  pointwise [gx1_at h, dz2_at h, cen2_at h, cen2_at' h, var2_at h, rs2_at h, reduceAdd_middle]
  unfold dx1
  rw [← lnBwd_steps]
  simp only [word_al, word_1024, word_two, word_neg_half, ← EReal.coe_mul, ← EReal.coe_add, ← EReal.coe_neg, coe_sum,
    div_coe _ _ (vari_eps_pos (Mlp.x1 p (X t) (M t))).ne', div_coe _ _ (show (1024 : ℝ) ≠ 0 by norm_num)]
  simp only [add_assoc]

theorem gz1_at (t : Fin 8192) (d : Fin 1024) : val_main_v242 (F := Ideal) x0 x1 x2 x3 x4 x5 x6 x7 x8 x9 x10 (ix3 0 t d) = ((dx1 p (X t) (M t) (T t) d * p.l1w d : ℝ) : EReal) := by
  pointwise [val_main_v242, val_main_v241, val_main_v41, val_main_v40, dx1_at h, h.l1w]
  rw [← EReal.coe_mul]

theorem dz1_at (t : Fin 8192) (d : Fin 1024) : val_main_v270 (F := Ideal) x0 x1 x2 x3 x4 x5 x6 x7 x8 x9 x10 (ix3 0 t d) = ((dz1 p (X t) (M t) (T t) d : ℝ) : EReal) := by
  pointwise [val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v37, val_main_v36, val_main_v35, val_main_v25, val_main_v24, val_main_cst_5, val_main_cst_9, val_main_cst_68, val_main_cst_69, val_main_cst_70, val_main_cst_71, val_main_cst_72, val_main_cst_73, val_main_cst_74]
  rw [reduceAdd_middle, reduceAdd_middle]
  pointwise [gz1_at h, cen1_at h, cen1_at' h, var1_at h, rs1_at h, reduceAdd_middle]
  unfold dz1
  rw [← lnBwd_steps]
  simp only [word_1024, word_two, word_neg_half, ← EReal.coe_mul, ← EReal.coe_add, ← EReal.coe_neg, coe_sum,
    div_coe _ _ (vari_eps_pos (z1 p (X t) (M t))).ne', div_coe _ _ (show (1024 : ℝ) ≠ 0 by norm_num)]

theorem dm_at (t : Fin 8192) (d : Fin 1024) : val_main_v272 (F := Ideal) x0 x1 x2 x3 x4 x5 x6 x7 x8 x9 x10 (ix3 0 t d) = ((dm p (X t) (M t) (T t) d : ℝ) : EReal) := by
  pointwise [val_main_v272, val_main_v271, val_main_v13, val_main_v0, dz1_at h, h.g1]
  rw [← EReal.coe_mul]
  rfl

/-! ## The rows of sums -/

theorem row0_at (d : Fin 1024) : val_main_v277 (F := Ideal) x0 x1 x2 x3 x4 x5 x6 x7 x8 x9 x10 (ix2 0 d) = ((∑ t, part p (X t) (M t) (T t) 0 d : ℝ) : EReal) := by
  pointwise [val_main_v277, val_main_v276, val_main_cst_76]
  rw [reduceAdd_last]
  pointwise [val_main_v275, val_main_v274, val_main_v273, val_main_cst_75, out_at h, dz1_at h]
  simp only [← EReal.coe_mul, coe_sum]
  rfl

theorem row1_at (d : Fin 1024) : val_main_v206 (F := Ideal) x0 x1 x2 x3 x4 x5 x6 x7 x8 x9 x10 (ix2 0 d) = ((∑ t, part p (X t) (M t) (T t) 1 d : ℝ) : EReal) := by
  pointwise [val_main_v206, val_main_v205, val_main_cst_56]
  rw [reduceAdd_last]
  pointwise [val_main_v202, val_main_v201, val_main_v200, val_main_cst_55, nrm2_at h, du2_at h]
  simp only [← EReal.coe_mul, coe_sum, EReal.coe_eq_coe_iff]
  exact Finset.sum_congr rfl fun t _ => mul_comm _ _

theorem row2_at (d : Fin 1024) : val_main_v199 (F := Ideal) x0 x1 x2 x3 x4 x5 x6 x7 x8 x9 x10 (ix2 0 d) = ((∑ t, part p (X t) (M t) (T t) 2 d : ℝ) : EReal) := by
  pointwise [val_main_v199, val_main_v198, val_main_cst_54]
  rw [reduceAdd_last]
  pointwise [val_main_v197, val_main_v196, val_main_cst_53, du2_at h]
  rw [coe_sum]
  rfl

theorem row3_at (d : Fin 1024) : val_main_v188 (F := Ideal) x0 x1 x2 x3 x4 x5 x6 x7 x8 x9 x10 (ix2 0 d) = ((∑ t, part p (X t) (M t) (T t) 3 d : ℝ) : EReal) := by
  pointwise [val_main_v188, val_main_v187, val_main_cst_50]
  rw [reduceAdd_last]
  pointwise [val_main_v186, val_main_v185, val_main_v184, val_main_cst_49, dz2_at h, ff_at h]
  simp only [← EReal.coe_mul, coe_sum]
  rfl

theorem row4_at (d : Fin 1024) : val_main_v244 (F := Ideal) x0 x1 x2 x3 x4 x5 x6 x7 x8 x9 x10 (ix2 0 d) = ((∑ t, part p (X t) (M t) (T t) 4 d : ℝ) : EReal) := by
  pointwise [val_main_v244, val_main_v243, val_main_cst_67]
  rw [reduceAdd_last]
  pointwise [val_main_v240, val_main_v239, val_main_v238, val_main_cst_66, nrm1_at h, dx1_at h]
  simp only [← EReal.coe_mul, coe_sum, EReal.coe_eq_coe_iff]
  exact Finset.sum_congr rfl fun t _ => mul_comm _ _

theorem row5_at (d : Fin 1024) : val_main_v237 (F := Ideal) x0 x1 x2 x3 x4 x5 x6 x7 x8 x9 x10 (ix2 0 d) = ((∑ t, part p (X t) (M t) (T t) 5 d : ℝ) : EReal) := by
  pointwise [val_main_v237, val_main_v236, val_main_cst_65]
  rw [reduceAdd_last]
  pointwise [val_main_v235, val_main_v234, val_main_cst_64, dx1_at h]
  rw [coe_sum]
  rfl

theorem row6_at (d : Fin 1024) : val_main_v155 (F := Ideal) x0 x1 x2 x3 x4 x5 x6 x7 x8 x9 x10 (ix2 0 d) = ((∑ t, part p (X t) (M t) (T t) 6 d : ℝ) : EReal) := by
  pointwise [val_main_v155, val_main_v154, val_main_cst_41]
  rw [reduceAdd_last]
  pointwise [val_main_v151, val_main_v150, val_main_v149, val_main_cst_40, nrm3_at h, dy_at h]
  simp only [← EReal.coe_mul, coe_sum, EReal.coe_eq_coe_iff]
  exact Finset.sum_congr rfl fun t _ => mul_comm _ _

theorem row7_at (d : Fin 1024) : val_main_v148 (F := Ideal) x0 x1 x2 x3 x4 x5 x6 x7 x8 x9 x10 (ix2 0 d) = ((∑ t, part p (X t) (M t) (T t) 7 d : ℝ) : EReal) := by
  pointwise [val_main_v148, val_main_v147, val_main_cst_39]
  rw [reduceAdd_last]
  pointwise [val_main_v146, val_main_v145, val_main_cst_38, dy_at h]
  rw [coe_sum]
  rfl

theorem row8_at (d : Fin 1024) : val_main_v138 (F := Ideal) x0 x1 x2 x3 x4 x5 x6 x7 x8 x9 x10 (ix2 0 d) = ((∑ t, part p (X t) (M t) (T t) 8 d : ℝ) : EReal) := by
  pointwise [val_main_v138, val_main_v130, val_main_cst_34, err_at h]
  simp only [← EReal.coe_mul, coe_sum]
  rfl

/-! ## The eight results -/

theorem res_dmx (t : Fin 8192) (k : Fin 1024) : val_main_v283 (F := Ideal) x0 x1 x2 x3 x4 x5 x6 x7 x8 x9 x10 (ix2 t k) = ((dmx p (X t) (M t) (T t) k : ℝ) : EReal) := by
  pointwise [val_main_v283, val_main_v280, val_main_v8, dm_at h, h.wo]
  simp only [← EReal.coe_mul, coe_sum]
  rfl

theorem res_dxa (t : Fin 8192) (d : Fin 1024) : val_main_v284 (F := Ideal) x0 x1 x2 x3 x4 x5 x6 x7 x8 x9 x10 (ix2 t d) = ((dxa p (X t) (M t) (T t) d : ℝ) : EReal) := by
  pointwise [val_main_v284, val_main_v279, val_main_v278, val_main_cst_77, dz1_at h]
  simp only [word_al, ← EReal.coe_mul]
  rfl

theorem res_act (t : Fin 8192) (j : Fin 4096) : val_main_v286 (F := Ideal) x0 x1 x3 x4 x5 x8 x9 (ix2 t j) = ((act p (X t) (M t) j : ℝ) : EReal) := by
  pointwise [val_main_v286, val_main_v285, act_at h]

theorem res_dh (t : Fin 8192) (j : Fin 4096) : val_main_v288 (F := Ideal) x0 x1 x2 x3 x4 x5 x6 x7 x8 x9 x10 (ix2 t j) = ((dh p (X t) (M t) (T t) j : ℝ) : EReal) := by
  pointwise [val_main_v288, val_main_v287, dh_at h]

theorem res_u2 (t : Fin 8192) (d : Fin 1024) : val_main_v290 (F := Ideal) x0 x1 x3 x4 x5 x8 (ix2 t d) = ((u2 p (X t) (M t) d : ℝ) : EReal) := by
  pointwise [val_main_v290, val_main_v289, u2_at h]

theorem res_df (t : Fin 8192) (d : Fin 1024) : val_main_v292 (F := Ideal) x0 x1 x2 x3 x4 x5 x6 x7 x8 x9 x10 (ix2 t d) = ((df p (X t) (M t) (T t) d : ℝ) : EReal) := by
  pointwise [val_main_v292, val_main_v291, df_at h]

theorem res_dm (t : Fin 8192) (d : Fin 1024) : val_main_v294 (F := Ideal) x0 x1 x2 x3 x4 x5 x6 x7 x8 x9 x10 (ix2 t d) = ((dm p (X t) (M t) (T t) d : ℝ) : EReal) := by
  pointwise [val_main_v294, val_main_v293, dm_at h]

theorem res_sums (i : Fin 16) (d : Fin 1024) : val_main_v282 (F := Ideal) x0 x1 x2 x3 x4 x5 x6 x7 x8 x9 x10 (ix2 i d) = ((∑ t, part p (X t) (M t) (T t) i d : ℝ) : EReal) := by
  pointwise [val_main_v282]
  match i with
  | ⟨0, _⟩ => exact row0_at h d
  | ⟨1, _⟩ => exact row1_at h d
  | ⟨2, _⟩ => exact row2_at h d
  | ⟨3, _⟩ => exact row3_at h d
  | ⟨4, _⟩ => exact row4_at h d
  | ⟨5, _⟩ => exact row5_at h d
  | ⟨6, _⟩ => exact row6_at h d
  | ⟨7, _⟩ => exact row7_at h d
  | ⟨8, _⟩ => exact row8_at h d
  | ⟨k + 9, hk⟩ =>
    have e : ∀ t, part p (X t) (M t) (T t) ⟨k + 9, hk⟩ d = 0 := fun t => by
      unfold part
      simp only [Nat.reduceEqDiff, Nat.add_eq_zero_iff, OfNat.ofNat_ne_zero, and_false, if_false]
    simp only [e, Finset.sum_const_zero]
    iterate 9 rw [dif_neg (by omega)]
    pointwise [val_main_v281, val_main_cst_78]
    rfl

end Cert.Reference2Ideal.Values
-- ==== Proof.MlpFinite.lean ====
import proofs.«01_k».proof.Proof.Gen.Pre_finite2
import proofs.«01_k».proof.Proof.Finite

/-! The network's precondition read back: every element of the arguments is a real number. -/

set_option maxRecDepth 16384

noncomputable section

namespace Cert.Pre_finite2.Values

open Idealize.ShloMosaic
open Cert.Pre_finite2 Cert.Pre_finite2.Gen Cert.Reals

/-- All elements are real. -/
def Real {s : Shape} (x : FVec Ideal s .f32) : Prop := ∀ i, ∃ r : ℝ, x i = (r : EReal)

theorem reals (x : FVec Ideal S1x8192x1024 .f32) (mx : FVec Ideal S8192x1024 .f32) (tg : FVec Ideal S1x8192x1024 .f32) (mo : FVec Ideal S1x6144 .f32) (a : FVec Ideal S1x1024 .f32) (b : FVec Ideal S1x1024 .f32) (e : FVec Ideal S1x1024 .f32) (f : FVec Ideal S1x1024 .f32) (wo : FVec Ideal S1x1024x1024 .f32) (w1 : FVec Ideal S1x1024x4096 .f32) (w2 : FVec Ideal S1x4096x1024 .f32)
    (h : Cert.Pre_finite2.fn (F := Ideal) x mx tg mo a b e f wo w1 w2 = fun _ => 1#1) :
    Real x ∧ Real mx ∧ Real tg ∧ Real mo ∧ Real a ∧ Real b ∧ Real e ∧ Real f ∧ Real wo ∧ Real w1 ∧ Real w2 := by
  have h0 := congrFun h (Shape.Idx.first h_S_)
  obtain ⟨h10, q10⟩ := Cert.Pre_finite.Values.of_andi _ _ h0
  obtain ⟨h9, q9⟩ := Cert.Pre_finite.Values.of_andi _ _ h10
  obtain ⟨h8, q8⟩ := Cert.Pre_finite.Values.of_andi _ _ h9
  obtain ⟨h7, q7⟩ := Cert.Pre_finite.Values.of_andi _ _ h8
  obtain ⟨h6, q6⟩ := Cert.Pre_finite.Values.of_andi _ _ h7
  obtain ⟨h5, q5⟩ := Cert.Pre_finite.Values.of_andi _ _ h6
  obtain ⟨h4, q4⟩ := Cert.Pre_finite.Values.of_andi _ _ h5
  obtain ⟨h3, q3⟩ := Cert.Pre_finite.Values.of_andi _ _ h4
  obtain ⟨h2, q2⟩ := Cert.Pre_finite.Values.of_andi _ _ h3
  obtain ⟨q0, q1⟩ := Cert.Pre_finite.Values.of_andi _ _ h2
  exact ⟨Cert.Pre_finite.Values.all_real x bcast_S_S1x8192x1024 reducesTo_S1x8192x1024_S_d0_1_2 (Shape.Idx.first h_S_) q0, Cert.Pre_finite.Values.all_real mx bcast_S_S8192x1024 reducesTo_S8192x1024_S_d0_1 (Shape.Idx.first h_S_) q1, Cert.Pre_finite.Values.all_real tg bcast_S_S1x8192x1024 reducesTo_S1x8192x1024_S_d0_1_2 (Shape.Idx.first h_S_) q2, Cert.Pre_finite.Values.all_real mo bcast_S_S1x6144 reducesTo_S1x6144_S_d0_1 (Shape.Idx.first h_S_) q3, Cert.Pre_finite.Values.all_real a bcast_S_S1x1024 reducesTo_S1x1024_S_d0_1 (Shape.Idx.first h_S_) q4, Cert.Pre_finite.Values.all_real b bcast_S_S1x1024 reducesTo_S1x1024_S_d0_1 (Shape.Idx.first h_S_) q5, Cert.Pre_finite.Values.all_real e bcast_S_S1x1024 reducesTo_S1x1024_S_d0_1 (Shape.Idx.first h_S_) q6, Cert.Pre_finite.Values.all_real f bcast_S_S1x1024 reducesTo_S1x1024_S_d0_1 (Shape.Idx.first h_S_) q7, Cert.Pre_finite.Values.all_real wo bcast_S_S1x1024x1024 reducesTo_S1x1024x1024_S_d0_1_2 (Shape.Idx.first h_S_) q8, Cert.Pre_finite.Values.all_real w1 bcast_S_S1x1024x4096 reducesTo_S1x1024x4096_S_d0_1_2 (Shape.Idx.first h_S_) q9, Cert.Pre_finite.Values.all_real w2 bcast_S_S1x4096x1024 reducesTo_S1x4096x1024_S_d0_1_2 (Shape.Idx.first h_S_) q10⟩

end Cert.Pre_finite2.Values
-- ==== Proof.MlpAgree.lean ====
import proofs.«01_k».proof.Defs
import proofs.«01_k».proof.Proof.Gen.Reference2Ideal.Run
import proofs.«01_k».proof.Proof.Gen.Reference2Ideal.Read
import proofs.«01_k».proof.Proof.MlpFinal
import proofs.«01_k».proof.Proof.MlpReference
import proofs.«01_k».proof.Proof.MlpFinite
import Idealize.ShloMosaic.Lib.Claim
import Idealize.ShloMosaic.Lib.Quiescent
import Idealize.ShloMosaic.Adequacy
import Idealize.ShloMosaic.Init

/-! The network's gradient: the kernel and the reference leave the same eight arrays. -/

set_option maxRecDepth 16384

noncomputable section

namespace Cert.MlpProof

open Idealize.ShloMosaic Idealize.ShloMosaic.TcCoe Idealize.SL.Sem Cert.Kernel2 Cert.Reals Cert.Mlp

/-- The reference ends, with its arguments as they were and no semaphore raised. -/
theorem reference_frame : Cert.quiescent_Reference2Ideal := fun m g _ =>
  (θ_run (Cert.Reference2Ideal.defs (F := Ideal)) _ _).mono (fun r h => ⟨fun c => (h c).2.2.2.2.2.2.2.2, sem_eq_zero_of_no_sems rfl r.2⟩)
    (Cert.Reference2Ideal.Value.run m g)

/-- The weights as reals. -/
def parOf (z : S1x6144.Idx → ℝ) (a b e f : S1x1024.Idx → ℝ) (wo : S1x1024x1024.Idx → ℝ) (w1 : S1x1024x4096.Idx → ℝ) (w2 : S1x4096x1024.Idx → ℝ) : Par where
  g1 := fun d => z (ix2 0 (⟨2048 + d.val, by omega⟩ : Fin 6144))
  h2 := fun d => z (ix2 0 (⟨3072 + d.val, by omega⟩ : Fin 6144))
  s2 := fun d => z (ix2 0 (⟨4096 + d.val, by omega⟩ : Fin 6144))
  g2 := fun d => z (ix2 0 (⟨5120 + d.val, by omega⟩ : Fin 6144))
  l1w := fun d => a (ix2 0 d)
  l1b := fun d => b (ix2 0 d)
  l2w := fun d => e (ix2 0 d)
  l2b := fun d => f (ix2 0 d)
  wo := fun k d => wo (ix3 0 k d)
  w1 := fun d j => w1 (ix3 0 d j)
  w2 := fun j d => w2 (ix3 0 j d)

set_option maxHeartbeats 4000000 in
/-- Under finite arguments the eight results of the two programs agree. -/
theorem algebraic : Cert.algebraic_Kernel2Ideal_Reference2Ideal_pre_finite2 := by
  pair_intro
  · run_from Cert.Kernel2Ideal.Value.run_blocks m g
  · run_from Cert.Reference2Ideal.Value.run m' g'
    all_goals
      obtain ⟨h0, h1, h2, h3, h4, h5, h6, h7, h8, h9, h10⟩ := hagree c
      obtain ⟨q0, q1, q2, q3, q4, q5, q6, q7, q8, q9, q10⟩ := Cert.Pre_finite2.Values.reals _ _ _ _ _ _ _ _ _ _ _ (hpre c)
      choose x kx using q0
      choose mx km using q1
      choose tg kt using q2
      choose z kz using q3
      choose a ka using q4
      choose b kb using q5
      choose e ke using q6
      choose f kf using q7
      choose wo kwo using q8
      choose w1 kw1 using q9
      choose w2 kw2 using q10
      have K := Cert.Kernel2Ideal.Values.ins_of (p := parOf z a b e f wo w1 w2) (X := fun t d => x (ix3 0 t d)) (M := fun t d => mx (ix2 t d)) (T := fun t d => tg (ix3 0 t d))
        m c _ rfl _ rfl _ rfl _ rfl _ rfl _ rfl _ rfl _ rfl _ rfl _ rfl _ rfl (fun t d => kx _) (fun t d => km _) (fun t d => kt _) (fun d => kz _) (fun d => kz _) (fun d => kz _) (fun d => kz _)
        (fun d => ka _) (fun d => kb _) (fun d => ke _) (fun d => kf _) (fun k d => kwo _) (fun d j => kw1 _) (fun j d => kw2 _)
      have R : Cert.Reference2Ideal.Values.Args (StableHlo.launchContents m' c (Proc.tc.devRef Cert.Reference2Ideal.main_arg0)) (StableHlo.launchContents m' c (Proc.tc.devRef Cert.Reference2Ideal.main_arg1)) (StableHlo.launchContents m' c (Proc.tc.devRef Cert.Reference2Ideal.main_arg2)) (StableHlo.launchContents m' c (Proc.tc.devRef Cert.Reference2Ideal.main_arg3)) (StableHlo.launchContents m' c (Proc.tc.devRef Cert.Reference2Ideal.main_arg4)) (StableHlo.launchContents m' c (Proc.tc.devRef Cert.Reference2Ideal.main_arg5)) (StableHlo.launchContents m' c (Proc.tc.devRef Cert.Reference2Ideal.main_arg6)) (StableHlo.launchContents m' c (Proc.tc.devRef Cert.Reference2Ideal.main_arg7)) (StableHlo.launchContents m' c (Proc.tc.devRef Cert.Reference2Ideal.main_arg8)) (StableHlo.launchContents m' c (Proc.tc.devRef Cert.Reference2Ideal.main_arg9)) (StableHlo.launchContents m' c (Proc.tc.devRef Cert.Reference2Ideal.main_arg10)) (parOf z a b e f wo w1 w2)
          (fun t d => x (ix3 0 t d)) (fun t d => mx (ix2 t d)) (fun t d => tg (ix3 0 t d)) :=
        ⟨fun t d => (congrFun h0 _).trans (kx _), fun t d => (congrFun h1 _).trans (km _), fun t d => (congrFun h2 _).trans (kt _), fun d => (congrFun h3 _).trans (kz _), fun d => (congrFun h3 _).trans (kz _), fun d => (congrFun h3 _).trans (kz _), fun d => (congrFun h3 _).trans (kz _), fun d => (congrFun h4 _).trans (ka _), fun d => (congrFun h5 _).trans (kb _), fun d => (congrFun h6 _).trans (ke _), fun d => (congrFun h7 _).trans (kf _), fun k d => (congrFun h8 _).trans (kwo _), fun d j => (congrFun h9 _).trans (kw1 _), fun j d => (congrFun h10 _).trans (kw2 _)⟩
    · exact (Cert.Reference2Ideal.Read.val_main_v283_eq _).trans (Cert.Kernel2Ideal.Values.dmx_eq m c K _ (Cert.Reference2Ideal.Values.res_dmx R)).symm
    · exact (Cert.Reference2Ideal.Read.val_main_v284_eq _).trans (Cert.Kernel2Ideal.Values.dxa_eq m c K _ (Cert.Reference2Ideal.Values.res_dxa R)).symm
    · exact (Cert.Reference2Ideal.Read.val_main_v286_eq _).trans (Cert.Kernel2Ideal.Values.act_eq m c K _ (Cert.Reference2Ideal.Values.res_act R)).symm
    · exact (Cert.Reference2Ideal.Read.val_main_v288_eq _).trans (Cert.Kernel2Ideal.Values.dh_eq m c K _ (Cert.Reference2Ideal.Values.res_dh R)).symm
    · exact (Cert.Reference2Ideal.Read.val_main_v290_eq _).trans (Cert.Kernel2Ideal.Values.u2_eq m c K _ (Cert.Reference2Ideal.Values.res_u2 R)).symm
    · exact (Cert.Reference2Ideal.Read.val_main_v292_eq _).trans (Cert.Kernel2Ideal.Values.df_eq m c K _ (Cert.Reference2Ideal.Values.res_df R)).symm
    · exact (Cert.Reference2Ideal.Read.val_main_v294_eq _).trans (Cert.Kernel2Ideal.Values.dm_eq m c K _ (Cert.Reference2Ideal.Values.res_dm R)).symm
    · exact (Cert.Reference2Ideal.Read.val_main_v282_eq _).trans (Cert.Kernel2Ideal.Values.sums_eq m c K _ (Cert.Reference2Ideal.Values.res_sums R)).symm

end Cert.MlpProof
-- ==== Proof.Ada.lean ====
import Idealize.ShloMosaic.Lib.Pointwise
import Idealize.ShloMosaic.Lib.IdealHost
import Idealize.ShloMosaic.Lib.Claim

/-! The gradient of the modulation's weight and one step of its optimiser, entry by entry, on any
extended reals. -/

noncomputable section

namespace Cert.Ada

open Idealize.ShloMosaic

/-- The gate `x · σ(x)`. -/
def silu (x : EReal) : EReal := x * Ideal.div 1 (1 + Ideal.exp (-x))

/-- The gradient at one weight: over the batch, the gate of the condition times the modulation's gradient. -/
def grad (c : Fin 8 → EReal) (d : Fin 8 → EReal) : EReal := ∑ b, silu (c b) * d b

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change. -/
def change (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
      + Ideal.ofBits .f32 0x3C23D70A#32 * w)

end Cert.Ada
-- ==== Proof.AdaKernel.lean ====
import proofs.«01_k».proof.Proof.Gen.Kernel3Ideal.Frame
import proofs.«01_k».proof.Proof.Ada
import Idealize.ShloMosaic.Lib.Pipeline.ReadBack
import Idealize.ShloMosaic.Lib.Pipeline.ValueKit

/-! The four arrays the kernel leaves for the modulation's weight, entry by entry. -/

set_option maxRecDepth 16384

noncomputable section

namespace Cert.Kernel3Ideal.Values

open Idealize.ShloMosaic Idealize.ShloMosaic.TcCoe Idealize.SL.Sem
open Cert.Kernel3Ideal Cert.Kernel3Ideal.Gen Cert.Ada

/-! ## One block -/

section
variable (a : Vec Ideal S1024x8 .f32) (d : Vec Ideal S8x512 .f32) (w m v : Vec Ideal S1024x512 .f32) (k : Fin 1024) (j : Fin 512)

theorem silu_at (b : Fin 8) : k0_pay1 a (ix2 k b) = silu (a (ix2 k b)) := by
  pointwise [k0_pay1]
  rw [zero_sub]
  rfl

theorem grad_at : k0_pay3 (k0_pay1 a) d (k0_pay2 a d) (ix2 k j) = grad (fun b => a (ix2 k b)) (fun b => d (ix2 b j)) := by
  pointwise [k0_pay3, k0_pay2, silu_at]
  unfold grad
  rw [Fin.sum_univ_eight]

theorem first_at : k0_pay4 (k0_pay1 a) d (k0_pay2 a d) m (ix2 k j) = first (grad (fun b => a (ix2 k b)) (fun b => d (ix2 b j))) (m (ix2 k j)) := by
  pointwise [k0_pay4, grad_at]
  rfl

theorem second_at : k0_pay5 (k0_pay1 a) d (k0_pay2 a d) v (ix2 k j) = second (grad (fun b => a (ix2 k b)) (fun b => d (ix2 b j))) (v (ix2 k j)) := by
  pointwise [k0_pay5, grad_at]
  rfl

theorem change_at : k0_pay6 (k0_pay1 a) d (k0_pay2 a d) w m v (ix2 k j)
    = change (grad (fun b => a (ix2 k b)) (fun b => d (ix2 b j))) (w (ix2 k j)) (m (ix2 k j)) (v (ix2 k j)) := by
  pointwise [k0_pay6, first_at, second_at]
  rfl
end

/-! ## What a point writes -/

section
variable (a : Vec Ideal S1024x8 .f32) (d : Vec Ideal S8x512 .f32) (w m v : Vec Ideal S1024x512 .f32) (y : S1024x512.Idx)

theorem out5 : out0_5 a d w m v y = k0_pay3 (k0_pay1 a) d (k0_pay2 a d) y := by
  unfold out0_5 k0_pay7 k0_pay8
  frame_out

theorem out6 : out0_6 a d w m v y = k0_pay6 (k0_pay1 a) d (k0_pay2 a d) w m v y := by
  unfold out0_6 k0_pay7 k0_pay8
  frame_out

theorem out7 : out0_7 a d w m v y = k0_pay4 (k0_pay1 a) d (k0_pay2 a d) m y := by
  unfold out0_7 k0_pay7 k0_pay8
  frame_out

theorem out8 : out0_8 a d w m v y = k0_pay5 (k0_pay1 a) d (k0_pay2 a d) v y := by
  unfold out0_8 k0_pay7 k0_pay8
  frame_out
end

/-! ## The blocks of a point -/

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- Column `j` of point `t`'s block. -/
def col (t : Fin cfg0.N) (j : Fin 512) : Fin 1536 := ⟨t.val * 512 + j.val, by have := t.isLt; have : cfg0.N = 3 := rfl; omega⟩

theorem entry0 : V m c main_v0 = transpose S1024x8 [1, 0] (m ((c : Thread nD τ).loc main_arg0)) transposes_S8x1024_S1024x8_1_0 := by sl_kernel_rfl
theorem entry1 : V m c main_v1 = shapeCast S1024x1536 (m ((c : Thread nD τ).loc main_arg2)) shapeCasts_S1x1024x1536_S1024x1536 := by sl_kernel_rfl
theorem entry2 : V m c main_v2 = shapeCast S1024x1536 (m ((c : Thread nD τ).loc main_arg3)) shapeCasts_S1x1024x1536_S1024x1536 := by sl_kernel_rfl
theorem entry3 : V m c main_v3 = shapeCast S1024x1536 (m ((c : Thread nD τ).loc main_arg4)) shapeCasts_S1x1024x1536_S1024x1536 := by sl_kernel_rfl

theorem turn_at (x : FVec Ideal S8x1024 .f32) (k : Fin 1024) (b : Fin 8) : transpose S1024x8 [1, 0] x transposes_S8x1024_S1024x8_1_0 (ix2 k b) = x (ix2 b k) := by
  pointwise

theorem flat_at (x : FVec Ideal S1x1024x1536 .f32) (k : Fin 1024) (j : Fin 1536) :
    shapeCast S1024x1536 x shapeCasts_S1x1024x1536_S1024x1536 (ix2 k j) = x (ix3 0 k j) := by
  pointwise

theorem cond_at (t : Fin cfg0.N) (k : Fin 1024) (b : Fin 8) : iblk m c 0 t (ix2 k b) = m ((c : Thread nD τ).loc main_arg0) (ix2 b k) := by
  refine Eq.trans ?_ ((congrFun (entry0 m c) (ix2 k b)).trans (turn_at _ k b))
  refine congrArg (V m c main_v0) ?_
  blk_ext [idx t]

theorem dmod_at (t : Fin cfg0.N) (b : Fin 8) (j : Fin 512) : iblk m c 1 t (ix2 b j) = m ((c : Thread nD τ).loc main_arg1) (ix2 b (col t j)) := by
  refine Eq.trans ?_ (congrFun (V_main_arg1 m c) (ix2 b (col t j)))
  refine congrArg (V m c main_arg1) ?_
  blk_ext [col, idx t]

theorem w_at (t : Fin cfg0.N) (k : Fin 1024) (j : Fin 512) : iblk m c 2 t (ix2 k j) = m ((c : Thread nD τ).loc main_arg2) (ix3 0 k (col t j)) := by
  refine Eq.trans ?_ ((congrFun (entry1 m c) (ix2 k (col t j))).trans (flat_at _ k _))
  refine congrArg (V m c main_v1) ?_
  blk_ext [col, idx t]

theorem m_at (t : Fin cfg0.N) (k : Fin 1024) (j : Fin 512) : iblk m c 3 t (ix2 k j) = m ((c : Thread nD τ).loc main_arg3) (ix3 0 k (col t j)) := by
  refine Eq.trans ?_ ((congrFun (entry2 m c) (ix2 k (col t j))).trans (flat_at _ k _))
  refine congrArg (V m c main_v2) ?_
  blk_ext [col, idx t]

theorem v_at (t : Fin cfg0.N) (k : Fin 1024) (j : Fin 512) : iblk m c 4 t (ix2 k j) = m ((c : Thread nD τ).loc main_arg4) (ix3 0 k (col t j)) := by
  refine Eq.trans ?_ ((congrFun (entry3 m c) (ix2 k (col t j))).trans (flat_at _ k _))
  refine congrArg (V m c main_v3) ?_
  blk_ext [col, idx t]

/-! ## The arrays -/

/-- The gradient at weight `(k, j)`, of the arguments. -/
abbrev gradOf (k : Fin 1024) (j : Fin 1536) : EReal :=
  grad (fun b => m ((c : Thread nD τ).loc main_arg0) (ix2 b k)) (fun b => m ((c : Thread nD τ).loc main_arg1) (ix2 b j))

theorem block_grad (t : Fin cfg0.N) (k : Fin 1024) (j : Fin 512) :
    grad (fun b => iblk m c 0 t (ix2 k b)) (fun b => iblk m c 1 t (ix2 b j)) = gradOf m c k (col t j) := by
  unfold gradOf
  congr 1
  · funext b; exact cond_at m c t k b
  · funext b; exact dmod_at m c t b j

theorem split (y : S1024x512.Idx) : ∃ (k : Fin 1024) (j : Fin 512), y = ix2 k j := ⟨y 0, y 1, by funext a; match a with | ⟨0, _⟩ => rfl | ⟨1, _⟩ => rfl⟩

theorem grad_eq (G : FVec Ideal S1024x1536 .f32) (hG : ∀ k j, G (ix2 k j) = gradOf m c k j) : (dats m 0 c).arrAt 5 cfg0.N = G := by
  refine (dats m 0 c).arrAt_eq_of_covers 5 G (by decide +kernel) fun t hf y => ?_
  blk_simp
  rw [after0_5]
  obtain ⟨k, j, rfl⟩ := split y
  have e := grad_at (iblk m c 0 t) (iblk m c 1 t) k j
  rw [block_grad, ← hG] at e
  refine (out5 _ _ _ _ _ _).trans (Eq.trans e (congrArg G ?_))
  blk_ext [col, idx t]

theorem change_eq (G : FVec Ideal S1024x1536 .f32) (hG : ∀ k j, G (ix2 k j) = change (gradOf m c k j) (m ((c : Thread nD τ).loc main_arg2) (ix3 0 k j))
    (m ((c : Thread nD τ).loc main_arg3) (ix3 0 k j)) (m ((c : Thread nD τ).loc main_arg4) (ix3 0 k j))) : (dats m 0 c).arrAt 6 cfg0.N = G := by
  refine (dats m 0 c).arrAt_eq_of_covers 6 G (by decide +kernel) fun t hf y => ?_
  blk_simp
  rw [after0_6]
  obtain ⟨k, j, rfl⟩ := split y
  have e := change_at (iblk m c 0 t) (iblk m c 1 t) (iblk m c 2 t) (iblk m c 3 t) (iblk m c 4 t) k j
  rw [block_grad, w_at, m_at, v_at, ← hG] at e
  refine (out6 _ _ _ _ _ _).trans (Eq.trans e (congrArg G ?_))
  blk_ext [col, idx t]

theorem first_eq (G : FVec Ideal S1024x1536 .f32) (hG : ∀ k j, G (ix2 k j) = first (gradOf m c k j) (m ((c : Thread nD τ).loc main_arg3) (ix3 0 k j))) :
    (dats m 0 c).arrAt 7 cfg0.N = G := by
  refine (dats m 0 c).arrAt_eq_of_covers 7 G (by decide +kernel) fun t hf y => ?_
  blk_simp
  rw [after0_7]
  obtain ⟨k, j, rfl⟩ := split y
  have e := first_at (iblk m c 0 t) (iblk m c 1 t) (iblk m c 3 t) k j
  rw [block_grad, m_at, ← hG] at e
  refine (out7 _ _ _ _ _ _).trans (Eq.trans e (congrArg G ?_))
  blk_ext [col, idx t]

theorem second_eq (G : FVec Ideal S1024x1536 .f32) (hG : ∀ k j, G (ix2 k j) = second (gradOf m c k j) (m ((c : Thread nD τ).loc main_arg4) (ix3 0 k j))) :
    (dats m 0 c).arrAt 8 cfg0.N = G := by
  refine (dats m 0 c).arrAt_eq_of_covers 8 G (by decide +kernel) fun t hf y => ?_
  blk_simp
  rw [after0_8]
  obtain ⟨k, j, rfl⟩ := split y
  have e := second_at (iblk m c 0 t) (iblk m c 1 t) (iblk m c 4 t) k j
  rw [block_grad, v_at, ← hG] at e
  refine (out8 _ _ _ _ _ _).trans (Eq.trans e (congrArg G ?_))
  blk_ext [col, idx t]

/-- The run, with the four arrays named and the arguments as launched. -/
theorem run (ρ : Dev nD → PrngReg) : θ_run defs (onTc (τ := τ) (main (F := Ideal))) ⟨m, fun _ => 0, ρ⟩ fun r => ∀ c : Dev nD,
    r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 5, (h.1 c).1 6, (h.1 c).1 7, (h.1 c).1 8, h.2 c⟩)
    (θ_run_and (run_main m ρ) (unchanged m ρ))

end Cert.Kernel3Ideal.Values
-- ==== Proof.AdaReference.lean ====
import proofs.«01_k».proof.Proof.Gen.Reference3Ideal.Run
import proofs.«01_k».proof.Proof.Gen.Reference3Ideal.Read
import proofs.«01_k».proof.Proof.Ada
import Idealize.ShloMosaic.Lib.Pipeline.ValueKit

/-! The reference's four arrays for the modulation's weight, entry by entry. -/

set_option maxRecDepth 16384

noncomputable section

namespace Cert.Reference3Ideal.Values

open Idealize.ShloMosaic Idealize.ShloMosaic.TcCoe Idealize.SL.Sem
open Cert.Reference3Ideal Cert.Reference3Ideal.Gen Cert.Reference3Ideal.Value Cert.Reference3Ideal.Read Cert.Ada

variable (c : FVec Ideal S8x1024 .f32) (d : FVec Ideal S8x1536 .f32) (w m v : FVec Ideal S1x1024x1536 .f32) (k : Fin 1024) (j : Fin 1536)

theorem silu_at (b : Fin 8) : val_main_v0 (F := Ideal) c (ix2 b k) = silu (c (ix2 b k)) := by
  pointwise [val_main_v0, val_main_call0_v5, val_main_call0_v4, val_main_call0_v3, val_main_call0_v2, val_main_call0_v1, val_main_call0_v0, val_main_call0_cst, val_main_call0_cst_0]
  rfl

theorem grad_at : val_main_v5 (F := Ideal) c d (ix3 0 k j) = grad (fun b => c (ix2 b k)) (fun b => d (ix2 b j)) := by
  pointwise [val_main_v5, val_main_v4]
  rw [val_main_v3_apply]
  refine Finset.sum_congr rfl fun b _ => ?_
  have e1 : lidx_main_v3 (ix2 j k) b = ix2 b j := by funext a; match a with | ⟨0, _⟩ => rfl | ⟨1, _⟩ => rfl
  have e2 : ridx_main_v3 (ix2 j k) b = ix2 b k := by funext a; match a with | ⟨0, _⟩ => rfl | ⟨1, _⟩ => rfl
  rw [e1, e2, silu_at, mul_comm]

theorem grad_result : val_main_v30 (F := Ideal) c d (ix2 k j) = grad (fun b => c (ix2 b k)) (fun b => d (ix2 b j)) := by
  pointwise [val_main_v30, grad_at]

theorem first_at : val_main_v10 (F := Ideal) c d m (ix3 0 k j) = first (grad (fun b => c (ix2 b k)) (fun b => d (ix2 b j))) (m (ix3 0 k j)) := by
  pointwise [val_main_v10, val_main_v9, val_main_v8, val_main_v7, val_main_v6, val_main_cst, val_main_cst_0, grad_at]
  rfl

theorem first_result : val_main_v32 (F := Ideal) c d m (ix2 k j) = first (grad (fun b => c (ix2 b k)) (fun b => d (ix2 b j))) (m (ix3 0 k j)) := by
  pointwise [val_main_v32, first_at]

theorem second_at : val_main_v16 (F := Ideal) c d v (ix3 0 k j) = second (grad (fun b => c (ix2 b k)) (fun b => d (ix2 b j))) (v (ix3 0 k j)) := by
  pointwise [val_main_v16, val_main_v15, val_main_v14, val_main_v13, val_main_v12, val_main_v11, val_main_cst_1, val_main_cst_2, grad_at]
  rfl

theorem second_result : val_main_v33 (F := Ideal) c d v (ix2 k j) = second (grad (fun b => c (ix2 b k)) (fun b => d (ix2 b j))) (v (ix3 0 k j)) := by
  pointwise [val_main_v33, second_at]

theorem change_result : val_main_v31 (F := Ideal) c d w m v (ix2 k j)
    = change (grad (fun b => c (ix2 b k)) (fun b => d (ix2 b j))) (w (ix3 0 k j)) (m (ix3 0 k j)) (v (ix3 0 k j)) := by
  pointwise [val_main_v31, val_main_v29, val_main_v28, val_main_v27, val_main_v26, val_main_v25, val_main_v24, val_main_v23, val_main_v22, val_main_v21, val_main_v20, val_main_v19, val_main_v18, val_main_v17,
    val_main_cst_3, val_main_cst_4, val_main_cst_5, val_main_cst_6, val_main_cst_7, first_at, second_at]
  rfl

end Cert.Reference3Ideal.Values
-- ==== Proof.AdaAgree.lean ====
import proofs.«01_k».proof.Defs
import proofs.«01_k».proof.Proof.AdaKernel
import proofs.«01_k».proof.Proof.AdaReference
import Idealize.ShloMosaic.Lib.Claim
import Idealize.ShloMosaic.Lib.Quiescent
import Idealize.ShloMosaic.Adequacy
import Idealize.ShloMosaic.Init

/-! The modulation's weight: the kernel and the reference leave the same gradient, change and moments. -/

set_option maxRecDepth 16384

noncomputable section

namespace Cert.AdaProof

open Idealize.ShloMosaic Idealize.ShloMosaic.TcCoe Idealize.SL.Sem

/-- The reference ends, with its arguments as they were and no semaphore raised. -/
theorem reference_frame : Cert.quiescent_Reference3Ideal := fun m g _ =>
  (θ_run (Cert.Reference3Ideal.defs (F := Ideal)) _ _).mono (fun r h => ⟨fun c => (h c).2.2.2.2, sem_eq_zero_of_no_sems rfl r.2⟩)
    (Cert.Reference3Ideal.Value.run m g)

/-- On any arguments the four results of the two programs agree. -/
theorem algebraic : Cert.algebraic_Kernel3Ideal_Reference3Ideal := by
  pair_intro
  · run_from Cert.Kernel3Ideal.Values.run m g
  · run_from Cert.Reference3Ideal.Value.run m' g'
    · rw [Cert.Reference3Ideal.Read.val_main_v30_eq]
      exact (Cert.Kernel3Ideal.Values.grad_eq m c _ fun k j => Cert.Reference3Ideal.Values.grad_result _ _ k j).symm
    · rw [Cert.Reference3Ideal.Read.val_main_v31_eq]
      exact (Cert.Kernel3Ideal.Values.change_eq m c _ fun k j => Cert.Reference3Ideal.Values.change_result _ _ _ _ _ k j).symm
    · rw [Cert.Reference3Ideal.Read.val_main_v32_eq]
      exact (Cert.Kernel3Ideal.Values.first_eq m c _ fun k j => Cert.Reference3Ideal.Values.first_result _ _ _ k j).symm
    · rw [Cert.Reference3Ideal.Read.val_main_v33_eq]
      exact (Cert.Kernel3Ideal.Values.second_eq m c _ fun k j => Cert.Reference3Ideal.Values.second_result _ _ _ k j).symm

end Cert.AdaProof
-- ==== Proof.Proj.lean ====
import proofs.«01_k».proof.Proof.Reals

/-! The modulated layer norm and its projection, entry by entry, on any extended reals. -/

set_option maxRecDepth 16384

noncomputable section

namespace Cert.Proj

open Idealize.ShloMosaic

/-- The mean of a row. -/
def mid (r : Fin 1024 → EReal) : EReal := Ideal.div (∑ d, r d) (Ideal.ofBits .f32 0x44800000#32)

def cen (r : Fin 1024 → EReal) (d : Fin 1024) : EReal := r d - mid r

/-- The variance of a row. -/
def spread (r : Fin 1024 → EReal) : EReal := Ideal.div (∑ d, cen r d * cen r d) (Ideal.ofBits .f32 0x44800000#32)

/-- The normalised row, scaled and shifted. -/
def modn (r s b : Fin 1024 → EReal) (d : Fin 1024) : EReal :=
  cen r d * Ideal.rsqrt (spread r + Ideal.ofBits .f32 0x3727C5AC#32) * (1 + s d) + b d

/-- The projection's 3600 columns laid over 4224: the narrow heads widened from 64 to 128 lanes by zeros, and the last 16 columns to 128. -/
def pack (f : Fin 3600 → EReal) (j : Fin 4224) : EReal :=
  if h : j.val < 2048 then f ⟨j.val, by omega⟩
  else if h2 : j.val < 2560 then (if h3 : (j.val - 2048) % 128 < 64 then f ⟨2048 + ((j.val - 2048) / 128 * 64 + (j.val - 2048) % 128), by omega⟩ else 0)
  else if h4 : j.val < 3072 then (if h5 : (j.val - 2560) % 128 < 64 then f ⟨2304 + ((j.val - 2560) / 128 * 64 + (j.val - 2560) % 128), by omega⟩ else 0)
  else if h6 : j.val < 4096 then f ⟨2560 + (j.val - 3072), by omega⟩
  else if h7 : j.val - 4096 < 16 then f ⟨3584 + (j.val - 4096), by omega⟩ else 0

/-- A product with packed columns is the packed product. -/
theorem sum_pack (u : Fin 1024 → EReal) (g : Fin 1024 → Fin 3600 → EReal) (j : Fin 4224) :
    ∑ d, u d * pack (g d) j = pack (fun c => ∑ d, u d * g d c) j := by
  unfold pack
  split_ifs
  all_goals first | rfl | simp only [mul_zero, Finset.sum_const_zero]

theorem sum_eighth (u w : Fin 1024 → EReal) : ∑ d, u d * (w d * ((1 / 8 : ℝ) : EReal)) = (∑ d, u d * w d) * ((1 / 8 : ℝ) : EReal) := by
  have h0 : (0 : EReal) ≤ ((1 / 8 : ℝ) : EReal) := EReal.coe_nonneg.2 (by norm_num)
  have e : ∀ s : Finset (Fin 1024), ∑ d ∈ s, u d * (w d * ((1 / 8 : ℝ) : EReal)) = (∑ d ∈ s, u d * w d) * ((1 / 8 : ℝ) : EReal) := fun s => by
    induction s using Finset.induction_on with
    | empty => simp
    | insert a s ha ih =>
      rw [Finset.sum_insert ha, Finset.sum_insert ha, EReal.right_distrib_of_nonneg_of_ne_top h0 (EReal.coe_ne_top _), ih, mul_assoc]
  exact e _

/-- The weight of a column: an eighth for the query columns of the gated attention. -/
def eighth (f : Fin 3600 → EReal) (c : Fin 3600) : EReal := if 2048 ≤ c.val ∧ c.val < 2304 then f c * ((1 / 8 : ℝ) : EReal) else f c

theorem eighth_in (f : Fin 3600 → EReal) (c : Fin 3600) (h : 2048 ≤ c.val ∧ c.val < 2304) : eighth f c = f c * ((1 / 8 : ℝ) : EReal) := if_pos h
theorem eighth_out (f : Fin 3600 → EReal) (c : Fin 3600) (h : ¬(2048 ≤ c.val ∧ c.val < 2304)) : eighth f c = f c := if_neg h

/-- The packing by five parts, as the parts laid side by side read at an entry. -/
theorem pack_five (f : Fin 3600 → EReal) (j : Fin 4224) :
    (if h : j.val < 2048 then f ⟨j.val, by omega⟩
    else if h : j.val - 2048 < 512 then
      (if h1 : (j.val - 2048) % 128 < 64 then f ⟨2048 + ((j.val - 2048) / 128 * 64 + (j.val - 2048) % 128), by omega⟩ * ((1 / 8 : ℝ) : EReal) else 0)
    else if h : j.val - 2048 - 512 < 512 then
      (if h1 : (j.val - 2048 - 512) % 128 < 64 then f ⟨2304 + ((j.val - 2048 - 512) / 128 * 64 + (j.val - 2048 - 512) % 128), by omega⟩ else 0)
    else if h : j.val - 2048 - 512 - 512 < 1024 then f ⟨2560 + (j.val - 2048 - 512 - 512), by omega⟩
    else if h : j.val - 2048 - 512 - 512 - 1024 < 16 then f ⟨3584 + (j.val - 2048 - 512 - 512 - 1024), by omega⟩ else 0)
      = pack (eighth f) j := by
  have hj := j.isLt
  unfold pack
  simp only [Nat.sub_sub, Nat.reduceAdd]
  by_cases h1 : j.val < 2048
  · rw [dif_pos h1, dif_pos h1]
    exact (eighth_out f _ (by dsimp only; omega)).symm
  rw [dif_neg h1, dif_neg h1]
  by_cases h2 : j.val < 2560
  · rw [dif_pos (by omega), dif_pos h2]
    by_cases h : (j.val - 2048) % 128 < 64
    · rw [dif_pos h, dif_pos h]
      exact (eighth_in f _ (by dsimp only; omega)).symm
    · rw [dif_neg h, dif_neg h]
  rw [dif_neg (by omega), dif_neg h2]
  by_cases h3 : j.val < 3072
  · rw [dif_pos (by omega), dif_pos h3]
    by_cases h : (j.val - 2560) % 128 < 64
    · rw [dif_pos h, dif_pos h]
      exact (eighth_out f _ (by dsimp only; omega)).symm
    · rw [dif_neg h, dif_neg h]
  rw [dif_neg (by omega), dif_neg h3]
  by_cases h4 : j.val < 4096
  · rw [dif_pos (by omega), dif_pos h4]
    exact (eighth_out f _ (by dsimp only; omega)).symm
  rw [dif_neg (by omega), dif_neg h4]
  by_cases h : j.val - 4096 < 16
  · rw [dif_pos h, dif_pos h]
    exact (eighth_out f _ (by dsimp only; omega)).symm
  · rw [dif_neg h, dif_neg h]

/-- The packing by nine parts. -/
theorem pack_nine (f : Fin 3600 → EReal) (j : Fin 4224) :
    (if h : j.val < 512 then f ⟨j.val, by omega⟩
    else if h : j.val - 512 < 512 then f ⟨512 + (j.val - 512), by omega⟩
    else if h : j.val - 512 - 512 < 512 then f ⟨1024 + (j.val - 512 - 512), by omega⟩
    else if h : j.val - 512 - 512 - 512 < 512 then f ⟨1536 + (j.val - 512 - 512 - 512), by omega⟩
    else if h : j.val - 512 - 512 - 512 - 512 < 512 then
      (if h1 : (j.val - 512 - 512 - 512 - 512) % 128 < 64 then
        f ⟨2048 + ((j.val - 512 - 512 - 512 - 512) / 128 * 64 + (j.val - 512 - 512 - 512 - 512) % 128), by omega⟩ * ((1 / 8 : ℝ) : EReal) else 0)
    else if h : j.val - 512 - 512 - 512 - 512 - 512 < 512 then
      (if h1 : (j.val - 512 - 512 - 512 - 512 - 512) % 128 < 64 then
        f ⟨2304 + ((j.val - 512 - 512 - 512 - 512 - 512) / 128 * 64 + (j.val - 512 - 512 - 512 - 512 - 512) % 128), by omega⟩ else 0)
    else if h : j.val - 512 - 512 - 512 - 512 - 512 - 512 < 512 then f ⟨2560 + (j.val - 512 - 512 - 512 - 512 - 512 - 512), by omega⟩
    else if h : j.val - 512 - 512 - 512 - 512 - 512 - 512 - 512 < 512 then f ⟨3072 + (j.val - 512 - 512 - 512 - 512 - 512 - 512 - 512), by omega⟩
    else if h : j.val - 512 - 512 - 512 - 512 - 512 - 512 - 512 - 512 < 16 then
      f ⟨3584 + (j.val - 512 - 512 - 512 - 512 - 512 - 512 - 512 - 512), by omega⟩ else 0)
      = pack (eighth f) j := by
  have hj := j.isLt
  have e : ∀ (a b : ℕ) (ha : a < 3600) (hb : b < 3600), a = b → f ⟨a, ha⟩ = f ⟨b, hb⟩ := fun a b ha hb h => by
    subst h
    rfl
  rw [← pack_five]
  simp only [Nat.sub_sub, Nat.reduceAdd]
  by_cases h1 : j.val < 2048
  · rw [dif_pos h1]
    by_cases a1 : j.val < 512
    · rw [dif_pos a1]
    rw [dif_neg a1]
    by_cases a2 : j.val < 1024
    · rw [dif_pos (by omega)]
      exact e _ _ _ _ (by omega)
    rw [dif_neg (by omega)]
    by_cases a3 : j.val < 1536
    · rw [dif_pos (by omega)]
      exact e _ _ _ _ (by omega)
    rw [dif_neg (by omega), dif_pos (by omega)]
    exact e _ _ _ _ (by omega)
  rw [dif_neg (by omega), dif_neg (by omega), dif_neg (by omega), dif_neg (by omega), dif_neg h1]
  by_cases h2 : j.val - 2048 < 512
  · rw [dif_pos h2, dif_pos h2]
  rw [dif_neg h2, dif_neg h2]
  by_cases h3 : j.val - 2560 < 512
  · rw [dif_pos h3, dif_pos h3]
  rw [dif_neg h3, dif_neg h3]
  by_cases h4 : j.val - 3072 < 1024
  · rw [dif_pos h4]
    by_cases a1 : j.val - 3072 < 512
    · rw [dif_pos a1]
    rw [dif_neg a1, dif_pos (by omega)]
    exact e _ _ _ _ (by omega)
  rw [dif_neg (by omega), dif_neg (by omega), dif_neg h4]

/-- A projection's column, the query columns of the gated attention scaled. -/
def column (u : Fin 1024 → EReal) (w : FVec Ideal (⟨3, ![1, 1024, 3600]⟩ : Shape) .f32) : Fin 3600 → EReal :=
  eighth fun c => ∑ d, u d * w (ix3 0 d c)

theorem column_eq (u : Fin 1024 → EReal) (w : FVec Ideal (⟨3, ![1, 1024, 3600]⟩ : Shape) .f32) (c : Fin 3600) :
    ∑ d, u d * eighth (fun k => w (ix3 0 d k)) c = column u w c := by
  unfold column eighth
  split_ifs
  · exact sum_eighth u fun d => w (ix3 0 d c)
  · rfl

end Cert.Proj
-- ==== Proof.ProjKernel.lean ====
import proofs.«01_k».proof.Proof.Gen.Kernel4Ideal.Value
import proofs.«01_k».proof.Proof.Packing
import proofs.«01_k».proof.Proof.Proj
import Idealize.ShloMosaic.Lib.Pipeline.ReadBack
import Idealize.ShloMosaic.Lib.Pipeline.ValueKit

/-! The two arrays the kernel leaves for the input projection, entry by entry. -/

set_option maxRecDepth 16384

noncomputable section

namespace Cert.KernelIdeal.Values

open Idealize.ShloMosaic Cert.Proj

/-- The packed weight at an entry: the packed columns of the weight's own row. -/
theorem packRows_at (w : FVec Ideal S1x1024x3600 .f32) (j : Fin 4224) (d : Fin 1024) :
    packRows (rowsW w) (ix2 j d) = pack (eighth fun c => w (ix3 0 d c)) j := by
  pointwise [packRows, headRows_at, rowsQ_at, rowsK_at, rowsGate_at, rowsW_at]
  exact pack_five (fun c => w (ix3 0 d c)) j

end Cert.KernelIdeal.Values

namespace Cert.Kernel4Ideal.Values

open Idealize.ShloMosaic Idealize.ShloMosaic.TcCoe Idealize.SL.Sem
open Cert.Kernel4Ideal Cert.Kernel4Ideal.Gen Cert.Proj

/-! ## One block -/

section
variable (x : Vec Ideal S512x1024 .f32) (s b : Vec Ideal S1x1024 .f32) (w : Vec Ideal S1024x4224 .bf16) (r : Fin 512)

theorem norm_at (d : Fin 1024) : k0_pay1 x s b (ix2 r d) = modn (fun e => x (ix2 r e)) (fun e => s (ix2 0 e)) (fun e => b (ix2 0 e)) d := by
  pointwise [k0_pay1]
  rfl

theorem product_at (j : Fin 4224) : k0_pay2 x s b w (ix2 r j)
    = ∑ d, modn (fun e => x (ix2 r e)) (fun e => s (ix2 0 e)) (fun e => b (ix2 0 e)) d * w (ix2 d j) := by
  pointwise [k0_pay2, norm_at]
end

/-! ## What a point writes -/

section
variable (x : Vec Ideal S512x1024 .f32) (v : Vec Ideal S1x6144 .f32) (w : Vec Ideal S1024x4224 .bf16)

/-- A row of the modulation's first and second segment. -/
def shiftOf (v : FVec Ideal S1x6144 .f32) (e : Fin 1024) : EReal := v (ix2 0 (⟨e.val, by omega⟩ : Fin 6144))
def scaleOf (v : FVec Ideal S1x6144 .f32) (e : Fin 1024) : EReal := v (ix2 0 (⟨1024 + e.val, by omega⟩ : Fin 6144))

theorem out4' (y : S512x1024.Idx) : out0_4 x v w y = k0_pay1 x (View.ld v r0_1) (View.ld v r0_2) y := by
  unfold out0_4
  exact congrFun ((View.canon_cons_unit_lit _ _ _ (by decide)).trans (by rw [View.ld_unit_lit _ x (by decide)])) y

theorem out3' (y : S512x4224.Idx) : out0_3 x v w y = k0_pay2 x (View.ld v r0_1) (View.ld v r0_2) w y := by
  unfold out0_3
  exact congrFun ((View.canon_cons_unit_lit _ _ _ (by decide)).trans (by rw [View.ld_unit_lit _ x (by decide), View.ld_unit_lit _ w (by decide)])) y

theorem ld_scale (e : Fin 1024) : View.ld v r0_1 (ix2 0 e : S1x1024.Idx) = scaleOf v e := by
  refine congrArg v ?_
  funext a
  match a with
  | ⟨0, _⟩ => rfl
  | ⟨1, _⟩ => exact Fin.ext (show 1024 + 1 * e.val = 1024 + e.val by omega)

theorem ld_shift (e : Fin 1024) : View.ld v r0_2 (ix2 0 e : S1x1024.Idx) = shiftOf v e := by
  refine congrArg v ?_
  funext a
  match a with
  | ⟨0, _⟩ => rfl
  | ⟨1, _⟩ => exact Fin.ext (show 0 + 1 * e.val = e.val by omega)

theorem out4 (r : Fin 512) (d : Fin 1024) : out0_4 x v w (ix2 r d) = modn (fun e => x (ix2 r e)) (scaleOf v) (shiftOf v) d := by
  refine (out4' x v w _).trans ((norm_at x (View.ld v r0_1) (View.ld v r0_2) r d).trans ?_)
  exact congrArg₂ (fun s b => modn (fun e => x (ix2 r e)) s b d) (funext (ld_scale v)) (funext (ld_shift v))

theorem out3 (r : Fin 512) (j : Fin 4224) : out0_3 x v w (ix2 r j) = ∑ d, modn (fun e => x (ix2 r e)) (scaleOf v) (shiftOf v) d * w (ix2 d j) := by
  refine (out3' x v w _).trans ((product_at x (View.ld v r0_1) (View.ld v r0_2) w r j).trans ?_)
  exact congrArg₂ (fun s b => ∑ d, modn (fun e => x (ix2 r e)) s b d * w (ix2 d j)) (funext (ld_scale v)) (funext (ld_shift v))
end

/-! ## The blocks of a point -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `r` of point `t`'s block. -/
def row (t : Fin cfg0.N) (r : Fin 512) : Fin 8192 := ⟨t.val * 512 + r.val, by have := t.isLt; have : cfg0.N = 16 := rfl; omega⟩

theorem entry18 : V m c main_v18 = shapeCast S8192x1024 (m ((c : Thread nD τ).loc main_arg0)) shapeCasts_S1x8192x1024_S8192x1024 := by sl_kernel_rfl

theorem entry19 : V m c main_v19 = transpose S1024x4224 [1, 0]
    (Cert.KernelIdeal.Values.packRows (Cert.KernelIdeal.Values.rowsW (m ((c : Thread nD τ).loc main_arg2)))) transposes_S4224x1024_S1024x4224_1_0 := by
  sl_kernel_rfl

theorem flat_at (x : FVec Ideal S1x8192x1024 .f32) (t : Fin 8192) (d : Fin 1024) :
    shapeCast S8192x1024 x shapeCasts_S1x8192x1024_S8192x1024 (ix2 t d) = x (ix3 0 t d) := by
  pointwise

theorem turn_at (x : FVec Ideal S4224x1024 .bf16) (d : Fin 1024) (j : Fin 4224) :
    transpose S1024x4224 [1, 0] x transposes_S4224x1024_S1024x4224_1_0 (ix2 d j) = x (ix2 j d) := by
  pointwise

theorem x_at (t : Fin cfg0.N) (r : Fin 512) (d : Fin 1024) : iblk m c 0 t (ix2 r d) = m ((c : Thread nD τ).loc main_arg0) (ix3 0 (row t r) d) := by
  refine Eq.trans ?_ ((congrFun (entry18 m c) (ix2 (row t r) d)).trans (flat_at _ _ d))
  refine congrArg (V m c main_v18) ?_
  blk_ext [row, idx t]

theorem mod_at (t : Fin cfg0.N) (e : Fin 6144) : iblk m c 1 t (ix2 0 e) = m ((c : Thread nD τ).loc main_arg1) (ix2 0 e) := by
  refine Eq.trans ?_ (congrFun (V_main_arg1 m c) (ix2 0 e))
  refine congrArg (V m c main_arg1) ?_
  blk_ext [idx t]

theorem w_at (t : Fin cfg0.N) (d : Fin 1024) (j : Fin 4224) : iblk m c 2 t (ix2 d j)
    = pack (eighth fun k => m ((c : Thread nD τ).loc main_arg2) (ix3 0 d k)) j := by
  refine Eq.trans ?_ ((congrFun (entry19 m c) (ix2 d j)).trans ((turn_at _ d j).trans (Cert.KernelIdeal.Values.packRows_at _ j d)))
  refine congrArg (V m c main_v19) ?_
  blk_ext [idx t]

/-! ## The arrays -/

/-- A row of the modulated norm, of the arguments. -/
abbrev rowOf (t : Fin 8192) : Fin 1024 → EReal :=
  modn (fun e => m ((c : Thread nD τ).loc main_arg0) (ix3 0 t e)) (scaleOf (m ((c : Thread nD τ).loc main_arg1))) (shiftOf (m ((c : Thread nD τ).loc main_arg1)))

theorem block_row (t : Fin cfg0.N) (r : Fin 512) :
    modn (fun e => iblk m c 0 t (ix2 r e)) (scaleOf (iblk m c 1 t)) (shiftOf (iblk m c 1 t)) = rowOf m c (row t r) := by
  unfold rowOf
  congr 1
  · funext e; exact x_at m c t r e
  · funext e; exact mod_at m c t _
  · funext e; exact mod_at m c t _

theorem split (y : S512x1024.Idx) : ∃ (r : Fin 512) (d : Fin 1024), y = ix2 r d := ⟨y 0, y 1, by funext a; match a with | ⟨0, _⟩ => rfl | ⟨1, _⟩ => rfl⟩
theorem split' (y : S512x4224.Idx) : ∃ (r : Fin 512) (j : Fin 4224), y = ix2 r j := ⟨y 0, y 1, by funext a; match a with | ⟨0, _⟩ => rfl | ⟨1, _⟩ => rfl⟩

theorem norm_eq (G : FVec Ideal S8192x1024 .bf16) (hG : ∀ t d, G (ix2 t d) = rowOf m c t d) : (dats m 0 c).arrAt 4 cfg0.N = G := by
  refine (dats m 0 c).arrAt_eq_of_covers 4 G (by decide +kernel) fun t hf y => ?_
  blk_simp
  rw [after0_4]
  obtain ⟨r, d, rfl⟩ := split y
  have e := out4 (iblk m c 0 t) (iblk m c 1 t) (iblk m c 2 t) r d
  rw [block_row, ← hG] at e
  refine Eq.trans e (congrArg G ?_)
  blk_ext [row, idx t]

theorem product_eq (G : FVec Ideal S8192x4224 .bf16) (hG : ∀ t j, G (ix2 t j) = pack (column (rowOf m c t) (m ((c : Thread nD τ).loc main_arg2))) j) :
    (dats m 0 c).arrAt 3 cfg0.N = G := by
  refine (dats m 0 c).arrAt_eq_of_covers 3 G (by decide +kernel) fun t hf y => ?_
  blk_simp
  rw [after0_3]
  obtain ⟨r, j, rfl⟩ := split' y
  have e := out3 (iblk m c 0 t) (iblk m c 1 t) (iblk m c 2 t) r j
  simp only [block_row, w_at] at e
  rw [sum_pack] at e
  simp only [column_eq] at e
  rw [← hG] at e
  refine Eq.trans e (congrArg G ?_)
  blk_ext [row, idx t]

end Cert.Kernel4Ideal.Values
-- ==== Proof.ProjReference.lean ====
import proofs.«01_k».proof.Proof.Gen.Reference4Ideal.Run
import proofs.«01_k».proof.Proof.Gen.Reference4Ideal.Read
import proofs.«01_k».proof.Proof.Proj
import Idealize.ShloMosaic.Lib.Pipeline.ValueKit

/-! The reference's two arrays for the input projection, entry by entry. -/

set_option maxRecDepth 16384

noncomputable section

namespace Cert.Reference4Ideal.Values

open Idealize.ShloMosaic Idealize.ShloMosaic.TcCoe Idealize.SL.Sem
open Cert.Reference4Ideal Cert.Reference4Ideal.Gen Cert.Reference4Ideal.Value Cert.Reference4Ideal.Read Cert.Proj

variable (x : FVec Ideal S1x8192x1024 .f32) (v : FVec Ideal S1x6144 .f32) (w : FVec Ideal S1x1024x3600 .f32)

/-- A row of the modulated norm. -/
abbrev rowOf (t : Fin 8192) : Fin 1024 → EReal :=
  modn (fun e => x (ix3 0 t e)) (fun e => v (ix2 0 (⟨1024 + e.val, by omega⟩ : Fin 6144))) (fun e => v (ix2 0 (⟨e.val, by omega⟩ : Fin 6144)))

theorem cen_at (t : Fin 8192) (d : Fin 1024) : val_main_v7 (F := Ideal) x (ix3 0 t d) = cen (fun e => x (ix3 0 t e)) d := by
  pointwise [val_main_v7, val_main_v6, val_main_v5, val_main_v4, val_main_cst_0, val_main_v3, val_main_v2, val_main_cst]
  rfl

theorem cen_at' (t : Fin 8192) (d : Fin 1024) : val_main_v14 (F := Ideal) x (ix3 0 t d) = cen (fun e => x (ix3 0 t e)) d := by
  pointwise [val_main_v14, val_main_v13, val_main_v5, val_main_v4, val_main_cst_0, val_main_v3, val_main_v2, val_main_cst]
  rfl

theorem row_at (t : Fin 8192) (d : Fin 1024) : val_main_v27 (F := Ideal) x v (ix3 0 t d) = rowOf x v t d := by
  pointwise [val_main_v27, val_main_v26, val_main_v25, val_main_v24, val_main_v23, val_main_v22, val_main_v21, val_main_v20, val_main_v19, val_main_v18,
    val_main_v17, val_main_v16, val_main_v15, val_main_v12, val_main_v11, val_main_v10, val_main_v9, val_main_v8, val_main_v1, val_main_v0,
    val_main_cst_1, val_main_cst_2, val_main_cst_3, val_main_cst_4, cen_at x, cen_at' x]
  rfl

theorem norm_result (t : Fin 8192) (d : Fin 1024) : val_main_v52 (F := Ideal) x v (ix2 t d) = rowOf x v t d := by
  pointwise [val_main_v52, val_main_v51, row_at]

theorem product_at (t : Fin 8192) (c : Fin 3600) : val_main_v30 (F := Ideal) x v w (ix2 t c) = ∑ d, rowOf x v t d * w (ix3 0 d c) := by
  have e0 : val_main_v30 (F := Ideal) x v w (ix2 t c) = val_main_v29 (F := Ideal) x v w (ix3 0 t c) := by
    pointwise [val_main_v30]
  rw [e0, val_main_v29_apply]
  refine Finset.sum_congr rfl fun d _ => ?_
  have e1 : lidx_main_v29 (ix3 0 t c) d = ix3 0 t d := by funext a; match a with | ⟨0, _⟩ => rfl | ⟨1, _⟩ => rfl | ⟨2, _⟩ => rfl
  have e2 : ridx_main_v29 (ix3 0 t c) d = ix2 d c := by funext a; match a with | ⟨0, _⟩ => rfl | ⟨1, _⟩ => rfl
  rw [e1, e2, row_at]
  pointwise [val_main_v28]

theorem zero_at (i : S_.Idx) : val_main_call0_v0 (F := Ideal) i = (0 : EReal) := by
  show (((0#32 : BitVec 32).toInt : ℝ) : EReal) = 0
  simp
theorem zero_at' (i : S_.Idx) : val_main_call1_v0 (F := Ideal) i = (0 : EReal) := by
  show (((0#32 : BitVec 32).toInt : ℝ) : EReal) = 0
  simp
theorem zero_at'' (i : S_.Idx) : val_main_call2_v0 (F := Ideal) i = (0 : EReal) := by
  show (((0#32 : BitVec 32).toInt : ℝ) : EReal) = 0
  simp

theorem query_at (t : Fin 8192) (j : Fin 512) : val_main_v44 (F := Ideal) x v w (ix2 t j)
    = if h : j.val % 128 < 64 then val_main_v30 (F := Ideal) x v w (ix2 t (⟨2048 + (j.val / 128 * 64 + j.val % 128), by omega⟩ : Fin 3600)) * ((1 / 8 : ℝ) : EReal) else (0 : EReal) := by
  pointwise [val_main_v44, val_main_v43, val_main_v42, val_main_v41, val_main_v40, val_main_cst_5, val_main_v35]
  rw [Cert.Reals.word_eighth]
  by_cases h : j.val % 128 < 64
  · have e : j.val / 128 < 4 ∧ j.val % 128 < 64 := ⟨by omega, h⟩
    rw [dif_pos e, dif_pos h]
  · have e : ¬(j.val / 128 < 4 ∧ j.val % 128 < 64) := fun e => h e.2
    rw [dif_neg e, dif_neg h]
    exact zero_at _

theorem key_at (t : Fin 8192) (j : Fin 512) : val_main_v47 (F := Ideal) x v w (ix2 t j)
    = if h : j.val % 128 < 64 then val_main_v30 (F := Ideal) x v w (ix2 t (⟨2304 + (j.val / 128 * 64 + j.val % 128), by omega⟩ : Fin 3600)) else (0 : EReal) := by
  pointwise [val_main_v47, val_main_v46, val_main_v45, val_main_v36]
  by_cases h : j.val % 128 < 64
  · have e : j.val / 128 < 4 ∧ j.val % 128 < 64 := ⟨by omega, h⟩
    rw [dif_pos e, dif_pos h]
  · have e : ¬(j.val / 128 < 4 ∧ j.val % 128 < 64) := fun e => h e.2
    rw [dif_neg e, dif_neg h]
    exact zero_at' _

theorem gate_at (t : Fin 8192) (j : Fin 128) : val_main_v48 (F := Ideal) x v w (ix2 t j)
    = if h : j.val < 16 then val_main_v30 (F := Ideal) x v w (ix2 t (⟨3584 + j.val, by omega⟩ : Fin 3600)) else (0 : EReal) := by
  pointwise [val_main_v48, val_main_v39]
  by_cases h : j.val < 16
  · rw [dif_pos h, dif_pos h]
  · rw [dif_neg h, dif_neg h]
    exact zero_at'' _

theorem product_result (t : Fin 8192) (j : Fin 4224) : val_main_v50 (F := Ideal) x v w (ix2 t j) = pack (column (rowOf x v t) w) j := by
  pointwise [val_main_v50, val_main_v49, val_main_v31, val_main_v32, val_main_v33, val_main_v34, val_main_v37, val_main_v38, query_at, key_at, gate_at, product_at]
  exact pack_nine (fun c => ∑ d, rowOf x v t d * w (ix3 0 d c)) j

end Cert.Reference4Ideal.Values
-- ==== Proof.ProjAgree.lean ====
import proofs.«01_k».proof.Defs
import proofs.«01_k».proof.Proof.ProjKernel
import proofs.«01_k».proof.Proof.ProjReference
import Idealize.ShloMosaic.Lib.Claim
import Idealize.ShloMosaic.Lib.Quiescent
import Idealize.ShloMosaic.Adequacy
import Idealize.ShloMosaic.Init

/-! The input projection: the kernel and the reference leave the same projection and the same modulated norm. -/

set_option maxRecDepth 16384

noncomputable section

namespace Cert.ProjProof

open Idealize.ShloMosaic Idealize.ShloMosaic.TcCoe Idealize.SL.Sem

/-- The reference ends, with its arguments as they were and no semaphore raised. -/
theorem reference_frame : Cert.quiescent_Reference4Ideal := fun m g _ =>
  (θ_run (Cert.Reference4Ideal.defs (F := Ideal)) _ _).mono (fun r h => ⟨fun c => (h c).2.2, sem_eq_zero_of_no_sems rfl r.2⟩)
    (Cert.Reference4Ideal.Value.run m g)

/-- On any arguments the two results of the two programs agree. -/
theorem algebraic : Cert.algebraic_Kernel4Ideal_Reference4Ideal := by
  pair_intro
  · run_from Cert.Kernel4Ideal.Value.run_blocks m g
  · run_from Cert.Reference4Ideal.Value.run m' g'
    · obtain ⟨h0, h1, h2⟩ := hagree c
      rw [Cert.Reference4Ideal.Read.val_main_v50_eq, h0, h1, h2]
      exact (Cert.Kernel4Ideal.Values.product_eq m c _ fun t j => Cert.Reference4Ideal.Values.product_result _ _ _ t j).symm
    · rw [Cert.Reference4Ideal.Read.val_main_v52_eq]
      exact (Cert.Kernel4Ideal.Values.norm_eq m c _ fun t d => Cert.Reference4Ideal.Values.norm_result _ _ t d).symm

end Cert.ProjProof
-- ==== Proof.GradKernel.lean ====
import proofs.«01_k».proof.Proof.Gen.Kernel5Ideal.Value
import Idealize.ShloMosaic.Lib.Pipeline.ReadBack
import Idealize.ShloMosaic.Lib.Pipeline.ValueKit

/-! The gradient of the second weight: each block of rows the kernel leaves is the sum over all tokens. -/

set_option maxRecDepth 16384

noncomputable section

namespace Cert.Kernel5Ideal.Values

open Idealize.ShloMosaic Idealize.ShloMosaic.TcCoe Idealize.SL.Sem
open Cert.Kernel5Ideal Cert.Kernel5Ideal.Gen

/-! ## One block -/

theorem zero_at (r d : Fin 1024) : k0_pay1 (F := Ideal) (ix2 r d) = 0 := by
  pointwise [k0_pay1]

theorem add_at (acc : Vec Ideal S1024x1024 .f32) (a b : Vec Ideal S2048x1024 .bf16) (r d : Fin 1024) :
    k0_pay2 acc a b (ix2 r d) = acc (ix2 r d) + ∑ k : Fin 2048, a (ix2 k r) * b (ix2 k d) := by
  pointwise [k0_pay2]

theorem cast_at (v : Vec Ideal S1024x1024 .f32) (r d : Fin 1024) : k0_pay3 v (ix3 0 r d) = v (ix2 r d) := by
  pointwise [k0_pay3]

/-! ## The blocks of a point -/

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0, 0] :=
  (by decide +kernel : ∀ t : Fin grid0.N, _)

theorem points (t : Fin cfg0.N) : t.val < 16 := t.isLt

/-- Token `k` of point `t`'s tile. -/
def tok (t : Fin cfg0.N) (k : Fin 2048) : Fin 8192 := ⟨t.val % 4 * 2048 + k.val, by omega⟩

/-- Row `r` of the block of rows that point `t` works on. -/
def rowOf (t : Fin cfg0.N) (r : Fin 1024) : Fin 4096 := ⟨t.val / 4 * 1024 + r.val, by have := points t; omega⟩

/-- The activation. -/
abbrev act : FVec Ideal S8192x4096 .f32 := m ((c : Thread nD τ).loc main_arg0)

/-- The gradient of the block's output. -/
abbrev df : FVec Ideal S8192x1024 .f32 := m ((c : Thread nD τ).loc main_arg1)

/-- Point `t`'s tile of the activation. -/
abbrev actTile (t : Fin cfg0.N) : Vec Ideal S2048x1024 .bf16 := iblk m c 0 t

/-- Point `t`'s tile of the gradient. -/
abbrev dfTile (t : Fin cfg0.N) : Vec Ideal S2048x1024 .bf16 := iblk m c 1 t

theorem entry0 : V m c main_v0 = (truncf .bf16 (act m c) bitsLt_bf16_f32 : FVec Ideal S8192x4096 .bf16) := by sl_kernel_rfl
theorem entry1 : V m c main_v1 = (truncf .bf16 (df m c) bitsLt_bf16_f32 : FVec Ideal S8192x1024 .bf16) := by sl_kernel_rfl

theorem act_at (t : Fin cfg0.N) (k : Fin 2048) (r : Fin 1024) : actTile m c t (ix2 k r) = act m c (ix2 (tok t k) (rowOf t r)) := by
  refine Eq.trans ?_ (congrFun (entry0 m c) (ix2 (tok t k) (rowOf t r)))
  refine congrArg (V m c main_v0) ?_
  blk_ext [tok, rowOf, idx t]

theorem df_at (t : Fin cfg0.N) (k : Fin 2048) (d : Fin 1024) : dfTile m c t (ix2 k d) = df m c (ix2 (tok t k) d) := by
  refine Eq.trans ?_ (congrFun (entry1 m c) (ix2 (tok t k) d))
  refine congrArg (V m c main_v1) ?_
  blk_ext [tok, idx t]

/-! ## The running sum -/

/-- What point `t` adds. -/
def term (t : Fin cfg0.N) (i : Fin 1024 × Fin 1024) : EReal := ∑ k : Fin 2048, actTile m c t (ix2 k i.1) * dfTile m c t (ix2 k i.2)

theorem sum_reset (t : Fin cfg0.N) (h : t.val % 4 = 0) (i : Fin 1024 × Fin 1024) : (outsAt0 m c t.val t.isLt).2 (ix2 i.1 i.2) = 0 + term m c t i := by
  rw [outsAt0_A m c t h (by omega)]
  frame_out
  refine (add_at _ _ _ _ _).trans ?_
  rw [zero_at]
  rfl

theorem sum_step (t : Fin cfg0.N) (h : ¬t.val % 4 = 0) (i : Fin 1024 × Fin 1024) :
    (outsAt0 m c t.val t.isLt).2 (ix2 i.1 i.2) = (outsAt0 m c (t.val - 1) (by have := t.isLt; omega)).2 (ix2 i.1 i.2) + term m c t i := by
  by_cases h3 : t.val % 4 = 3
  · rw [outsAt0_C m c t h h3]
    frame_out
    refine (add_at _ _ _ _ _).trans (congrArg (· + term m c t i) ?_)
    exact congrFun (Memref.IsWhole.read_unread _ _) _
  · rw [outsAt0_B m c t h h3]
    frame_out
    refine (add_at _ _ _ _ _).trans (congrArg (· + term m c t i) ?_)
    exact congrFun (Memref.IsWhole.read_unread _ _) _

/-- The last point of a block hands out the running sum. -/
theorem out_last (t : Fin cfg0.N) (h : t.val % 4 = 3) (r d : Fin 1024) :
    (outsAt0 m c t.val t.isLt).1 (ix3 0 r d) = (outsAt0 m c t.val t.isLt).2 (ix2 r d) := by
  rw [outsAt0_C m c t (by omega) h]
  frame_out
  exact cast_at _ _ _

theorem sum_last (t : Fin cfg0.N) (h : t.val % 4 = 3) (r d : Fin 1024) : (outsAt0 m c t.val t.isLt).2 (ix2 r d)
    = ∑ l : Fin 8192, act m c (ix2 l (rowOf t r)) * df m c (ix2 l d) := by
  have e := Pipeline.eq_sum_fin_of_reset_step_apply_of_flush (fun n h => fun i : Fin 1024 × Fin 1024 => ((outsAt0 m c n h).2 (ix2 i.1 i.2) : EReal)) 4 (fun _ => 0)
    (term m c) (fun t h i => sum_reset m c t h i) (fun t h i => sum_step m c t h i) t h (r, d)
  refine e.trans ?_
  rw [zero_add]
  refine Eq.trans ?_ (Fin.sum_mul_add_fin (n := 2048) (S := 4) fun l : Fin 8192 => act m c (ix2 l (rowOf t r)) * df m c (ix2 l d))
  refine Finset.sum_congr rfl fun s _ => Finset.sum_congr rfl fun k _ => ?_
  have hs := s.isLt
  have ht := points t
  rw [act_at, df_at]
  have e1 : ∀ h, tok (⟨4 * (t.val / 4) + s.val, h⟩ : Fin cfg0.N) k = ⟨s.val * 2048 + k.val, by omega⟩ := fun h => Fin.ext (by show (4 * (t.val / 4) + s.val) % 4 * 2048 + k.val = s.val * 2048 + k.val; omega)
  have e2 : ∀ h, rowOf (⟨4 * (t.val / 4) + s.val, h⟩ : Fin cfg0.N) r = rowOf t r := fun h => Fin.ext (by show (4 * (t.val / 4) + s.val) / 4 * 1024 + r.val = t.val / 4 * 1024 + r.val; omega)
  rw [e1, e2]

/-! ## The array -/

theorem split (y : S1x1024x1024.Idx) : ∃ (r d : Fin 1024), y = ix3 0 r d :=
  ⟨y 1, y 2, by funext a; match a with | ⟨0, _⟩ => exact Fin.ext (by have : (y 0).val < 1 := (y 0).isLt; show (y 0).val = 0; omega) | ⟨1, _⟩ => rfl | ⟨2, _⟩ => rfl⟩

theorem grad_eq (G : FVec Ideal S4x1024x1024 .bf16) (hG : ∀ (p : Fin 4) (r d : Fin 1024), G (ix3 p r d)
    = ∑ l : Fin 8192, act m c (ix2 l (⟨p.val * 1024 + r.val, by omega⟩ : Fin 4096)) * df m c (ix2 l d)) :
    (dats m 0 c).arrAt 2 cfg0.N = G := by
  refine (dats m 0 c).arrAt_eq_of_covers 2 G (by decide +kernel) fun t hf y => ?_
  have h3 : t.val % 4 = 3 := (flush0_2 t).mp hf
  have ht := points t
  blk_simp
  rw [after0_2]
  obtain ⟨r, d, rfl⟩ := split y
  refine ((out_last m c t h3 r d).trans (sum_last m c t h3 r d)).trans (Eq.trans (hG ⟨t.val / 4, by omega⟩ r d).symm (congrArg G ?_))
  blk_ext [idx t]

end Cert.Kernel5Ideal.Values
-- ==== Proof.GradAgree.lean ====
import proofs.«01_k».proof.Defs
import proofs.«01_k».proof.Proof.GradKernel
import proofs.«01_k».proof.Proof.Gen.Reference5Ideal.Run
import proofs.«01_k».proof.Proof.Gen.Reference5Ideal.Read
import Idealize.ShloMosaic.Lib.Claim
import Idealize.ShloMosaic.Lib.Quiescent
import Idealize.ShloMosaic.Adequacy
import Idealize.ShloMosaic.Init

/-! The gradient of the second weight: the kernel and the derivative leave the same blocks. -/

set_option maxRecDepth 16384

noncomputable section

namespace Cert.Reference5Ideal.Values

open Idealize.ShloMosaic Idealize.ShloMosaic.TcCoe Idealize.SL.Sem
open Cert.Reference5Ideal Cert.Reference5Ideal.Gen Cert.Reference5Ideal.Value Cert.Reference5Ideal.Read

variable (act : FVec Ideal S8192x4096 .f32) (df : FVec Ideal S8192x1024 .f32)

theorem dot_at (d : Fin 1024) (j : Fin 4096) : val_main_v5 (F := Ideal) act df (ix2 d j) = ∑ l : Fin 8192, act (ix2 l j) * df (ix2 l d) := by
  pointwise [val_main_v5, val_main_v4, val_main_v1]
  refine (Fin.sum_univ_one _).trans (Finset.sum_congr rfl fun l _ => mul_comm _ _)

theorem flat_at (j : Fin 4096) (d : Fin 1024) : val_main_v8 (F := Ideal) act df (ix2 j d) = ∑ l : Fin 8192, act (ix2 l j) * df (ix2 l d) := by
  pointwise [val_main_v8, val_main_v7, val_main_v6, dot_at]

theorem grad_at (p : Fin 4) (r d : Fin 1024) : val_main_v10 (F := Ideal) act df (ix3 p r d)
    = ∑ l : Fin 8192, act (ix2 l (⟨p.val * 1024 + r.val, by omega⟩ : Fin 4096)) * df (ix2 l d) := by
  refine Eq.trans ?_ (flat_at act df ⟨p.val * 1024 + r.val, by omega⟩ d)
  pointwise [val_main_v10, val_main_v9]

end Cert.Reference5Ideal.Values

namespace Cert.GradProof

open Idealize.ShloMosaic Idealize.ShloMosaic.TcCoe Idealize.SL.Sem

/-- The reference ends, with its arguments as they were and no semaphore raised. -/
theorem reference_frame : Cert.quiescent_Reference5Ideal := fun m g _ =>
  (θ_run (Cert.Reference5Ideal.defs (F := Ideal)) _ _).mono (fun r h => ⟨fun c => (h c).2, sem_eq_zero_of_no_sems rfl r.2⟩)
    (Cert.Reference5Ideal.Value.run m g)

/-- On any arguments the two programs leave the same four blocks. -/
theorem algebraic : Cert.algebraic_Kernel5Ideal_Reference5Ideal := by
  pair_intro
  · run_from Cert.Kernel5Ideal.Value.run_blocks m g
  · run_from Cert.Reference5Ideal.Value.run m' g'
    all_goals
      rw [Cert.Reference5Ideal.Read.val_main_v10_eq]
      exact (Cert.Kernel5Ideal.Values.grad_eq m c _ fun p r d => Cert.Reference5Ideal.Values.grad_at _ _ p r d).symm

end Cert.GradProof
-- ==== Proof.AdamKernel.lean ====
import proofs.«01_k».proof.Proof.Gen.Kernel6Ideal.Frame
import proofs.«01_k».proof.Proof.Ada
import Idealize.ShloMosaic.Lib.Pipeline.ReadBack
import Idealize.ShloMosaic.Lib.Pipeline.ValueKit

/-! The four arrays the kernel leaves for one device's block of the second weight, entry by entry. -/

set_option maxRecDepth 16384

noncomputable section

namespace Cert.Kernel6Ideal.Values

open Idealize.ShloMosaic Idealize.ShloMosaic.TcCoe Idealize.SL.Sem
open Cert.Kernel6Ideal Cert.Kernel6Ideal.Gen Cert.Ada

/-- The sum of the eight devices' gradients, four by four. -/
def total (a b : Fin 4 → EReal) : EReal := (∑ p, a p) + ∑ p, b p

/-! ## One block -/

section
variable (g w m v : Vec Ideal S1024x512 .f32) (k : Fin 1024) (j : Fin 512)

theorem first_at : k0_pay1 g m (ix2 k j) = first (g (ix2 k j)) (m (ix2 k j)) := by
  pointwise [k0_pay1]
  rfl

theorem second_at : k0_pay2 g v (ix2 k j) = second (g (ix2 k j)) (v (ix2 k j)) := by
  pointwise [k0_pay2]
  rfl

theorem change_at : k0_pay3 g (k0_pay5 w) m v (ix2 k j) = change (g (ix2 k j)) (w (ix2 k j)) (m (ix2 k j)) (v (ix2 k j)) := by
  pointwise [k0_pay3, k0_pay5, first_at, second_at]
  rfl

theorem load_at (x : Vec Ideal S1024x512 .f32) : View.ld x r0_4 = x := View.ld_unit_lit _ x (by decide)
end

section
variable (w : Vec Ideal S1024x512 .f32) (a b : Vec Ideal S4x1024x512 .bf16) (m v : Vec Ideal S1024x512 .f32) (k : Fin 1024) (j : Fin 512)

theorem total_at : k0_pay6 w a b m v (ix2 k j) = total (fun p => a (ix3 p k j)) (fun p => b (ix3 p k j)) := by
  unfold total
  rw [Fin.sum_univ_four, Fin.sum_univ_four]
  pointwise [k0_pay6, k0_pay4]

/-! ## What a point writes -/

theorem out5 (y : S1024x512.Idx) : out0_5 w a b m v y = k0_pay6 w a b m v y := by
  unfold out0_5
  exact congrFun (View.canon_cons_unit_lit _ _ _ (by decide)) y

theorem out6 (y : S1024x512.Idx) : out0_6 w a b m v y = k0_pay3 (k0_pay6 w a b m v) (k0_pay5 w) m v y := by
  unfold out0_6
  rw [load_at, load_at, load_at]
  exact congrFun (View.canon_cons_unit_lit _ _ _ (by decide)) y

theorem out7 (y : S1024x512.Idx) : out0_7 w a b m v y = k0_pay1 (k0_pay6 w a b m v) m y := by
  unfold out0_7
  rw [load_at]
  exact congrFun (View.canon_cons_unit_lit _ _ _ (by decide)) y

theorem out8 (y : S1024x512.Idx) : out0_8 w a b m v y = k0_pay2 (k0_pay6 w a b m v) v y := by
  unfold out0_8
  rw [load_at]
  exact congrFun (View.canon_cons_unit_lit _ _ _ (by decide)) y
end

/-! ## The blocks of a point -/

variable (m : (ℓ : Loc nD τ sig) → Buf (Elt Ideal) ℓ) (c : Dev nD)

theorem idx : ∀ t : Fin cfg0.N, win0_0.index t = ![0, t.val] ∧ win0_1.index t = ![0, 0, t.val] ∧ win0_2.index t = ![0, 0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- Column `j` of point `t`'s block. -/
def col (t : Fin cfg0.N) (j : Fin 512) : Fin 1024 := ⟨t.val * 512 + j.val, by have := t.isLt; have : cfg0.N = 2 := rfl; omega⟩

theorem flat_at (x : FVec Ideal S1x1024x1024 .f32) (k : Fin 1024) (j : Fin 1024) :
    shapeCast S1024x1024 x shapeCasts_S1x1024x1024_S1024x1024 (ix2 k j) = x (ix3 0 k j) := by
  pointwise

theorem entry0 : V m c main_v0 = shapeCast S1024x1024 (m ((c : Thread nD τ).loc main_arg0)) shapeCasts_S1x1024x1024_S1024x1024 := by sl_kernel_rfl
theorem entry1 : V m c main_v1 = (truncf .bf16 (m ((c : Thread nD τ).loc main_arg1) : FVec Ideal S4x1024x1024 .f32) bitsLt_bf16_f32 : FVec Ideal S4x1024x1024 .bf16) := by sl_kernel_rfl
theorem entry2 : V m c main_v2 = (truncf .bf16 (m ((c : Thread nD τ).loc main_arg2) : FVec Ideal S4x1024x1024 .f32) bitsLt_bf16_f32 : FVec Ideal S4x1024x1024 .bf16) := by sl_kernel_rfl
theorem entry3 : V m c main_v3 = shapeCast S1024x1024 (m ((c : Thread nD τ).loc main_arg3)) shapeCasts_S1x1024x1024_S1024x1024 := by sl_kernel_rfl
theorem entry4 : V m c main_v4 = shapeCast S1024x1024 (m ((c : Thread nD τ).loc main_arg4)) shapeCasts_S1x1024x1024_S1024x1024 := by sl_kernel_rfl

theorem w_at (t : Fin cfg0.N) (k : Fin 1024) (j : Fin 512) : iblk m c 0 t (ix2 k j) = m ((c : Thread nD τ).loc main_arg0) (ix3 0 k (col t j)) := by
  refine Eq.trans ?_ ((congrFun (entry0 m c) (ix2 k (col t j))).trans (flat_at _ k _))
  refine congrArg (V m c main_v0) ?_
  blk_ext [col, idx t]

theorem mine_at (t : Fin cfg0.N) (p : Fin 4) (k : Fin 1024) (j : Fin 512) : iblk m c 1 t (ix3 p k j) = m ((c : Thread nD τ).loc main_arg1) (ix3 p k (col t j)) := by
  refine Eq.trans ?_ (congrFun (entry1 m c) (ix3 p k (col t j)))
  refine congrArg (V m c main_v1) ?_
  blk_ext [col, idx t]

theorem theirs_at (t : Fin cfg0.N) (p : Fin 4) (k : Fin 1024) (j : Fin 512) : iblk m c 2 t (ix3 p k j) = m ((c : Thread nD τ).loc main_arg2) (ix3 p k (col t j)) := by
  refine Eq.trans ?_ (congrFun (entry2 m c) (ix3 p k (col t j)))
  refine congrArg (V m c main_v2) ?_
  blk_ext [col, idx t]

theorem m_at (t : Fin cfg0.N) (k : Fin 1024) (j : Fin 512) : iblk m c 3 t (ix2 k j) = m ((c : Thread nD τ).loc main_arg3) (ix3 0 k (col t j)) := by
  refine Eq.trans ?_ ((congrFun (entry3 m c) (ix2 k (col t j))).trans (flat_at _ k _))
  refine congrArg (V m c main_v3) ?_
  blk_ext [col, idx t]

theorem v_at (t : Fin cfg0.N) (k : Fin 1024) (j : Fin 512) : iblk m c 4 t (ix2 k j) = m ((c : Thread nD τ).loc main_arg4) (ix3 0 k (col t j)) := by
  refine Eq.trans ?_ ((congrFun (entry4 m c) (ix2 k (col t j))).trans (flat_at _ k _))
  refine congrArg (V m c main_v4) ?_
  blk_ext [col, idx t]

/-! ## The arrays -/

/-- The summed gradient at weight `(k, j)`, of the arguments. -/
abbrev gradOf (k : Fin 1024) (j : Fin 1024) : EReal :=
  total (fun p => m ((c : Thread nD τ).loc main_arg1) (ix3 p k j)) (fun p => m ((c : Thread nD τ).loc main_arg2) (ix3 p k j))

theorem block_grad (t : Fin cfg0.N) (k : Fin 1024) (j : Fin 512) :
    k0_pay6 (iblk m c 0 t) (iblk m c 1 t) (iblk m c 2 t) (iblk m c 3 t) (iblk m c 4 t) (ix2 k j) = gradOf m c k (col t j) := by
  refine (total_at _ _ _ _ _ k j).trans ?_
  unfold gradOf
  congr 1
  · funext p; exact mine_at m c t p k j
  · funext p; exact theirs_at m c t p k j

theorem split (y : S1024x512.Idx) : ∃ (k : Fin 1024) (j : Fin 512), y = ix2 k j := ⟨y 0, y 1, by funext a; match a with | ⟨0, _⟩ => rfl | ⟨1, _⟩ => rfl⟩

theorem grad_eq (G : FVec Ideal S1024x1024 .f32) (hG : ∀ k j, G (ix2 k j) = gradOf m c k j) : (dats m 0 c).arrAt 5 cfg0.N = G := by
  refine (dats m 0 c).arrAt_eq_of_covers 5 G (by decide +kernel) fun t hf y => ?_
  blk_simp
  rw [after0_5]
  obtain ⟨k, j, rfl⟩ := split y
  have e := block_grad m c t k j
  rw [← hG] at e
  refine (out5 _ _ _ _ _ _).trans (Eq.trans e (congrArg G ?_))
  blk_ext [col, idx t]

theorem change_eq (G : FVec Ideal S1024x1024 .f32) (hG : ∀ k j, G (ix2 k j) = change (gradOf m c k j) (m ((c : Thread nD τ).loc main_arg0) (ix3 0 k j))
    (m ((c : Thread nD τ).loc main_arg3) (ix3 0 k j)) (m ((c : Thread nD τ).loc main_arg4) (ix3 0 k j))) : (dats m 0 c).arrAt 6 cfg0.N = G := by
  refine (dats m 0 c).arrAt_eq_of_covers 6 G (by decide +kernel) fun t hf y => ?_
  blk_simp
  rw [after0_6]
  obtain ⟨k, j, rfl⟩ := split y
  have e := change_at (k0_pay6 (iblk m c 0 t) (iblk m c 1 t) (iblk m c 2 t) (iblk m c 3 t) (iblk m c 4 t)) (iblk m c 0 t) (iblk m c 3 t) (iblk m c 4 t) k j
  rw [block_grad, w_at, m_at, v_at, ← hG] at e
  refine (out6 _ _ _ _ _ _).trans (Eq.trans e (congrArg G ?_))
  blk_ext [col, idx t]

theorem first_eq (G : FVec Ideal S1024x1024 .f32) (hG : ∀ k j, G (ix2 k j) = first (gradOf m c k j) (m ((c : Thread nD τ).loc main_arg3) (ix3 0 k j))) :
    (dats m 0 c).arrAt 7 cfg0.N = G := by
  refine (dats m 0 c).arrAt_eq_of_covers 7 G (by decide +kernel) fun t hf y => ?_
  blk_simp
  rw [after0_7]
  obtain ⟨k, j, rfl⟩ := split y
  have e := first_at (k0_pay6 (iblk m c 0 t) (iblk m c 1 t) (iblk m c 2 t) (iblk m c 3 t) (iblk m c 4 t)) (iblk m c 3 t) k j
  rw [block_grad, m_at, ← hG] at e
  refine (out7 _ _ _ _ _ _).trans (Eq.trans e (congrArg G ?_))
  blk_ext [col, idx t]

theorem second_eq (G : FVec Ideal S1024x1024 .f32) (hG : ∀ k j, G (ix2 k j) = second (gradOf m c k j) (m ((c : Thread nD τ).loc main_arg4) (ix3 0 k j))) :
    (dats m 0 c).arrAt 8 cfg0.N = G := by
  refine (dats m 0 c).arrAt_eq_of_covers 8 G (by decide +kernel) fun t hf y => ?_
  blk_simp
  rw [after0_8]
  obtain ⟨k, j, rfl⟩ := split y
  have e := second_at (k0_pay6 (iblk m c 0 t) (iblk m c 1 t) (iblk m c 2 t) (iblk m c 3 t) (iblk m c 4 t)) (iblk m c 4 t) k j
  rw [block_grad, v_at, ← hG] at e
  refine (out8 _ _ _ _ _ _).trans (Eq.trans e (congrArg G ?_))
  blk_ext [col, idx t]

/-- The run, with the four arrays named and the arguments as launched. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_v5_2) = (dats m 0 c).arrAt 7 cfg0.N
      ∧ r.2.mem ((c : Thread nD τ).loc main_v5_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 5, (h.1 c).1 6, (h.1 c).1 7, (h.1 c).1 8, h.2 c⟩)
    (θ_run_and (run_main m ρ) (unchanged m ρ))

end Cert.Kernel6Ideal.Values
-- ==== Proof.AdamAgree.lean ====
import proofs.«01_k».proof.Defs
import proofs.«01_k».proof.Proof.AdamKernel
import proofs.«01_k».proof.Proof.Gen.Reference6Ideal.Run
import proofs.«01_k».proof.Proof.Gen.Reference6Ideal.Read
import Idealize.ShloMosaic.Lib.Claim
import Idealize.ShloMosaic.Lib.Quiescent
import Idealize.ShloMosaic.Adequacy
import Idealize.ShloMosaic.Init

/-! One device's block of the second weight: the kernel and the reference leave the same summed gradient, change and moments. -/

set_option maxRecDepth 16384

noncomputable section

namespace Cert.Reference6Ideal.Values

open Idealize.ShloMosaic Idealize.ShloMosaic.TcCoe Idealize.SL.Sem
open Cert.Reference6Ideal Cert.Reference6Ideal.Gen Cert.Reference6Ideal.Value Cert.Reference6Ideal.Read Cert.Ada
open Cert.Kernel6Ideal.Values (total)

variable (w : FVec Ideal S1x1024x1024 .f32) (a b : FVec Ideal S4x1024x1024 .f32) (m v : FVec Ideal S1x1024x1024 .f32) (k j : Fin 1024)

theorem stack_low (p : Fin 4) : val_main_v0 (F := Ideal) a b (ix3 (⟨p.val, by omega⟩ : Fin 8) k j) = a (ix3 p k j) := by
  pointwise [val_main_v0]

theorem stack_high (p : Fin 4) : val_main_v0 (F := Ideal) a b (ix3 (⟨4 + p.val, by omega⟩ : Fin 8) k j) = b (ix3 p k j) := by
  pointwise [val_main_v0]

theorem sum_at : val_main_v1 (F := Ideal) a b (ix2 k j) = total (fun p => a (ix3 p k j)) (fun p => b (ix3 p k j)) := by
  rw [val_main_v1_apply]
  have z : val_main_cst (F := Ideal) (Shape.Idx.first h_S_) = 0 := by rw [val_main_cst_apply]; exact Ideal.ofBits_zero .f32
  rw [z, zero_add]
  unfold total
  refine (Fin.sum_univ_add (a := 4) (b := 4) fun q : Fin 8 => val_main_v0 (F := Ideal) a b (idx_main_v1 (ix2 k j) q)).trans ?_
  congr 1
  · exact Finset.sum_congr rfl fun p _ => (congrArg (val_main_v0 (F := Ideal) a b) (by funext x; match x with | ⟨0, _⟩ => rfl | ⟨1, _⟩ => rfl | ⟨2, _⟩ => rfl)).trans (stack_low a b k j p)
  · exact Finset.sum_congr rfl fun p _ => (congrArg (val_main_v0 (F := Ideal) a b) (by funext x; match x with | ⟨0, _⟩ => rfl | ⟨1, _⟩ => rfl | ⟨2, _⟩ => rfl)).trans (stack_high a b k j p)

theorem grad_at : val_main_v2 (F := Ideal) a b (ix3 0 k j) = total (fun p => a (ix3 p k j)) (fun p => b (ix3 p k j)) := by
  pointwise [val_main_v2, sum_at]

theorem grad_result : val_main_v27 (F := Ideal) a b (ix2 k j) = total (fun p => a (ix3 p k j)) (fun p => b (ix3 p k j)) := by
  pointwise [val_main_v27, grad_at]

theorem first_at : val_main_v7 (F := Ideal) a b m (ix3 0 k j) = first (total (fun p => a (ix3 p k j)) (fun p => b (ix3 p k j))) (m (ix3 0 k j)) := by
  pointwise [val_main_v7, val_main_v6, val_main_v5, val_main_v4, val_main_v3, val_main_cst_0, val_main_cst_1, grad_at]
  rfl

theorem first_result : val_main_v29 (F := Ideal) a b m (ix2 k j) = first (total (fun p => a (ix3 p k j)) (fun p => b (ix3 p k j))) (m (ix3 0 k j)) := by
  pointwise [val_main_v29, first_at]

theorem second_at : val_main_v13 (F := Ideal) a b v (ix3 0 k j) = second (total (fun p => a (ix3 p k j)) (fun p => b (ix3 p k j))) (v (ix3 0 k j)) := by
  pointwise [val_main_v13, val_main_v12, val_main_v11, val_main_v10, val_main_v9, val_main_v8, val_main_cst_2, val_main_cst_3, grad_at]
  rfl

theorem second_result : val_main_v30 (F := Ideal) a b v (ix2 k j) = second (total (fun p => a (ix3 p k j)) (fun p => b (ix3 p k j))) (v (ix3 0 k j)) := by
  pointwise [val_main_v30, second_at]

theorem change_result : val_main_v28 (F := Ideal) w a b m v (ix2 k j)
    = change (total (fun p => a (ix3 p k j)) (fun p => b (ix3 p k j))) (w (ix3 0 k j)) (m (ix3 0 k j)) (v (ix3 0 k j)) := by
  pointwise [val_main_v28, val_main_v26, val_main_v25, val_main_v24, val_main_v23, val_main_v22, val_main_v21, val_main_v20, val_main_v19, val_main_v18, val_main_v17, val_main_v16, val_main_v15, val_main_v14,
    val_main_cst_4, val_main_cst_5, val_main_cst_6, val_main_cst_7, val_main_cst_8, first_at, second_at]
  rfl

end Cert.Reference6Ideal.Values

namespace Cert.AdamProof

open Idealize.ShloMosaic Idealize.ShloMosaic.TcCoe Idealize.SL.Sem

/-- The reference ends, with its arguments as they were and no semaphore raised. -/
theorem reference_frame : Cert.quiescent_Reference6Ideal := fun m g _ =>
  (θ_run (Cert.Reference6Ideal.defs (F := Ideal)) _ _).mono (fun r h => ⟨fun c => (h c).2.2.2.2, sem_eq_zero_of_no_sems rfl r.2⟩)
    (Cert.Reference6Ideal.Value.run m g)

/-- On any arguments the four results of the two programs agree. -/
theorem algebraic : Cert.algebraic_Kernel6Ideal_Reference6Ideal := by
  pair_intro
  · run_from Cert.Kernel6Ideal.Values.run m g
  · run_from Cert.Reference6Ideal.Value.run m' g'
    · obtain ⟨h0, h1, h2, h3, h4⟩ := hagree c
      rw [Cert.Reference6Ideal.Read.val_main_v27_eq, h1, h2]
      exact (Cert.Kernel6Ideal.Values.grad_eq m c _ fun k j => Cert.Reference6Ideal.Values.grad_result _ _ k j).symm
    · obtain ⟨h0, h1, h2, h3, h4⟩ := hagree c
      refine (Cert.Reference6Ideal.Read.val_main_v28_eq (m ((c : Thread Cert.Kernel6Ideal.nD Cert.Kernel6Ideal.τ).loc Cert.Kernel6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4))).trans ?_
      rw [h1, h2]
      exact (Cert.Kernel6Ideal.Values.change_eq m c _ fun k j => Cert.Reference6Ideal.Values.change_result _ _ _ _ _ k j).symm
    · obtain ⟨h0, h1, h2, h3, h4⟩ := hagree c
      refine (Cert.Reference6Ideal.Read.val_main_v29_eq (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m ((c : Thread Cert.Kernel6Ideal.nD Cert.Kernel6Ideal.τ).loc Cert.Kernel6Ideal.main_arg3))).trans ?_
      rw [h1, h2]
      exact (Cert.Kernel6Ideal.Values.first_eq m c _ fun k j => Cert.Reference6Ideal.Values.first_result _ _ _ k j).symm
    · obtain ⟨h0, h1, h2, h3, h4⟩ := hagree c
      refine (Cert.Reference6Ideal.Read.val_main_v30_eq (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m ((c : Thread Cert.Kernel6Ideal.nD Cert.Kernel6Ideal.τ).loc Cert.Kernel6Ideal.main_arg4))).trans ?_
      rw [h1, h2]
      exact (Cert.Kernel6Ideal.Values.second_eq m c _ fun k j => Cert.Reference6Ideal.Values.second_result _ _ _ k j).symm

end Cert.AdamProof
-- ==== Proof.PackSum.lean ====
import proofs.«01_k».proof.Proof.Proj

/-! The packed columns without a scale, and their sums over the tokens. -/

set_option maxRecDepth 16384

noncomputable section

namespace Cert.Proj

open Idealize.ShloMosaic

/-- The packing by five parts, none of them scaled. -/
theorem pack_parts (f : Fin 3600 → EReal) (j : Fin 4224) :
    (if h : j.val < 2048 then f ⟨j.val, by omega⟩
    else if h : j.val - 2048 < 512 then
      (if h1 : (j.val - 2048) % 128 < 64 then f ⟨2048 + ((j.val - 2048) / 128 * 64 + (j.val - 2048) % 128), by omega⟩ else 0)
    else if h : j.val - 2048 - 512 < 512 then
      (if h1 : (j.val - 2048 - 512) % 128 < 64 then f ⟨2304 + ((j.val - 2048 - 512) / 128 * 64 + (j.val - 2048 - 512) % 128), by omega⟩ else 0)
    else if h : j.val - 2048 - 512 - 512 < 1024 then f ⟨2560 + (j.val - 2048 - 512 - 512), by omega⟩
    else if h : j.val - 2048 - 512 - 512 - 1024 < 16 then f ⟨3584 + (j.val - 2048 - 512 - 512 - 1024), by omega⟩ else 0)
      = pack f j := by
  have hj := j.isLt
  unfold pack
  simp only [Nat.sub_sub, Nat.reduceAdd]
  by_cases h1 : j.val < 2048
  · rw [dif_pos h1, dif_pos h1]
  rw [dif_neg h1, dif_neg h1]
  by_cases h2 : j.val < 2560
  · rw [dif_pos (by omega), dif_pos h2]
  rw [dif_neg (by omega), dif_neg h2]
  by_cases h3 : j.val < 3072
  · rw [dif_pos (by omega), dif_pos h3]
  rw [dif_neg (by omega), dif_neg h3]
  by_cases h4 : j.val < 4096
  · rw [dif_pos (by omega), dif_pos h4]
  rw [dif_neg (by omega), dif_neg h4]

/-- The packing by nine parts, none of them scaled. -/
theorem pack_slices (f : Fin 3600 → EReal) (j : Fin 4224) :
    (if h : j.val < 512 then f ⟨j.val, by omega⟩
    else if h : j.val - 512 < 512 then f ⟨512 + (j.val - 512), by omega⟩
    else if h : j.val - 512 - 512 < 512 then f ⟨1024 + (j.val - 512 - 512), by omega⟩
    else if h : j.val - 512 - 512 - 512 < 512 then f ⟨1536 + (j.val - 512 - 512 - 512), by omega⟩
    else if h : j.val - 512 - 512 - 512 - 512 < 512 then
      (if h1 : (j.val - 512 - 512 - 512 - 512) % 128 < 64 then
        f ⟨2048 + ((j.val - 512 - 512 - 512 - 512) / 128 * 64 + (j.val - 512 - 512 - 512 - 512) % 128), by omega⟩ else 0)
    else if h : j.val - 512 - 512 - 512 - 512 - 512 < 512 then
      (if h1 : (j.val - 512 - 512 - 512 - 512 - 512) % 128 < 64 then
        f ⟨2304 + ((j.val - 512 - 512 - 512 - 512 - 512) / 128 * 64 + (j.val - 512 - 512 - 512 - 512 - 512) % 128), by omega⟩ else 0)
    else if h : j.val - 512 - 512 - 512 - 512 - 512 - 512 < 512 then f ⟨2560 + (j.val - 512 - 512 - 512 - 512 - 512 - 512), by omega⟩
    else if h : j.val - 512 - 512 - 512 - 512 - 512 - 512 - 512 < 512 then f ⟨3072 + (j.val - 512 - 512 - 512 - 512 - 512 - 512 - 512), by omega⟩
    else if h : j.val - 512 - 512 - 512 - 512 - 512 - 512 - 512 - 512 < 16 then
      f ⟨3584 + (j.val - 512 - 512 - 512 - 512 - 512 - 512 - 512 - 512), by omega⟩ else 0)
      = pack f j := by
  have hj := j.isLt
  have e : ∀ (a b : ℕ) (ha : a < 3600) (hb : b < 3600), a = b → f ⟨a, ha⟩ = f ⟨b, hb⟩ := fun a b ha hb h => by
    subst h
    rfl
  rw [← pack_parts]
  simp only [Nat.sub_sub, Nat.reduceAdd]
  by_cases h1 : j.val < 2048
  · rw [dif_pos h1]
    by_cases a1 : j.val < 512
    · rw [dif_pos a1]
    rw [dif_neg a1]
    by_cases a2 : j.val < 1024
    · rw [dif_pos (by omega)]
      exact e _ _ _ _ (by omega)
    rw [dif_neg (by omega)]
    by_cases a3 : j.val < 1536
    · rw [dif_pos (by omega)]
      exact e _ _ _ _ (by omega)
    rw [dif_neg (by omega), dif_pos (by omega)]
    exact e _ _ _ _ (by omega)
  rw [dif_neg (by omega), dif_neg (by omega), dif_neg (by omega), dif_neg (by omega), dif_neg h1]
  by_cases h2 : j.val - 2048 < 512
  · rw [dif_pos h2, dif_pos h2]
  rw [dif_neg h2, dif_neg h2]
  by_cases h3 : j.val - 2560 < 512
  · rw [dif_pos h3, dif_pos h3]
  rw [dif_neg h3, dif_neg h3]
  by_cases h4 : j.val - 3072 < 1024
  · rw [dif_pos h4]
    by_cases a1 : j.val - 3072 < 512
    · rw [dif_pos a1]
    rw [dif_neg a1, dif_pos (by omega)]
    exact e _ _ _ _ (by omega)
  rw [dif_neg (by omega), dif_neg (by omega), dif_neg h4]

/-- A sum of packed entries is the packed sum. -/
theorem pack_sum (g : Fin 8192 → Fin 3600 → EReal) (u : Fin 8192 → EReal) (j : Fin 4224) :
    ∑ l, pack (g l) j * u l = pack (fun q => ∑ l, g l q * u l) j := by
  unfold pack
  split_ifs
  all_goals first | rfl | simp only [zero_mul, Finset.sum_const_zero]

end Cert.Proj
-- ==== Proof.InGradKernel.lean ====
import proofs.«01_k».proof.Proof.Gen.Kernel7Ideal.Value
import proofs.«01_k».proof.Proof.PackSum
import Idealize.ShloMosaic.Lib.Pipeline.ReadBack
import Idealize.ShloMosaic.Lib.Pipeline.ValueKit

/-! The gradient of the input projection: each block of padded rows the kernel leaves is the sum over all tokens. -/

set_option maxRecDepth 16384

noncomputable section

namespace Cert.Kernel7Ideal.Values

open Idealize.ShloMosaic Idealize.ShloMosaic.TcCoe Idealize.SL.Sem
open Cert.Kernel7Ideal Cert.Kernel7Ideal.Gen

/-! ## The packed columns -/

/-- A zero of the padding. -/
def padZero : FVec Ideal S_ .f32 := sitofp .f32 (constantI S_ 32 0#32)

def headCols (d : FVec Ideal S8192x256 .f32) : FVec Ideal S8192x512 .f32 :=
  shapeCast S8192x512 (pad S8192x4x128 ![0, 0, 0] ![0, 0, 64] ![0, 0, 0] (shapeCast S8192x4x64 d shapeCasts_S8192x256_S8192x4x64)
    padZero pads_S8192x4x64_S8192x4x128_000_000_0640 h_S_) shapeCasts_S8192x4x128_S8192x512

def colsGate (d : FVec Ideal S8192x3600 .f32) : FVec Ideal S8192x128 .f32 :=
  pad S8192x128 ![0, 0] ![0, 112] ![0, 0] (extractStridedSlice S8192x16 ![0, 3584] d slices_S8192x3600_S8192x16_0_3584) padZero pads_S8192x16_S8192x128_000_01120 h_S_

def packCols (d : FVec Ideal S8192x3600 .f32) : FVec Ideal S8192x4224 .f32 :=
  concatenate S8192x4224 1 [⟨S8192x2048, extractStridedSlice S8192x2048 ![0, 0] d slices_S8192x3600_S8192x2048_0_0⟩,
    ⟨S8192x512, headCols (extractStridedSlice S8192x256 ![0, 2048] d slices_S8192x3600_S8192x256_0_2048)⟩,
    ⟨S8192x512, headCols (extractStridedSlice S8192x256 ![0, 2304] d slices_S8192x3600_S8192x256_0_2304)⟩,
    ⟨S8192x1024, extractStridedSlice S8192x1024 ![0, 2560] d slices_S8192x3600_S8192x1024_0_2560⟩,
    ⟨S8192x128, colsGate d⟩] concatenates_S8192x2048_S8192x512_S8192x512_S8192x1024_S8192x128_S8192x4224_d1

theorem padZero_at (i : S_.Idx) : padZero i = (0 : EReal) := by
  show (((0#32 : BitVec 32).toInt : ℝ) : EReal) = 0
  simp

theorem headCols_at (x : FVec Ideal S8192x256 .f32) (t : Fin 8192) (j : Fin 512) :
    headCols x (ix2 t j) = if h : j.val % 128 < 64 then x (ix2 t (⟨j.val / 128 * 64 + j.val % 128, by omega⟩ : Fin 256)) else (0 : EReal) := by
  pointwise [headCols]
  rw [padZero_at]
  by_cases h : j.val % 128 < 64
  · rw [dif_pos h, dif_pos ⟨by omega, h⟩]
  · rw [dif_neg h, dif_neg (fun e => h e.2)]

theorem colsGate_at (x : FVec Ideal S8192x3600 .f32) (t : Fin 8192) (j : Fin 128) :
    colsGate x (ix2 t j) = if h : j.val < 16 then x (ix2 t (⟨3584 + j.val, by omega⟩ : Fin 3600)) else (0 : EReal) := by
  pointwise [colsGate]
  rw [padZero_at]

theorem packCols_at (x : FVec Ideal S8192x3600 .f32) (t : Fin 8192) (j : Fin 4224) :
    packCols x (ix2 t j) = Cert.Proj.pack (fun q => x (ix2 t q)) j := by
  pointwise [packCols, headCols_at, colsGate_at]
  exact Cert.Proj.pack_parts (fun q => x (ix2 t q)) j

/-! ## One block -/

theorem zero_at (r : Fin 1408) (d : Fin 1024) : k0_pay1 (F := Ideal) (ix2 r d) = 0 := by
  pointwise [k0_pay1]

theorem add_at (acc : Vec Ideal S1408x1024 .f32) (a : Vec Ideal S2048x1408 .bf16) (b : Vec Ideal S2048x1024 .bf16) (r : Fin 1408) (d : Fin 1024) :
    k0_pay2 acc a b (ix2 r d) = acc (ix2 r d) + ∑ k : Fin 2048, a (ix2 k r) * b (ix2 k d) := by
  pointwise [k0_pay2]

theorem cast_at (v : Vec Ideal S1408x1024 .f32) (r : Fin 1408) (d : Fin 1024) : k0_pay3 v (ix2 r d) = v (ix2 r d) := by
  pointwise [k0_pay3]

/-! ## The blocks of a point -/

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem points (t : Fin cfg0.N) : t.val < 12 := t.isLt

/-- Token `k` of point `t`'s tile. -/
def tok (t : Fin cfg0.N) (k : Fin 2048) : Fin 8192 := ⟨t.val % 4 * 2048 + k.val, by omega⟩

/-- Row `r` of the block of rows that point `t` works on. -/
def rowOf (t : Fin cfg0.N) (r : Fin 1408) : Fin 4224 := ⟨t.val / 4 * 1408 + r.val, by have := points t; omega⟩

/-- The gradient of the projection's columns. -/
abbrev cols : FVec Ideal S8192x3600 .f32 := m ((c : Thread nD τ).loc main_arg0)

/-- The same, packed. -/
abbrev act : FVec Ideal S8192x4224 .f32 := packCols (cols m c)

/-- The normalised tokens. -/
abbrev df : FVec Ideal S8192x1024 .f32 := m ((c : Thread nD τ).loc main_arg1)

/-- Point `t`'s tile of the packed columns. -/
abbrev actTile (t : Fin cfg0.N) : Vec Ideal S2048x1408 .bf16 := iblk m c 0 t

/-- Point `t`'s tile of the tokens. -/
abbrev dfTile (t : Fin cfg0.N) : Vec Ideal S2048x1024 .bf16 := iblk m c 1 t

theorem entry13 : V m c main_v13 = (truncf .bf16 (act m c) bitsLt_bf16_f32 : FVec Ideal S8192x4224 .bf16) := by sl_kernel_rfl
theorem entry14 : V m c main_v14 = (truncf .bf16 (df m c) bitsLt_bf16_f32 : FVec Ideal S8192x1024 .bf16) := by sl_kernel_rfl

theorem act_at (t : Fin cfg0.N) (k : Fin 2048) (r : Fin 1408) : actTile m c t (ix2 k r) = act m c (ix2 (tok t k) (rowOf t r)) := by
  refine Eq.trans ?_ (congrFun (entry13 m c) (ix2 (tok t k) (rowOf t r)))
  refine congrArg (V m c main_v13) ?_
  blk_ext [tok, rowOf, idx t]

theorem df_at (t : Fin cfg0.N) (k : Fin 2048) (d : Fin 1024) : dfTile m c t (ix2 k d) = df m c (ix2 (tok t k) d) := by
  refine Eq.trans ?_ (congrFun (entry14 m c) (ix2 (tok t k) d))
  refine congrArg (V m c main_v14) ?_
  blk_ext [tok, idx t]

/-! ## The running sum -/

/-- What point `t` adds. -/
def term (t : Fin cfg0.N) (i : Fin 1408 × Fin 1024) : EReal := ∑ k : Fin 2048, actTile m c t (ix2 k i.1) * dfTile m c t (ix2 k i.2)

theorem sum_reset (t : Fin cfg0.N) (h : t.val % 4 = 0) (i : Fin 1408 × Fin 1024) : (outsAt0 m c t.val t.isLt).2 (ix2 i.1 i.2) = 0 + term m c t i := by
  rw [outsAt0_A m c t h (by omega)]
  frame_out
  refine (add_at _ _ _ _ _).trans ?_
  rw [zero_at]
  rfl

theorem sum_step (t : Fin cfg0.N) (h : ¬t.val % 4 = 0) (i : Fin 1408 × Fin 1024) :
    (outsAt0 m c t.val t.isLt).2 (ix2 i.1 i.2) = (outsAt0 m c (t.val - 1) (by have := t.isLt; omega)).2 (ix2 i.1 i.2) + term m c t i := by
  by_cases h3 : t.val % 4 = 3
  · rw [outsAt0_C m c t h h3]
    frame_out
    refine (add_at _ _ _ _ _).trans (congrArg (· + term m c t i) ?_)
    exact congrFun (Memref.IsWhole.read_unread _ _) _
  · rw [outsAt0_B m c t h h3]
    frame_out
    refine (add_at _ _ _ _ _).trans (congrArg (· + term m c t i) ?_)
    exact congrFun (Memref.IsWhole.read_unread _ _) _

/-- The last point of a block hands out the running sum. -/
theorem out_last (t : Fin cfg0.N) (h : t.val % 4 = 3) (r : Fin 1408) (d : Fin 1024) :
    (outsAt0 m c t.val t.isLt).1 (ix2 r d) = (outsAt0 m c t.val t.isLt).2 (ix2 r d) := by
  rw [outsAt0_C m c t (by omega) h]
  frame_out
  exact cast_at _ _ _

theorem sum_last (t : Fin cfg0.N) (h : t.val % 4 = 3) (r : Fin 1408) (d : Fin 1024) : (outsAt0 m c t.val t.isLt).2 (ix2 r d)
    = ∑ l : Fin 8192, act m c (ix2 l (rowOf t r)) * df m c (ix2 l d) := by
  have e := Pipeline.eq_sum_fin_of_reset_step_apply_of_flush (fun n h => fun i : Fin 1408 × Fin 1024 => ((outsAt0 m c n h).2 (ix2 i.1 i.2) : EReal)) 4 (fun _ => 0)
    (term m c) (fun t h i => sum_reset m c t h i) (fun t h i => sum_step m c t h i) t h (r, d)
  refine e.trans ?_
  rw [zero_add]
  refine Eq.trans ?_ (Fin.sum_mul_add_fin (n := 2048) (S := 4) fun l : Fin 8192 => act m c (ix2 l (rowOf t r)) * df m c (ix2 l d))
  refine Finset.sum_congr rfl fun s _ => Finset.sum_congr rfl fun k _ => ?_
  have hs := s.isLt
  have ht := points t
  rw [act_at, df_at]
  have e1 : ∀ h, tok (⟨4 * (t.val / 4) + s.val, h⟩ : Fin cfg0.N) k = ⟨s.val * 2048 + k.val, by omega⟩ := fun h => Fin.ext (by show (4 * (t.val / 4) + s.val) % 4 * 2048 + k.val = s.val * 2048 + k.val; omega)
  have e2 : ∀ h, rowOf (⟨4 * (t.val / 4) + s.val, h⟩ : Fin cfg0.N) r = rowOf t r := fun h => Fin.ext (by show (4 * (t.val / 4) + s.val) / 4 * 1408 + r.val = t.val / 4 * 1408 + r.val; omega)
  rw [e1, e2]

/-! ## The array -/

theorem split (y : S1408x1024.Idx) : ∃ (r : Fin 1408) (d : Fin 1024), y = ix2 r d :=
  ⟨y 0, y 1, by funext a; match a with | ⟨0, _⟩ => rfl | ⟨1, _⟩ => rfl⟩

theorem grad_eq (G : FVec Ideal S4224x1024 .bf16) (hG : ∀ (j : Fin 4224) (d : Fin 1024), G (ix2 j d)
    = ∑ l : Fin 8192, act m c (ix2 l j) * df m c (ix2 l d)) :
    (dats m 0 c).arrAt 2 cfg0.N = G := by
  refine (dats m 0 c).arrAt_eq_of_covers 2 G (by decide +kernel) fun t hf y => ?_
  have h3 : t.val % 4 = 3 := (flush0_2 t).mp hf
  have ht := points t
  blk_simp
  rw [after0_2]
  obtain ⟨r, d, rfl⟩ := split y
  refine ((out_last m c t h3 r d).trans (sum_last m c t h3 r d)).trans (Eq.trans (hG (rowOf t r) d).symm (congrArg G ?_))
  blk_ext [idx t, rowOf]

end Cert.Kernel7Ideal.Values
-- ==== Proof.InGradAgree.lean ====
import proofs.«01_k».proof.Defs
import proofs.«01_k».proof.Proof.InGradKernel
import proofs.«01_k».proof.Proof.Gen.Reference7Ideal.Run
import proofs.«01_k».proof.Proof.Gen.Reference7Ideal.Read
import Idealize.ShloMosaic.Lib.Claim
import Idealize.ShloMosaic.Lib.Quiescent
import Idealize.ShloMosaic.Adequacy
import Idealize.ShloMosaic.Init

/-! The gradient of the input projection: the kernel and the derivative leave the same padded rows. -/

set_option maxRecDepth 16384

noncomputable section

namespace Cert.Reference7Ideal.Values

open Idealize.ShloMosaic Idealize.ShloMosaic.TcCoe Idealize.SL.Sem
open Cert.Reference7Ideal Cert.Reference7Ideal.Gen Cert.Reference7Ideal.Value Cert.Reference7Ideal.Read Cert.Proj

variable (D : FVec Ideal S8192x3600 .f32) (u : FVec Ideal S8192x1024 .f32)

theorem dot_at (q : Fin 3600) (d : Fin 1024) : val_main_v5 (F := Ideal) D u (ix2 q d) = ∑ l : Fin 8192, D (ix2 l q) * u (ix2 l d) := by
  pointwise [val_main_v5, val_main_v4, val_main_v1]
  exact Fin.sum_univ_one _

theorem flat_at (d : Fin 1024) (q : Fin 3600) : val_main_v8 (F := Ideal) D u (ix2 d q) = ∑ l : Fin 8192, D (ix2 l q) * u (ix2 l d) := by
  pointwise [val_main_v8, val_main_v7, val_main_v6, dot_at]

theorem zero_at (i : S_.Idx) : val_main_call0_v0 (F := Ideal) i = (0 : EReal) := by
  show (((0#32 : BitVec 32).toInt : ℝ) : EReal) = 0
  simp
theorem zero_at' (i : S_.Idx) : val_main_call1_v0 (F := Ideal) i = (0 : EReal) := by
  show (((0#32 : BitVec 32).toInt : ℝ) : EReal) = 0
  simp
theorem zero_at'' (i : S_.Idx) : val_main_call2_v0 (F := Ideal) i = (0 : EReal) := by
  show (((0#32 : BitVec 32).toInt : ℝ) : EReal) = 0
  simp

theorem query_at (d : Fin 1024) (j : Fin 512) : val_main_v20 (F := Ideal) D u (ix2 d j)
    = if h : j.val % 128 < 64 then val_main_v8 (F := Ideal) D u (ix2 d (⟨2048 + (j.val / 128 * 64 + j.val % 128), by omega⟩ : Fin 3600)) else (0 : EReal) := by
  pointwise [val_main_v20, val_main_v19, val_main_v18, val_main_v13]
  by_cases h : j.val % 128 < 64
  · have e : j.val / 128 < 4 ∧ j.val % 128 < 64 := ⟨by omega, h⟩
    rw [dif_pos e, dif_pos h]
  · have e : ¬(j.val / 128 < 4 ∧ j.val % 128 < 64) := fun e => h e.2
    rw [dif_neg e, dif_neg h]
    exact zero_at _

theorem key_at (d : Fin 1024) (j : Fin 512) : val_main_v23 (F := Ideal) D u (ix2 d j)
    = if h : j.val % 128 < 64 then val_main_v8 (F := Ideal) D u (ix2 d (⟨2304 + (j.val / 128 * 64 + j.val % 128), by omega⟩ : Fin 3600)) else (0 : EReal) := by
  pointwise [val_main_v23, val_main_v22, val_main_v21, val_main_v14]
  by_cases h : j.val % 128 < 64
  · have e : j.val / 128 < 4 ∧ j.val % 128 < 64 := ⟨by omega, h⟩
    rw [dif_pos e, dif_pos h]
  · have e : ¬(j.val / 128 < 4 ∧ j.val % 128 < 64) := fun e => h e.2
    rw [dif_neg e, dif_neg h]
    exact zero_at' _

theorem gate_at (d : Fin 1024) (j : Fin 128) : val_main_v24 (F := Ideal) D u (ix2 d j)
    = if h : j.val < 16 then val_main_v8 (F := Ideal) D u (ix2 d (⟨3584 + j.val, by omega⟩ : Fin 3600)) else (0 : EReal) := by
  pointwise [val_main_v24, val_main_v17]
  by_cases h : j.val < 16
  · rw [dif_pos h, dif_pos h]
  · rw [dif_neg h, dif_neg h]
    exact zero_at'' _

theorem packed_at (j : Fin 4224) (d : Fin 1024) : val_main_v27 (F := Ideal) D u (ix2 j d)
    = pack (fun q => ∑ l : Fin 8192, D (ix2 l q) * u (ix2 l d)) j := by
  pointwise [val_main_v27, val_main_v26, val_main_v25, val_main_v9, val_main_v10, val_main_v11, val_main_v12, val_main_v15, val_main_v16, query_at, key_at, gate_at, flat_at]
  exact pack_slices (fun q => ∑ l : Fin 8192, D (ix2 l q) * u (ix2 l d)) j

end Cert.Reference7Ideal.Values

namespace Cert.InGradProof

open Idealize.ShloMosaic Idealize.ShloMosaic.TcCoe Idealize.SL.Sem

/-- The reference ends, with its arguments as they were and no semaphore raised. -/
theorem reference_frame : Cert.quiescent_Reference7Ideal := fun m g _ =>
  (θ_run (Cert.Reference7Ideal.defs (F := Ideal)) _ _).mono (fun r h => ⟨fun c => (h c).2, sem_eq_zero_of_no_sems rfl r.2⟩)
    (Cert.Reference7Ideal.Value.run m g)

/-- On any arguments the two programs leave the same padded rows. -/
theorem algebraic : Cert.algebraic_Kernel7Ideal_Reference7Ideal := by
  pair_intro
  · run_from Cert.Kernel7Ideal.Value.run_blocks m g
  · run_from Cert.Reference7Ideal.Value.run m' g'
    all_goals
      obtain ⟨h0, h1⟩ := hagree c
      refine (Cert.Reference7Ideal.Read.val_main_v27_eq m' c).trans ?_
      rw [h0, h1]
      exact (Cert.Kernel7Ideal.Values.grad_eq m c _ fun j d => (Cert.Reference7Ideal.Values.packed_at _ _ j d).trans
        ((Cert.Proj.pack_sum (fun l q => Cert.Kernel7Ideal.Values.cols m c (ix2 l q)) (fun l => Cert.Kernel7Ideal.Values.df m c (ix2 l d)) j).symm.trans
          (Finset.sum_congr rfl fun l _ => congrArg (· * Cert.Kernel7Ideal.Values.df m c (ix2 l d)) (Cert.Kernel7Ideal.Values.packCols_at _ l j).symm))).symm

end Cert.InGradProof
-- ==== Proof.lean ====
import proofs.«01_k».proof.Defs
import proofs.«01_k».proof.Proof.Gen.Kernel.Frame
import proofs.«01_k».proof.Proof.Gen.KernelIdeal.Frame
import proofs.«01_k».proof.Proof.Gen.KernelIdeal.Value
import proofs.«01_k».proof.Proof.Gen.ReferenceIdeal.Run
import proofs.«01_k».proof.Proof.Gen.ReferenceIdeal.Read
import proofs.«01_k».proof.Proof.Gen.Pre_finite
import proofs.«01_k».proof.Proof.Final
import proofs.«01_k».proof.Proof.Reference
import proofs.«01_k».proof.Proof.Finite
import proofs.«01_k».proof.Proof.Gen.Kernel2.Frame
import proofs.«01_k».proof.Proof.Gen.Kernel2Ideal.Frame
import proofs.«01_k».proof.Proof.Gen.Pre_finite2
import proofs.«01_k».proof.Proof.MlpAgree
import proofs.«01_k».proof.Proof.Gen.Kernel3.Frame
import proofs.«01_k».proof.Proof.AdaAgree
import proofs.«01_k».proof.Proof.Gen.Kernel4.Frame
import proofs.«01_k».proof.Proof.ProjAgree
import proofs.«01_k».proof.Proof.Gen.Kernel5.Frame
import proofs.«01_k».proof.Proof.GradAgree
import proofs.«01_k».proof.Proof.Gen.Kernel6.Frame
import proofs.«01_k».proof.Proof.AdamAgree
import proofs.«01_k».proof.Proof.Gen.Kernel7.Frame
import proofs.«01_k».proof.Proof.InGradAgree
import Idealize.ShloMosaic.Lib.Claim
import Idealize.ShloMosaic.Lib.Quiescent
import Idealize.ShloMosaic.Adequacy
import Idealize.ShloMosaic.Init

/-! The input projection's gradient: the kernel and the reference leave the same two arrays. With
the other calls, each proved in its own module, this is the whole statement. -/

set_option maxRecDepth 16384

noncomputable section

namespace Cert.Proof

open Idealize.ShloMosaic Idealize.ShloMosaic.TcCoe Idealize.SL.Sem Cert.Kernel Cert.Reals

/-- A product of the cotangent with the projection is real when both are. -/
theorem product_real (D : FVec Ideal S8192x3600 .f32) (w : FVec Ideal S1x1024x3600 .f32) (hD : ∀ i, ∃ r : ℝ, D i = (r : EReal)) (hw : ∀ i, ∃ r : ℝ, w i = (r : EReal))
    (t : Fin 8192) (d : Fin 1024) : ∃ u : ℝ, ∑ j : Fin 3600, D (ix2 t j) * scaled w d j = (u : EReal) := by
  choose E hE using hD
  choose v hv using hw
  refine ⟨∑ j : Fin 3600, E (ix2 t j) * (if 2048 ≤ j.val ∧ j.val < 2304 then v (ix3 0 d j) * (1 / 8) else v (ix3 0 d j)), ?_⟩
  rw [← coe_sum]
  refine Finset.sum_congr rfl fun j _ => ?_
  rw [hE, scaled, hv]
  by_cases h : 2048 ≤ j.val ∧ j.val < 2304
  · rw [if_pos h, if_pos h, ← EReal.coe_mul, ← EReal.coe_mul]
  · rw [if_neg h, if_neg h, ← EReal.coe_mul]

/-- The reference ends, with its arguments as they were and no semaphore raised. -/
theorem reference_frame : Cert.quiescent_ReferenceIdeal := fun m g _ =>
  (θ_run (Cert.ReferenceIdeal.defs (F := Ideal)) _ _).mono (fun r h => ⟨fun c => (h c).2.2, sem_eq_zero_of_no_sems rfl r.2⟩)
    (Cert.ReferenceIdeal.Value.run m g)

/-- Under finite arguments both results of the two programs agree. -/
theorem algebraic : Cert.algebraic_KernelIdeal_ReferenceIdeal_pre_finite := by
  pair_intro
  · run_from Cert.KernelIdeal.Value.run_blocks m g
  · run_from Cert.ReferenceIdeal.Value.run m' g'
    all_goals
      obtain ⟨h0, h1, h2, h3, h4⟩ := hagree c
      obtain ⟨hD, hx, hz, hw⟩ := Cert.Pre_finite.Values.reals _ _ _ _ _ (hpre c)
      choose x hx using hx
      choose z hz using hz
      choose U hU using product_real _ _ hD hw
    · rw [Cert.ReferenceIdeal.Read.val_main_v91_eq, h0, h1, h2, h3, h4]
      exact (Cert.KernelIdeal.Values.tokens_eq m c _ rfl _ rfl _ rfl (fun t d => x (ix3 0 t d)) U (fun t d => hx _) hU _ rfl _ rfl
        (fun d => z (ix2 0 (⟨1024 + d.val, by omega⟩ : Fin 6144))) (fun d => hz _) _
        (Cert.ReferenceIdeal.Values.gx_at _ _ _ _ _ _ (fun t d => hx _) U (fun t d => (Cert.ReferenceIdeal.Values.du _ _ t d).trans (hU t d)) _ (fun d => hz _))).symm
    · rw [Cert.ReferenceIdeal.Read.val_main_v93_eq, h0, h1, h4]
      exact (Cert.KernelIdeal.Values.sums_eq m c _ rfl _ rfl _ rfl (fun t d => x (ix3 0 t d)) U (fun t d => hx _) hU _
        (Cert.ReferenceIdeal.Values.sums_at _ _ _ _ (fun t d => hx _) U (fun t d => (Cert.ReferenceIdeal.Values.du _ _ t d).trans (hU t d)))).symm

/-- The whole statement. -/
theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts, Cert.Pre_finite2.Gen.facts,
    ?_, ?_, ?_, ?_, ?_, ?_, ?_, ?_, ?_, ?_, ?_, ?_, ?_, ?_, ?_, ?_, ?_, ?_, ?_, ?_, ?_, ?_, ?_, ?_, ?_, trivial, algebraic, trivial, Cert.MlpProof.algebraic, trivial, Cert.AdaProof.algebraic,
    trivial, Cert.ProjProof.algebraic, trivial, Cert.GradProof.algebraic, trivial, Cert.AdamProof.algebraic, trivial, Cert.InGradProof.algebraic⟩
  · exact fun m g _ => Cert.Kernel.Gen.frame m g
  · exact fun m g _ => Cert.KernelIdeal.Gen.frame m g
  · exact fun m g _ => Cert.KernelIdeal.Gen.frame m g
  · exact reference_frame
  · exact fun m g _ => reference_frame m g trivial
  · exact fun m g _ => Cert.Kernel2.Gen.frame m g
  · exact fun m g _ => Cert.Kernel2Ideal.Gen.frame m g
  · exact fun m g _ => Cert.Kernel2Ideal.Gen.frame m g
  · exact Cert.MlpProof.reference_frame
  · exact fun m g _ => Cert.MlpProof.reference_frame m g trivial
  · exact fun m g _ => Cert.Kernel3.Gen.frame m g
  · exact fun m g _ => Cert.Kernel3Ideal.Gen.frame m g
  · exact Cert.AdaProof.reference_frame
  · exact fun m g _ => Cert.Kernel4.Gen.frame m g
  · exact fun m g _ => Cert.Kernel4Ideal.Gen.frame m g
  · exact Cert.ProjProof.reference_frame
  · exact fun m g _ => Cert.Kernel5.Gen.frame m g
  · exact fun m g _ => Cert.Kernel5Ideal.Gen.frame m g
  · exact Cert.GradProof.reference_frame
  · exact fun m g _ => Cert.Kernel6.Gen.frame m g
  · exact fun m g _ => Cert.Kernel6Ideal.Gen.frame m g
  · exact Cert.AdamProof.reference_frame
  · exact fun m g _ => Cert.Kernel7.Gen.frame m g
  · exact fun m g _ => Cert.Kernel7Ideal.Gen.frame m g
  · exact Cert.InGradProof.reference_frame

end Cert.Proof
